-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_v21) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel8_Kernel8Ideal : Prop :=
  IdealRules.named_const.Statement Cert.Kernel8Ideal.κ "mask" .f32 0xF149F2CA#32 ⊥
  ∧ IdealRules.named_const.Statement Cert.Kernel8Ideal.κ "half" .f32 0xF0C9F2CA#32 ⊥

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v88_0)) (v1 : (c : Dev Cert.Kernel8Ideal.nD) → Buf (Elt Ideal) ((c.tc : Thread Cert.Kernel8Ideal.nD Cert.Kernel8Ideal.τ).loc Cert.Kernel8Ideal.main_v88_1)) (v2 : (c : Dev Cert.Kernel8Ideal.nD) → Buf (Elt Ideal) ((c.tc : Thread Cert.Kernel8Ideal.nD Cert.Kernel8Ideal.τ).loc Cert.Kernel8Ideal.main_v88_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v88_0) = v0 c
          ∧ r.2.mem ((c.tc : Thread Cert.Kernel8Ideal.nD Cert.Kernel8Ideal.τ).loc Cert.Kernel8Ideal.main_v88_1) = v1 c
          ∧ r.2.mem ((c.tc : Thread Cert.Kernel8Ideal.nD Cert.Kernel8Ideal.τ).loc Cert.Kernel8Ideal.main_v88_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v139) = v0 c
          ∧ r.2.mem ((c.tc : Thread Cert.Reference8Ideal.nD Cert.Reference8Ideal.τ).loc Cert.Reference8Ideal.main_v140) = v1 c
          ∧ r.2.mem ((c.tc : Thread Cert.Reference8Ideal.nD Cert.Reference8Ideal.τ).loc Cert.Reference8Ideal.main_v137) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel8_Kernel8Ideal
    ∧ algebraic_Kernel8Ideal_Reference8Ideal (hKernel8Ideal := hKernel8Ideal) (hReference8Ideal := hReference8Ideal)
-- ==== Kernel2.lean ====
abbrev S32768x1024 : Shape := ⟨2, ![32768, 1024]⟩
abbrev S32768x512 : Shape := ⟨2, ![32768, 512]⟩
abbrev S8192x2048 : Shape := ⟨2, ![8192, 2048]⟩
abbrev S1024x5400 : Shape := ⟨2, ![1024, 5400]⟩
abbrev S512x1024 : Shape := ⟨2, ![512, 1024]⟩
abbrev S1024x1024 : Shape := ⟨2, ![1024, 1024]⟩
abbrev S1024 : Shape := ⟨1, ![1024]⟩
abbrev S1024x3072 : Shape := ⟨2, ![1024, 3072]⟩
abbrev S2x4x64x1024 : Shape := ⟨4, ![2, 4, 64, 1024]⟩
abbrev S4x2x64x1024 : Shape := ⟨4, ![4, 2, 64, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S8192x2048, .bf16⟩
  | .hbm, ⟨4, _⟩ => ⟨S1024x5400, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S32768x1024, .bf16⟩
  | .hbm, ⟨12, _⟩ => ⟨S1024x5400, .bf16⟩
  | .hbm, ⟨13, _⟩ => ⟨S1024x3072, .bf16⟩
  | .hbm, ⟨14, _⟩ => ⟨S2x4x64x1024, .f32⟩
  | .hbm, ⟨15, _⟩ => ⟨S4x2x64x1024, .f32⟩
  | .hbm, ⟨16, _⟩ => ⟨S512x1024, .f32⟩
  | .hbm, ⟨17, _⟩ => ⟨S512x1024, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S32768x1024, .f32⟩
  | .hbm, ⟨24, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x3072, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S32768x1024 : Shape := ⟨2, ![32768, 1024]⟩
abbrev S32768x512 : Shape := ⟨2, ![32768, 512]⟩
abbrev S8192x2048 : Shape := ⟨2, ![8192, 2048]⟩
abbrev S1024x5400 : Shape := ⟨2, ![1024, 5400]⟩
abbrev S512x1024 : Shape := ⟨2, ![512, 1024]⟩
abbrev S1024x1024 : Shape := ⟨2, ![1024, 1024]⟩
abbrev S1024 : Shape := ⟨1, ![1024]⟩
abbrev S32768x4x2x64 : Shape := ⟨4, ![32768, 4, 2, 64]⟩
abbrev S32768x2x4x64 : Shape := ⟨4, ![32768, 2, 4, 64]⟩
abbrev S8192x4x512 : Shape := ⟨3, ![8192, 4, 512]⟩
abbrev S4x8192x512 : Shape := ⟨3, ![4, 8192, 512]⟩
abbrev S1024x3072 : Shape := ⟨2, ![1024, 3072]⟩
abbrev S32768x3072 : Shape := ⟨2, ![32768, 3072]⟩
abbrev S_ : Shape := ⟨0, ![]⟩
abbrev S32768x3x1024 : Shape := ⟨3, ![32768, 3, 1024]⟩
abbrev S32768x1x1024 : Shape := ⟨3, ![32768, 1, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S8192x2048, .bf16⟩
  | .hbm, ⟨4, _⟩ => ⟨S1024x5400, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S32768x512, .f32⟩
  | .hbm, ⟨12, _⟩ => ⟨S32768x4x2x64, .f32⟩
  | .hbm, ⟨13, _⟩ => ⟨S32768x2x4x64, .f32⟩
  | .hbm, ⟨14, _⟩ => ⟨S32768x512, .f32⟩
  | .hbm, ⟨15, _⟩ => ⟨S32768x512, .f32⟩
  | .hbm, ⟨16, _⟩ => ⟨S8192x2048, .f32⟩
  | .hbm, ⟨17, _⟩ => ⟨S8192x4x512, .f32⟩
  | .hbm, ⟨18, _⟩ => ⟨S4x8192x512, .f32⟩
  | .hbm, ⟨19, _⟩ => ⟨S32768x512, .f32⟩
  | .hbm, ⟨20, _⟩ => ⟨S1024x3072, .f32⟩
  | .hbm, ⟨21, _⟩ => ⟨S32768x3072, .f32⟩
  | .hbm, ⟨22, _⟩ => ⟨S32768x3072, .f32⟩
  | .hbm, ⟨23, _⟩ => ⟨S32768x3072, .f32⟩
  | .hbm, ⟨24, _⟩ => ⟨S_, .f32⟩
  | .hbm, ⟨25, _⟩ => ⟨S32768x3072, .f32⟩
  | .hbm, ⟨26, _⟩ => ⟨S32768x3072, .f32⟩
  | .hbm, ⟨27, _⟩ => ⟨S_, .f32⟩
  | .hbm, ⟨28, _⟩ => ⟨S32768x3072, .f32⟩
  | .hbm, ⟨29, _⟩ => ⟨S32768x3072, .f32⟩
  | .hbm, ⟨30, _⟩ => ⟨S32768x3x1024, .f32⟩
  | .hbm, ⟨31, _⟩ => ⟨S32768x1x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S32768x1, .f32⟩
  | .hbm, ⟨71, _⟩ => ⟨S32768x1024, .f32⟩
  | .hbm, ⟨72, _⟩ => ⟨S32768x1024, .f32⟩
  | .hbm, ⟨73, _⟩ => ⟨S1x1024, .f32⟩
  | .hbm, ⟨74, _⟩ => ⟨S32768x1024, .f32⟩
  | .hbm, ⟨75, _⟩ => ⟨S32768x1024, .f32⟩
  | .hbm, ⟨76, _⟩ => ⟨S1x1024, .f32⟩
  | .hbm, ⟨77, _⟩ => ⟨S32768x1024, .f32⟩
  | .hbm, ⟨78, _⟩ => ⟨S32768x1024, .f32⟩
  | .hbm, ⟨79, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel3.lean ====
abbrev S32 : Shape := ⟨1, ![32]⟩
abbrev S81920x1024 : Shape := ⟨2, ![81920, 1024]⟩
abbrev S32x1024x512 : Shape := ⟨3, ![32, 1024, 512]⟩
abbrev S32x512x1024 : Shape := ⟨3, ![32, 512, 1024]⟩
abbrev S_ : Shape := ⟨0, ![]⟩
abbrev S1x32 : Shape := ⟨2, ![1, 32]⟩
abbrev S160 : Shape := ⟨1, ![160]⟩
abbrev S160x1 : Shape := ⟨2, ![160, 1]⟩
abbrev S160x32 : Shape := ⟨2, ![160, 32]⟩
abbrev S1 : Shape := ⟨1, ![1]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 68
  | .vmem => 10
  | .smem => 2
  | _ => 0

abbrev bufTy : (tb : Table) → Fin (tcTables nBuf tb) → BufTy
  | .hbm, ⟨0, _⟩ => ⟨S32, .i32⟩
  | .hbm, ⟨1, _⟩ => ⟨S81920x1024, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S1x32, .i32⟩
  | .hbm, ⟨36, _⟩ => ⟨S160, .i32⟩
  | .hbm, ⟨37, _⟩ => ⟨S160x1, .i32⟩
  | .hbm, ⟨38, _⟩ => ⟨S_, .i32⟩
  | .hbm, ⟨39, _⟩ => ⟨S160x1, .i32⟩
  | .hbm, ⟨40, _⟩ => ⟨S160x1, .i32⟩
  | .hbm, ⟨41, _⟩ => ⟨S160x32, .i32⟩
  | .hbm, ⟨42, _⟩ => ⟨S160x32, .i32⟩
  | .hbm, ⟨43, _⟩ => ⟨S160x32, .i1⟩
  | .hbm, ⟨44, _⟩ => ⟨S160x32, .i32⟩
  | .hbm, ⟨45, _⟩ => ⟨S_, .i32⟩
  | .hbm, ⟨46, _⟩ => ⟨S160, .i32⟩
  | .hbm, ⟨47, _⟩ => ⟨S_, .i32⟩
  | .hbm, ⟨48, _⟩ => ⟨S160, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | .local _ .vmem, ⟨9, _⟩ => ⟨S512x1024, .f32⟩
  | .local _ .smem, ⟨0, _⟩ => ⟨S160, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32 : Shape := ⟨1, ![32]⟩
abbrev S81920x1024 : Shape := ⟨2, ![81920, 1024]⟩
abbrev S32x1024x512 : Shape := ⟨3, ![32, 1024, 512]⟩
abbrev S32x512x1024 : Shape := ⟨3, ![32, 512, 1024]⟩
abbrev S_ : Shape := ⟨0, ![]⟩
abbrev S160 : Shape := ⟨1, ![160]⟩
abbrev S1x160 : Shape := ⟨2, ![1, 160]⟩
abbrev S32x1 : Shape := ⟨2, ![32, 1]⟩
abbrev S32x160 : Shape := ⟨2, ![32, 160]⟩
abbrev S160x512x1024 : Shape := ⟨3, ![160, 512, 1024]⟩
abbrev S160x1 : Shape := ⟨2, ![160, 1]⟩
abbrev S160x1024x512 : Shape := ⟨3, ![160, 1024, 512]⟩
abbrev S160x512x512 : Shape := ⟨3, ![160, 512, 512]⟩
abbrev S1 : Shape := ⟨1, ![1]⟩
abbrev S160x1x1 : Shape := ⟨3, ![160, 1, 1]⟩

abbrev nBuf : Space → Nat
  | .hbm => 116
  | .vmem => 0
  | .smem => 0
  | _ => 0

abbrev bufTy : (tb : Table) → Fin (tcTables nBuf tb) → BufTy
  | .hbm, ⟨0, _⟩ => ⟨S32, .i32⟩
  | .hbm, ⟨1, _⟩ => ⟨S81920x1024, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S160, .i32⟩
  | .hbm, ⟨36, _⟩ => ⟨S_, .i32⟩
  | .hbm, ⟨37, _⟩ => ⟨S160, .i32⟩
  | .hbm, ⟨38, _⟩ => ⟨S160, .i32⟩
  | .hbm, ⟨39, _⟩ => ⟨S1x160, .i32⟩
  | .hbm, ⟨40, _⟩ => ⟨S32x1, .i32⟩
  | .hbm, ⟨41, _⟩ => ⟨S32x160, .i32⟩
  | .hbm, ⟨42, _⟩ => ⟨S32x160, .i32⟩
  | .hbm, ⟨43, _⟩ => ⟨S32x160, .i1⟩
  | .hbm, ⟨44, _⟩ => ⟨S32x160, .i32⟩
  | .hbm, ⟨45, _⟩ => ⟨S_, .i32⟩
  | .hbm, ⟨46, _⟩ => ⟨S160, .i32⟩
  | .hbm, ⟨47, _⟩ => ⟨S_, .i32⟩
  | .hbm, ⟨48, _⟩ => ⟨S160, .i32⟩
  | .hbm, ⟨49, _⟩ => ⟨S160, .i32⟩
  | .hbm, ⟨50, _⟩ => ⟨S160x512x1024, .f32⟩
  | .hbm, ⟨51, _⟩ => ⟨S_, .i32⟩
  | .hbm, ⟨52, _⟩ => ⟨S160, .i32⟩
  | .hbm, ⟨53, _⟩ => ⟨S160, .i1⟩
  | .hbm, ⟨54, _⟩ => ⟨S_, .i32⟩
  | .hbm, ⟨55, _⟩ => ⟨S160, .i32⟩
  | .hbm, ⟨56, _⟩ => ⟨S160, .i32⟩
  | .hbm, ⟨57, _⟩ => ⟨S160, .i32⟩
  | .hbm, ⟨58, _⟩ => ⟨S160x1, .i32⟩
  | .hbm, ⟨59, _⟩ => ⟨S160x1024x512, .f32⟩
  | .hbm, ⟨60, _⟩ => ⟨S160x512x512, .f32⟩
  | .hbm, ⟨61, _⟩ => ⟨S160x512x512, .f32⟩
  | .hbm, ⟨62, _⟩ => ⟨S160x512x512, .f32⟩
  | .hbm, ⟨63, _⟩ => ⟨S_, .f32⟩
  | .hbm, ⟨64, _⟩ => ⟨S160x512x512, .f32⟩
  | .hbm, ⟨65, _⟩ => ⟨S160x512x512, .f32⟩
  | .hbm, ⟨66, _⟩ => ⟨S_, .f32⟩
  | .hbm, ⟨67, _⟩ => ⟨S160x512x512, .f32⟩
  | .hbm, ⟨68, _⟩ => ⟨S160x512x512, .f32⟩
  | .hbm, ⟨69, _⟩ => ⟨S160x512x512, .f32⟩
  | .hbm, ⟨70, _⟩ => ⟨S_, .i32⟩
  | .hbm, ⟨71, _⟩ => ⟨S160, .i32⟩
  | .hbm, ⟨72, _⟩ => ⟨S160, .i1⟩
  | .hbm, ⟨73, _⟩ => ⟨S_, .i32⟩
  | .hbm, ⟨74, _⟩ => ⟨S160, .i32⟩
  | .hbm, ⟨75, _⟩ => ⟨S160, .i32⟩
  | .hbm, ⟨76, _⟩ => ⟨S160, .i32⟩
  | .hbm, ⟨77, _⟩ => ⟨S160x1, .i32⟩
  | .hbm, ⟨78, _⟩ => ⟨S160x1024x512, .f32⟩
  | .hbm, ⟨79, _⟩ => ⟨S160x512x512, .f32⟩
  | .hbm, ⟨80, _⟩ => ⟨S160x512x512, .f32⟩
  | .hbm, ⟨81, _⟩ => ⟨S_, .i32⟩
  | .hbm, ⟨82, _⟩ => ⟨S160, .i32⟩
  | .hbm, ⟨83, _⟩ => ⟨S160, .i1⟩
  | .hbm, ⟨84, _⟩ => ⟨S_, .i32⟩
  | .hbm, ⟨85, _⟩ => ⟨S160, .i32⟩
  | .hbm, ⟨86, _⟩ => ⟨S160, .i32⟩
  | .hbm, ⟨87, _⟩ => ⟨S160, .i32⟩
  | .hbm, ⟨88, _⟩ => ⟨S160x1, .i32⟩
  | .hbm, ⟨89, _⟩ => ⟨S160x512x1024, .f32⟩
  | .hbm, ⟨90, _⟩ => ⟨S160x512x1024, .f32⟩
  | .hbm, ⟨91, _⟩ => ⟨S160, .i32⟩
  | .hbm, ⟨92, _⟩ => ⟨S1, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i1⟩
  | .hbm, ⟨100, _⟩ => ⟨S_, .i32⟩
  | .hbm, ⟨101, _⟩ => ⟨S_, .i32⟩
  | .hbm, ⟨102, _⟩ => ⟨S_, .i1⟩
  | .hbm, ⟨103, _⟩ => ⟨S_, .i1⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S160, .i32⟩
  | .hbm, ⟨108, _⟩ => ⟨S160, .i1⟩
  | .hbm, ⟨109, _⟩ => ⟨S160x1x1, .i1⟩
  | .hbm, ⟨110, _⟩ => ⟨S_, .f32⟩
  | .hbm, ⟨111, _⟩ => ⟨S_, .f32⟩
  | .hbm, ⟨112, _⟩ => ⟨S160x512x1024, .i1⟩
  | .hbm, ⟨113, _⟩ => ⟨S160x512x1024, .f32⟩
  | .hbm, ⟨114, _⟩ => ⟨S160x512x1024, .f32⟩
  | .hbm, ⟨115, _⟩ => ⟨S81920x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_call2_call0_v0 : Ref sig .tc := ⟨.hbm, 39, rfl⟩
abbrev main_call2_call0_v1 : Ref sig .tc := ⟨.hbm, 40, rfl⟩
abbrev main_call2_call0_v2 : Ref sig .tc := ⟨.hbm, 41, rfl⟩
abbrev main_call2_call0_v3 : Ref sig .tc := ⟨.hbm, 42, rfl⟩
abbrev main_call2_call0_v4 : Ref sig .tc := ⟨.hbm, 43, rfl⟩
abbrev main_call2_call0_v5 : Ref sig .tc := ⟨.hbm, 44, rfl⟩
abbrev main_call2_call0_c : Ref sig .tc := ⟨.hbm, 45, rfl⟩
abbrev main_v11 : Ref sig .tc := ⟨.hbm, 46, rfl⟩
abbrev main_c_4 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c_5 : Ref sig .tc := ⟨.hbm, 51, rfl⟩
abbrev main_v15 : Ref sig .tc := ⟨.hbm, 52, rfl⟩
abbrev main_v16 : Ref sig .tc := ⟨.hbm, 53, rfl⟩
abbrev main_c_6 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call3_v0 : Ref sig .tc := ⟨.hbm, 61, rfl⟩
abbrev main_call3_v1 : Ref sig .tc := ⟨.hbm, 62, rfl⟩
abbrev main_call3_cst : Ref sig .tc := ⟨.hbm, 63, rfl⟩
abbrev main_call3_v2 : Ref sig .tc := ⟨.hbm, 64, rfl⟩
abbrev main_call3_v3 : Ref sig .tc := ⟨.hbm, 65, rfl⟩
abbrev main_call3_cst_0 : Ref sig .tc := ⟨.hbm, 66, rfl⟩
abbrev main_call3_v4 : Ref sig .tc := ⟨.hbm, 67, rfl⟩
abbrev main_call3_v5 : Ref sig .tc := ⟨.hbm, 68, rfl⟩
abbrev main_v23 : Ref sig .tc := ⟨.hbm, 69, rfl⟩
abbrev main_c_7 : Ref sig .tc := ⟨.hbm, 70, rfl⟩
abbrev main_v24 : Ref sig .tc := ⟨.hbm, 71, rfl⟩
abbrev main_v25 : Ref sig .tc := ⟨.hbm, 72, rfl⟩
abbrev main_c_8 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_c_9 : Ref sig .tc := ⟨.hbm, 81, rfl⟩
abbrev main_v33 : Ref sig .tc := ⟨.hbm, 82, rfl⟩
abbrev main_v34 : Ref sig .tc := ⟨.hbm, 83, rfl⟩
abbrev main_c_10 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_11 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_c : Ref sig .tc := ⟨.hbm, 101, rfl⟩
abbrev main_call4_v6 : Ref sig .tc := ⟨.hbm, 102, rfl⟩
abbrev main_call4_v7 : Ref sig .tc := ⟨.hbm, 103, rfl⟩
abbrev main_call4_c_0 : Ref sig .tc := ⟨.hbm, 104, rfl⟩
abbrev main_call4_v8 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v48 : Ref sig .tc := ⟨.hbm, 114, rfl⟩
abbrev main_v49 : Ref sig .tc := ⟨.hbm, 115, rfl⟩

abbrev nD : Nat := 1
abbrev τ : Topo := Topo.v7x

variable {F : FTy → Type} [FloatOps F]
-- ==== Kernel4.lean ====
abbrev S32768x1024 : Shape := ⟨2, ![32768, 1024]⟩
abbrev S1024x5400 : Shape := ⟨2, ![1024, 5400]⟩
abbrev S1x1024x5400 : Shape := ⟨3, ![1, 1024, 5400]⟩
abbrev S1x1024x512 : Shape := ⟨3, ![1, 1024, 512]⟩
abbrev S1x1024x768 : Shape := ⟨3, ![1, 1024, 768]⟩
abbrev S1x1024x24 : Shape := ⟨3, ![1, 1024, 24]⟩
abbrev S1x1024x3072 : Shape := ⟨3, ![1, 1024, 3072]⟩
abbrev S1x1024x2x4x64 : Shape := ⟨5, ![1, 1024, 2, 4, 64]⟩
abbrev S_ : Shape := ⟨0, ![]⟩
abbrev S1x1024x1x4x64 : Shape := ⟨5, ![1, 1024, 1, 4, 64]⟩
abbrev S1x1024x4x64 : Shape := ⟨4, ![1, 1024, 4, 64]⟩
abbrev S1x1024x4x128 : Shape := ⟨4, ![1, 1024, 4, 128]⟩
abbrev S1x1024x1x4x128 : Shape := ⟨5, ![1, 1024, 1, 4, 128]⟩
abbrev S1x1024x2x4x128 : Shape := ⟨5, ![1, 1024, 2, 4, 128]⟩
abbrev S1x1024x1024 : Shape := ⟨3, ![1, 1024, 1024]⟩
abbrev S1x1024x128 : Shape := ⟨3, ![1, 1024, 128]⟩
abbrev S1x1024x2432 : Shape := ⟨3, ![1, 1024, 2432]⟩
abbrev S1024x2432 : Shape := ⟨2, ![1024, 2432]⟩
abbrev S32768x768 : Shape := ⟨2, ![32768, 768]⟩
abbrev S32768x128 : Shape := ⟨2, ![32768, 128]⟩
abbrev S32768x512 : Shape := ⟨2, ![32768, 512]⟩
abbrev S512x1024 : Shape := ⟨2, ![512, 1024]⟩
abbrev S512x768 : Shape := ⟨2, ![512, 768]⟩
abbrev S512x128 : Shape := ⟨2, ![512, 128]⟩
abbrev S512x512 : Shape := ⟨2, ![512, 512]⟩
abbrev S1024x1024 : Shape := ⟨2, ![1024, 1024]⟩
abbrev S1024x768 : Shape := ⟨2, ![1024, 768]⟩
abbrev S1024x128 : Shape := ⟨2, ![1024, 128]⟩
abbrev S1024x512 : Shape := ⟨2, ![1024, 512]⟩

abbrev nBuf : Space → Nat
  | .hbm => 38
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x5400, .f32⟩
  | .hbm, ⟨2, _⟩ => ⟨S1x1024x5400, .f32⟩
  | .hbm, ⟨3, _⟩ => ⟨S1x1024x5400, .bf16⟩
  | .hbm, ⟨4, _⟩ => ⟨S1x1024x512, .bf16⟩
  | .hbm, ⟨5, _⟩ => ⟨S1x1024x768, .bf16⟩
  | .hbm, ⟨6, _⟩ => ⟨S1x1024x24, .bf16⟩
  | .hbm, ⟨7, _⟩ => ⟨S1x1024x512, .bf16⟩
  | .hbm, ⟨8, _⟩ => ⟨S1x1024x512, .bf16⟩
  | .hbm, ⟨9, _⟩ => ⟨S1x1024x3072, .bf16⟩
  | .hbm, ⟨10, _⟩ => ⟨S1x1024x2x4x64, .bf16⟩
  | .hbm, ⟨11, _⟩ => ⟨S_, .bf16⟩
  | .hbm, ⟨12, _⟩ => ⟨S1x1024x2x4x64, .bf16⟩
  | .hbm, ⟨13, _⟩ => ⟨S1x1024x2x4x64, .bf16⟩
  | .hbm, ⟨14, _⟩ => ⟨S1x1024x1x4x64, .bf16⟩
  | .hbm, ⟨15, _⟩ => ⟨S1x1024x4x64, .bf16⟩
  | .hbm, ⟨16, _⟩ => ⟨S_, .bf16⟩
  | .hbm, ⟨17, _⟩ => ⟨S1x1024x4x64, .bf16⟩
  | .hbm, ⟨18, _⟩ => ⟨S1x1024x1x4x64, .bf16⟩
  | .hbm, ⟨19, _⟩ => ⟨S1x1024x4x64, .bf16⟩
  | .hbm, ⟨20, _⟩ => ⟨S1x1024x4x128, .bf16⟩
  | .hbm, ⟨21, _⟩ => ⟨S1x1024x1x4x64, .bf16⟩
  | .hbm, ⟨22, _⟩ => ⟨S1x1024x4x64, .bf16⟩
  | .hbm, ⟨23, _⟩ => ⟨S1x1024x4x128, .bf16⟩
  | .hbm, ⟨24, _⟩ => ⟨S1x1024x1x4x128, .bf16⟩
  | .hbm, ⟨25, _⟩ => ⟨S1x1024x1x4x128, .bf16⟩
  | .hbm, ⟨26, _⟩ => ⟨S1x1024x2x4x128, .bf16⟩
  | .hbm, ⟨27, _⟩ => ⟨S1x1024x1024, .bf16⟩
  | .hbm, ⟨28, _⟩ => ⟨S_, .i32⟩
  | .hbm, ⟨29, _⟩ => ⟨S_, .bf16⟩
  | .hbm, ⟨30, _⟩ => ⟨S1x1024x128, .bf16⟩
  | .hbm, ⟨31, _⟩ => ⟨S1x1024x2432, .bf16⟩
  | .hbm, ⟨32, _⟩ => ⟨S32768x1024, .bf16⟩
  | .hbm, ⟨33, _⟩ => ⟨S1024x2432, .bf16⟩
  | .hbm, ⟨34, _⟩ => ⟨S32768x1024, .bf16⟩
  | .hbm, ⟨35, _⟩ => ⟨S32768x768, .bf16⟩
  | .hbm, ⟨36, _⟩ => ⟨S32768x128, .f32⟩
  | .hbm, ⟨37, _⟩ => ⟨S32768x512, .f32⟩
  | .local _ .vmem, ⟨0, _⟩ => ⟨S512x1024, .bf16⟩
  | .local _ .vmem, ⟨1, _⟩ => ⟨S512x1024, .bf16⟩
  | .local _ .vmem, ⟨2, _⟩ => ⟨S1024x2432, .bf16⟩
  | .local _ .vmem, ⟨3, _⟩ => ⟨S512x1024, .bf16⟩
  | .local _ .vmem, ⟨4, _⟩ => ⟨S512x1024, .bf16⟩
  | .local _ .vmem, ⟨5, _⟩ => ⟨S512x768, .bf16⟩
  | .local _ .vmem, ⟨6, _⟩ => ⟨S512x768, .bf16⟩
  | .local _ .vmem, ⟨7, _⟩ => ⟨S512x128, .f32⟩
  | .local _ .vmem, ⟨8, _⟩ => ⟨S512x128, .f32⟩
  | .local _ .vmem, ⟨9, _⟩ => ⟨S512x512, .f32⟩
  | .local _ .vmem, ⟨10, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_call0_v0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28_0 : Ref sig .tc := ⟨.hbm, 34, rfl⟩
abbrev main_v28_1 : Ref sig .tc := ⟨.hbm, 35, rfl⟩
abbrev main_v28_2 : Ref sig .tc := ⟨.hbm, 36, rfl⟩
abbrev main_v28_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x1024 : Shape := ⟨2, ![32768, 1024]⟩
abbrev S1024x5400 : Shape := ⟨2, ![1024, 5400]⟩
abbrev S32768x5400 : Shape := ⟨2, ![32768, 5400]⟩
abbrev S32768x512 : Shape := ⟨2, ![32768, 512]⟩
abbrev S_ : Shape := ⟨0, ![]⟩
abbrev S32768x2x4x64 : Shape := ⟨4, ![32768, 2, 4, 64]⟩
abbrev S32768x4x64 : Shape := ⟨3, ![32768, 4, 64]⟩
abbrev S32768x1x4x64 : Shape := ⟨4, ![32768, 1, 4, 64]⟩
abbrev S32768x4x128 : Shape := ⟨3, ![32768, 4, 128]⟩
abbrev S32768x1x4x128 : Shape := ⟨4, ![32768, 1, 4, 128]⟩
abbrev S32768x2x4x128 : Shape := ⟨4, ![32768, 2, 4, 128]⟩
abbrev S32768x24 : Shape := ⟨2, ![32768, 24]⟩
abbrev S32768x128 : Shape := ⟨2, ![32768, 128]⟩
abbrev S32768x768 : Shape := ⟨2, ![32768, 768]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5400, .f32⟩
  | .hbm, ⟨2, _⟩ => ⟨S32768x5400, .f32⟩
  | .hbm, ⟨3, _⟩ => ⟨S32768x512, .f32⟩
  | .hbm, ⟨4, _⟩ => ⟨S_, .f32⟩
  | .hbm, ⟨5, _⟩ => ⟨S32768x512, .f32⟩
  | .hbm, ⟨6, _⟩ => ⟨S32768x512, .f32⟩
  | .hbm, ⟨7, _⟩ => ⟨S32768x2x4x64, .f32⟩
  | .hbm, ⟨8, _⟩ => ⟨S_, .f32⟩
  | .hbm, ⟨9, _⟩ => ⟨S32768x4x64, .f32⟩
  | .hbm, ⟨10, _⟩ => ⟨S32768x1x4x64, .f32⟩
  | .hbm, ⟨11, _⟩ => ⟨S32768x4x64, .f32⟩
  | .hbm, ⟨12, _⟩ => ⟨S32768x4x128, .f32⟩
  | .hbm, ⟨13, _⟩ => ⟨S32768x1x4x64, .f32⟩
  | .hbm, ⟨14, _⟩ => ⟨S32768x4x64, .f32⟩
  | .hbm, ⟨15, _⟩ => ⟨S32768x4x128, .f32⟩
  | .hbm, ⟨16, _⟩ => ⟨S32768x1x4x128, .f32⟩
  | .hbm, ⟨17, _⟩ => ⟨S32768x1x4x128, .f32⟩
  | .hbm, ⟨18, _⟩ => ⟨S32768x2x4x128, .f32⟩
  | .hbm, ⟨19, _⟩ => ⟨S32768x1024, .f32⟩
  | .hbm, ⟨20, _⟩ => ⟨S32768x24, .f32⟩
  | .hbm, ⟨21, _⟩ => ⟨S_, .i32⟩
  | .hbm, ⟨22, _⟩ => ⟨S_, .f32⟩
  | .hbm, ⟨23, _⟩ => ⟨S32768x128, .f32⟩
  | .hbm, ⟨24, _⟩ => ⟨S32768x1024, .bf16⟩
  | .hbm, ⟨25, _⟩ => ⟨S32768x768, .f32⟩
  | .hbm, ⟨26, _⟩ => ⟨S32768x768, .bf16⟩
  | .hbm, ⟨27, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_call0_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel5.lean ====
abbrev S32768x1024 : Shape := ⟨2, ![32768, 1024]⟩
abbrev S1024x5400 : Shape := ⟨2, ![1024, 5400]⟩
abbrev S1x1024x5400 : Shape := ⟨3, ![1, 1024, 5400]⟩
abbrev S1x1024x512 : Shape := ⟨3, ![1, 1024, 512]⟩
abbrev S1x1024x768 : Shape := ⟨3, ![1, 1024, 768]⟩
abbrev S1x1024x24 : Shape := ⟨3, ![1, 1024, 24]⟩
abbrev S1x1024x3072 : Shape := ⟨3, ![1, 1024, 3072]⟩
abbrev S1x1024x2x4x64 : Shape := ⟨5, ![1, 1024, 2, 4, 64]⟩
abbrev S_ : Shape := ⟨0, ![]⟩
abbrev S1x1024x1x4x64 : Shape := ⟨5, ![1, 1024, 1, 4, 64]⟩
abbrev S1x1024x4x64 : Shape := ⟨4, ![1, 1024, 4, 64]⟩
abbrev S1x1024x4x128 : Shape := ⟨4, ![1, 1024, 4, 128]⟩
abbrev S1x1024x1x4x128 : Shape := ⟨5, ![1, 1024, 1, 4, 128]⟩
abbrev S1x1024x2x4x128 : Shape := ⟨5, ![1, 1024, 2, 4, 128]⟩
abbrev S1x1024x1024 : Shape := ⟨3, ![1, 1024, 1024]⟩
abbrev S1x1024x128 : Shape := ⟨3, ![1, 1024, 128]⟩
abbrev S1x1024x2432 : Shape := ⟨3, ![1, 1024, 2432]⟩
abbrev S1024x512 : Shape := ⟨2, ![1024, 512]⟩
abbrev S8192x2048 : Shape := ⟨2, ![8192, 2048]⟩
abbrev S512x1024 : Shape := ⟨2, ![512, 1024]⟩
abbrev S512x512 : Shape := ⟨2, ![512, 512]⟩

abbrev nBuf : Space → Nat
  | .hbm => 35
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x5400, .f32⟩
  | .hbm, ⟨2, _⟩ => ⟨S1x1024x5400, .f32⟩
  | .hbm, ⟨3, _⟩ => ⟨S1x1024x5400, .bf16⟩
  | .hbm, ⟨4, _⟩ => ⟨S1x1024x512, .bf16⟩
  | .hbm, ⟨5, _⟩ => ⟨S1x1024x768, .bf16⟩
  | .hbm, ⟨6, _⟩ => ⟨S1x1024x24, .bf16⟩
  | .hbm, ⟨7, _⟩ => ⟨S1x1024x512, .bf16⟩
  | .hbm, ⟨8, _⟩ => ⟨S1x1024x512, .bf16⟩
  | .hbm, ⟨9, _⟩ => ⟨S1x1024x3072, .bf16⟩
  | .hbm, ⟨10, _⟩ => ⟨S1x1024x2x4x64, .bf16⟩
  | .hbm, ⟨11, _⟩ => ⟨S_, .bf16⟩
  | .hbm, ⟨12, _⟩ => ⟨S1x1024x2x4x64, .bf16⟩
  | .hbm, ⟨13, _⟩ => ⟨S1x1024x2x4x64, .bf16⟩
  | .hbm, ⟨14, _⟩ => ⟨S1x1024x1x4x64, .bf16⟩
  | .hbm, ⟨15, _⟩ => ⟨S1x1024x4x64, .bf16⟩
  | .hbm, ⟨16, _⟩ => ⟨S_, .bf16⟩
  | .hbm, ⟨17, _⟩ => ⟨S1x1024x4x64, .bf16⟩
  | .hbm, ⟨18, _⟩ => ⟨S1x1024x1x4x64, .bf16⟩
  | .hbm, ⟨19, _⟩ => ⟨S1x1024x4x64, .bf16⟩
  | .hbm, ⟨20, _⟩ => ⟨S1x1024x4x128, .bf16⟩
  | .hbm, ⟨21, _⟩ => ⟨S1x1024x1x4x64, .bf16⟩
  | .hbm, ⟨22, _⟩ => ⟨S1x1024x4x64, .bf16⟩
  | .hbm, ⟨23, _⟩ => ⟨S1x1024x4x128, .bf16⟩
  | .hbm, ⟨24, _⟩ => ⟨S1x1024x1x4x128, .bf16⟩
  | .hbm, ⟨25, _⟩ => ⟨S1x1024x1x4x128, .bf16⟩
  | .hbm, ⟨26, _⟩ => ⟨S1x1024x2x4x128, .bf16⟩
  | .hbm, ⟨27, _⟩ => ⟨S1x1024x1024, .bf16⟩
  | .hbm, ⟨28, _⟩ => ⟨S_, .i32⟩
  | .hbm, ⟨29, _⟩ => ⟨S_, .bf16⟩
  | .hbm, ⟨30, _⟩ => ⟨S1x1024x128, .bf16⟩
  | .hbm, ⟨31, _⟩ => ⟨S1x1024x2432, .bf16⟩
  | .hbm, ⟨32, _⟩ => ⟨S32768x1024, .bf16⟩
  | .hbm, ⟨33, _⟩ => ⟨S1024x512, .bf16⟩
  | .hbm, ⟨34, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_call0_v0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x1024 : Shape := ⟨2, ![32768, 1024]⟩
abbrev S1024x5400 : Shape := ⟨2, ![1024, 5400]⟩
abbrev S1024x512 : Shape := ⟨2, ![1024, 512]⟩
abbrev S32768x512 : Shape := ⟨2, ![32768, 512]⟩
abbrev S4x8192x512 : Shape := ⟨3, ![4, 8192, 512]⟩
abbrev S8192x4x512 : Shape := ⟨3, ![8192, 4, 512]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5400, .f32⟩
  | .hbm, ⟨2, _⟩ => ⟨S1024x512, .f32⟩
  | .hbm, ⟨3, _⟩ => ⟨S32768x512, .f32⟩
  | .hbm, ⟨4, _⟩ => ⟨S4x8192x512, .f32⟩
  | .hbm, ⟨5, _⟩ => ⟨S8192x4x512, .f32⟩
  | .hbm, ⟨6, _⟩ => ⟨S8192x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S32768x1024 : Shape := ⟨2, ![32768, 1024]⟩
abbrev S4x512x256 : Shape := ⟨3, ![4, 512, 256]⟩
abbrev S32768x128 : Shape := ⟨2, ![32768, 128]⟩
abbrev S8 : Shape := ⟨1, ![8]⟩
abbrev S2x4x1x1 : Shape := ⟨4, ![2, 4, 1, 1]⟩
abbrev S_ : Shape := ⟨0, ![]⟩
abbrev S128 : Shape := ⟨1, ![128]⟩
abbrev S1x1x1x128 : Shape := ⟨4, ![1, 1, 1, 128]⟩
abbrev S2x4x1x128 : Shape := ⟨4, ![2, 4, 1, 128]⟩
abbrev S2x4x128x128 : Shape := ⟨4, ![2, 4, 128, 128]⟩
abbrev S2x512x128 : Shape := ⟨3, ![2, 512, 128]⟩
abbrev S8192 : Shape := ⟨1, ![8192]⟩
abbrev S1x128 : Shape := ⟨2, ![1, 128]⟩
abbrev S8192x1 : Shape := ⟨2, ![8192, 1]⟩
abbrev S8192x128 : Shape := ⟨2, ![8192, 128]⟩
abbrev S512 : Shape := ⟨1, ![512]⟩
abbrev S512x1 : Shape := ⟨2, ![512, 1]⟩
abbrev S512x128 : Shape := ⟨2, ![512, 128]⟩
abbrev S128x1 : Shape := ⟨2, ![128, 1]⟩
abbrev S1x8192 : Shape := ⟨2, ![1, 8192]⟩
abbrev S128x8192 : Shape := ⟨2, ![128, 8192]⟩
abbrev S32768x512 : Shape := ⟨2, ![32768, 512]⟩
abbrev S32768x256 : Shape := ⟨2, ![32768, 256]⟩
abbrev S2048x256 : Shape := ⟨2, ![2048, 256]⟩
abbrev S128x1024 : Shape := ⟨2, ![128, 1024]⟩
abbrev S1x512x256 : Shape := ⟨3, ![1, 512, 256]⟩
abbrev S128x128 : Shape := ⟨2, ![128, 128]⟩
abbrev S128x512 : Shape := ⟨2, ![128, 512]⟩
abbrev S128x256 : Shape := ⟨2, ![128, 256]⟩
abbrev S8x256 : Shape := ⟨2, ![8, 256]⟩
abbrev S1x128x128 : Shape := ⟨3, ![1, 128, 128]⟩
abbrev S1x512x128 : Shape := ⟨3, ![1, 512, 128]⟩
abbrev S512x256 : Shape := ⟨2, ![512, 256]⟩
abbrev S1x256x128 : Shape := ⟨3, ![1, 256, 128]⟩
abbrev S256x128 : Shape := ⟨2, ![256, 128]⟩
abbrev S256x256 : Shape := ⟨2, ![256, 256]⟩
abbrev S1x384x128 : Shape := ⟨3, ![1, 384, 128]⟩
abbrev S384x128 : Shape := ⟨2, ![384, 128]⟩
abbrev S384x256 : Shape := ⟨2, ![384, 256]⟩
abbrev S128x384 : Shape := ⟨2, ![128, 384]⟩
abbrev S512x384 : Shape := ⟨2, ![512, 384]⟩
abbrev S512x512 : Shape := ⟨2, ![512, 512]⟩
abbrev S256 : Shape := ⟨1, ![256]⟩
abbrev S1x256 : Shape := ⟨2, ![1, 256]⟩
abbrev S8x128 : Shape := ⟨2, ![8, 128]⟩

abbrev nBuf : Space → Nat
  | .hbm => 225
  | .vmem => 17
  | .smem => 0
  | _ => 0

abbrev hbmTy0_0 (i : Nat) : BufTy := match i % 128 with
  | 0 => ⟨S32768x1024, .bf16⟩
  | 1 => ⟨S4x512x256, .bf16⟩
  | 2 => ⟨S32768x128, .f32⟩
  | 3 => ⟨S8, .f32⟩
  | 4 => ⟨S2x4x1x1, .f32⟩
  | 5 => ⟨S_, .f32⟩
  | 6 => ⟨S2x4x1x1, .f32⟩
  | 7 => ⟨S2x4x1x1, .f32⟩
  | 8 => ⟨S_, .f32⟩
  | 9 => ⟨S2x4x1x1, .f32⟩
  | 10 => ⟨S2x4x1x1, .f32⟩
  | 11 => ⟨S_, .f32⟩
  | 12 => ⟨S2x4x1x1, .f32⟩
  | 13 => ⟨S2x4x1x1, .f32⟩
  | 14 => ⟨S_, .f32⟩
  | 15 => ⟨S2x4x1x1, .f32⟩
  | 16 => ⟨S2x4x1x1, .f32⟩
  | 17 => ⟨S2x4x1x1, .f32⟩
  | 18 => ⟨S128, .i32⟩
  | 19 => ⟨S1x1x1x128, .i32⟩
  | 20 => ⟨S_, .i32⟩
  | 21 => ⟨S1x1x1x128, .i32⟩
  | 22 => ⟨S1x1x1x128, .i1⟩
  | 23 => ⟨S_, .f32⟩
  | 24 => ⟨S2x4x1x1, .f32⟩
  | 25 => ⟨S2x4x1x1, .f32⟩
  | 26 => ⟨S_, .i32⟩
  | 27 => ⟨S1x1x1x128, .i32⟩
  | 28 => ⟨S1x1x1x128, .i1⟩
  | 29 => ⟨S_, .f32⟩
  | 30 => ⟨S_, .f32⟩
  | 31 => ⟨S2x4x1x128, .i1⟩
  | 32 => ⟨S2x4x1x128, .f32⟩
  | 33 => ⟨S2x4x1x128, .f32⟩
  | 34 => ⟨S2x4x1x128, .f32⟩
  | 35 => ⟨S2x4x1x128, .i1⟩
  | 36 => ⟨S2x4x1x128, .f32⟩
  | 37 => ⟨S2x4x1x128, .f32⟩
  | 38 => ⟨S2x4x128x128, .f32⟩
  | 39 => ⟨S2x512x128, .f32⟩
  | 40 => ⟨S2x512x128, .bf16⟩
  | 41 => ⟨S2x4x128x128, .f32⟩
  | 42 => ⟨S2x512x128, .f32⟩
  | 43 => ⟨S2x512x128, .bf16⟩
  | 44 => ⟨S8192, .i32⟩
  | 45 => ⟨S128, .i32⟩
  | 46 => ⟨S1x128, .i32⟩
  | 47 => ⟨S_, .i32⟩
  | 48 => ⟨S1x128, .i32⟩
  | 49 => ⟨S1x128, .i1⟩
  | 50 => ⟨S8192x1, .i32⟩
  | 51 => ⟨S_, .i32⟩
  | 52 => ⟨S_, .i32⟩
  | 53 => ⟨S8192x1, .i32⟩
  | 54 => ⟨S8192x1, .i32⟩
  | 55 => ⟨S8192x1, .i32⟩
  | 56 => ⟨S_, .i32⟩
  | 57 => ⟨S8192x1, .i32⟩
  | 58 => ⟨S8192x1, .i1⟩
  | 59 => ⟨S8192x1, .i32⟩
  | 60 => ⟨S8192x1, .i32⟩
  | 61 => ⟨S_, .i32⟩
  | 62 => ⟨S8192x1, .i32⟩
  | 63 => ⟨S8192x1, .i1⟩
  | 64 => ⟨S8192x1, .i1⟩
  | 65 => ⟨S_, .i32⟩
  | 66 => ⟨S8192x1, .i32⟩
  | 67 => ⟨S8192x1, .i32⟩
  | 68 => ⟨S8192x1, .i32⟩
  | 69 => ⟨S_, .i32⟩
  | 70 => ⟨S1x128, .i32⟩
  | 71 => ⟨S1x128, .i1⟩
  | 72 => ⟨S8192x1, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S8192x1, .i32⟩
  | 80 => ⟨S8192x1, .i32⟩
  | 81 => ⟨S_, .i32⟩
  | 82 => ⟨S8192x1, .i32⟩
  | 83 => ⟨S8192x1, .i1⟩
  | 84 => ⟨S_, .i32⟩
  | 85 => ⟨S8192x1, .i32⟩
  | 86 => ⟨S8192x1, .i1⟩
  | 87 => ⟨S_, .i32⟩
  | 88 => ⟨S_, .i1⟩
  | 89 => ⟨S8192x1, .i1⟩
  | 90 => ⟨S8192x1, .i1⟩
  | 91 => ⟨S8192x1, .i1⟩
  | 92 => ⟨S8192x1, .i32⟩
  | 93 => ⟨S8192x1, .i32⟩
  | 94 => ⟨S8192x1, .i32⟩
  | 95 => ⟨S_, .i32⟩
  | 96 => ⟨S_, .i32⟩
  | 97 => ⟨S8192x128, .i1⟩
  | 98 => ⟨S8192x128, .i32⟩
  | 99 => ⟨S8192x128, .i32⟩
  | 100 => ⟨S8192x128, .i32⟩
  | 101 => ⟨S8192x128, .i1⟩
  | 102 => ⟨S8192x128, .i32⟩
  | 103 => ⟨S8192x128, .i32⟩
  | 104 => ⟨S512, .i32⟩
  | 105 => ⟨S_, .i32⟩
  | 106 => ⟨S512, .i32⟩
  | 107 => ⟨S512, .i32⟩
  | 108 => ⟨S_, .i32⟩
  | 109 => ⟨S512, .i32⟩
  | 110 => ⟨S512, .i32⟩
  | 111 => ⟨S128, .i32⟩
  | 112 => ⟨S1x128, .i32⟩
  | 113 => ⟨S_, .i32⟩
  | 114 => ⟨S1x128, .i32⟩
  | 115 => ⟨S1x128, .i1⟩
  | 116 => ⟨S512x1, .i32⟩
  | 117 => ⟨S_, .i32⟩
  | 118 => ⟨S_, .i32⟩
  | 119 => ⟨S512x1, .i32⟩
  | 120 => ⟨S512x1, .i32⟩
  | 121 => ⟨S512x1, .i32⟩
  | 122 => ⟨S_, .i32⟩
  | 123 => ⟨S512x1, .i32⟩
  | 124 => ⟨S512x1, .i1⟩
  | 125 => ⟨S512x1, .i32⟩
  | 126 => ⟨S512x1, .i32⟩
  | 127 => ⟨S_, .i32⟩
  | _ => ⟨S32768x1024, .bf16⟩

abbrev hbmTy0_1 (i : Nat) : BufTy := match i % 128 with
  | 0 => ⟨S512x1, .i32⟩
  | 1 => ⟨S512x1, .i1⟩
  | 2 => ⟨S512x1, .i1⟩
  | 3 => ⟨S_, .i32⟩
  | 4 => ⟨S512x1, .i32⟩
  | 5 => ⟨S512x1, .i32⟩
  | 6 => ⟨S512x1, .i32⟩
  | 7 => ⟨S_, .i32⟩
  | 8 => ⟨S1x128, .i32⟩
  | 9 => ⟨S1x128, .i1⟩
  | 10 => ⟨S512x1, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S512x1, .i32⟩
  | 18 => ⟨S512x1, .i32⟩
  | 19 => ⟨S_, .i32⟩
  | 20 => ⟨S512x1, .i32⟩
  | 21 => ⟨S512x1, .i1⟩
  | 22 => ⟨S_, .i32⟩
  | 23 => ⟨S512x1, .i32⟩
  | 24 => ⟨S512x1, .i1⟩
  | 25 => ⟨S_, .i32⟩
  | 26 => ⟨S_, .i1⟩
  | 27 => ⟨S512x1, .i1⟩
  | 28 => ⟨S512x1, .i1⟩
  | 29 => ⟨S512x1, .i1⟩
  | 30 => ⟨S512x1, .i32⟩
  | 31 => ⟨S512x1, .i32⟩
  | 32 => ⟨S512x1, .i32⟩
  | 33 => ⟨S_, .i32⟩
  | 34 => ⟨S_, .i32⟩
  | 35 => ⟨S512x128, .i1⟩
  | 36 => ⟨S512x128, .i32⟩
  | 37 => ⟨S512x128, .i32⟩
  | 38 => ⟨S512x128, .i32⟩
  | 39 => ⟨S512x128, .i1⟩
  | 40 => ⟨S512x128, .i32⟩
  | 41 => ⟨S512x128, .i32⟩
  | 42 => ⟨S128, .i32⟩
  | 43 => ⟨S128x1, .i32⟩
  | 44 => ⟨S8192, .i32⟩
  | 45 => ⟨S1x8192, .i32⟩
  | 46 => ⟨S_, .i32⟩
  | 47 => ⟨S_, .i32⟩
  | 48 => ⟨S1x8192, .i32⟩
  | 49 => ⟨S1x8192, .i32⟩
  | 50 => ⟨S1x8192, .i32⟩
  | 51 => ⟨S_, .i32⟩
  | 52 => ⟨S1x8192, .i32⟩
  | 53 => ⟨S1x8192, .i1⟩
  | 54 => ⟨S1x8192, .i32⟩
  | 55 => ⟨S1x8192, .i32⟩
  | 56 => ⟨S_, .i32⟩
  | 57 => ⟨S1x8192, .i32⟩
  | 58 => ⟨S1x8192, .i1⟩
  | 59 => ⟨S1x8192, .i1⟩
  | 60 => ⟨S_, .i32⟩
  | 61 => ⟨S1x8192, .i32⟩
  | 62 => ⟨S1x8192, .i32⟩
  | 63 => ⟨S1x8192, .i32⟩
  | 64 => ⟨S128x8192, .i32⟩
  | 65 => ⟨S128x8192, .i32⟩
  | 66 => ⟨S128x8192, .i1⟩
  | 67 => ⟨S8192x128, .bf16⟩
  | 68 => ⟨S512x128, .bf16⟩
  | 69 => ⟨S128x8192, .bf16⟩
  | 70 => ⟨S512, .i32⟩
  | 71 => ⟨S512x1, .i32⟩
  | 72 => ⟨S_, .i32⟩
  | 73 => ⟨S512x1, .i32⟩
  | 74 => ⟨S512x1, .i32⟩
  | 75 => ⟨S128, .i32⟩
  | 76 => ⟨S1x128, .i32⟩
  | 77 => ⟨S_, .i32⟩
  | 78 => ⟨S1x128, .i32⟩
  | 79 => ⟨S1x128, .i32⟩
  | 80 => ⟨S_, .i32⟩
  | 81 => ⟨S1x128, .i32⟩
  | 82 => ⟨S1x128, .i32⟩
  | 83 => ⟨S512x128, .i32⟩
  | 84 => ⟨S512x128, .i32⟩
  | 85 => ⟨S512x128, .i1⟩
  | 86 => ⟨S_, .i32⟩
  | 87 => ⟨S512x1, .i32⟩
  | 88 => ⟨S512x1, .i32⟩
  | 89 => ⟨S512x128, .i32⟩
  | 90 => ⟨S512x128, .i32⟩
  | 91 => ⟨S512x128, .i1⟩
  | 92 => ⟨S512x128, .i1⟩
  | 93 => ⟨S512x128, .bf16⟩
  | 94 => ⟨S32768x512, .f32⟩
  | 95 => ⟨S32768x256, .bf16⟩
  | 96 => ⟨S2048x256, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S1x512x256, .bf16⟩
  | .local _ .vmem, ⟨3, _⟩ => ⟨S1x512x256, .bf16⟩
  | .local _ .vmem, ⟨4, _⟩ => ⟨S128x128, .f32⟩
  | .local _ .vmem, ⟨5, _⟩ => ⟨S128x128, .f32⟩
  | .local _ .vmem, ⟨6, _⟩ => ⟨S512x128, .bf16⟩
  | .local _ .vmem, ⟨7, _⟩ => ⟨S2x512x128, .bf16⟩
  | .local _ .vmem, ⟨8, _⟩ => ⟨S512x128, .bf16⟩
  | .local _ .vmem, ⟨9, _⟩ => ⟨S128x512, .f32⟩
  | .local _ .vmem, ⟨10, _⟩ => ⟨S128x512, .f32⟩
  | .local _ .vmem, ⟨11, _⟩ => ⟨S128x256, .bf16⟩
  | .local _ .vmem, ⟨12, _⟩ => ⟨S128x256, .bf16⟩
  | .local _ .vmem, ⟨13, _⟩ => ⟨S8x256, .f32⟩
  | .local _ .vmem, ⟨14, _⟩ => ⟨S8x256, .f32⟩
  | .local _ .vmem, ⟨15, _⟩ => ⟨S128x256, .f32⟩
  | .local _ .vmem, ⟨16, _⟩ => ⟨S2x512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_v19 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v33 : Ref sig .tc := ⟨.hbm, 68, rfl⟩
abbrev main_c_8 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_9 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v37 : Ref sig .tc := ⟨.hbm, 94, rfl⟩
abbrev main_c_10 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_v38 : Ref sig .tc := ⟨.hbm, 100, rfl⟩
abbrev main_call5_v0 : Ref sig .tc := ⟨.hbm, 101, rfl⟩
abbrev main_call5_v1 : Ref sig .tc := ⟨.hbm, 102, rfl⟩
abbrev main_v39 : Ref sig .tc := ⟨.hbm, 103, rfl⟩
abbrev main_v40 : Ref sig .tc := ⟨.hbm, 104, rfl⟩
abbrev main_c_11 : Ref sig .tc := ⟨.hbm, 105, rfl⟩
abbrev main_v41 : Ref sig .tc := ⟨.hbm, 106, rfl⟩
abbrev main_v42 : Ref sig .tc := ⟨.hbm, 107, rfl⟩
abbrev main_c_12 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_c_13 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_c_14 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_call6_v5 : Ref sig .tc := ⟨.hbm, 123, rfl⟩
abbrev main_call6_v6 : Ref sig .tc := ⟨.hbm, 124, rfl⟩
abbrev main_call6_v7 : Ref sig .tc := ⟨.hbm, 125, rfl⟩
abbrev main_call6_v8 : Ref sig .tc := ⟨.hbm, 126, rfl⟩
abbrev main_call6_c : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_c_0 : Ref sig .tc := ⟨.hbm, 131, rfl⟩
abbrev main_call6_v12 : Ref sig .tc := ⟨.hbm, 132, rfl⟩
abbrev main_call6_v13 : Ref sig .tc := ⟨.hbm, 133, rfl⟩
abbrev main_v50 : Ref sig .tc := ⟨.hbm, 134, rfl⟩
abbrev main_c_15 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_c_16 : Ref sig .tc := ⟨.hbm, 139, rfl⟩
abbrev main_call7_v0 : Ref sig .tc := ⟨.hbm, 140, rfl⟩
abbrev main_call7_c : Ref sig .tc := ⟨.hbm, 141, rfl⟩
abbrev main_call7_v1 : Ref sig .tc := ⟨.hbm, 142, rfl⟩
abbrev main_call7_c_0 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_c_1 : Ref sig .tc := ⟨.hbm, 147, rfl⟩
abbrev main_call7_v5 : Ref sig .tc := ⟨.hbm, 148, rfl⟩
abbrev main_call7_v6 : Ref sig .tc := ⟨.hbm, 149, rfl⟩
abbrev main_call7_c_2 : Ref sig .tc := ⟨.hbm, 150, rfl⟩
abbrev main_call7_v7 : Ref sig .tc := ⟨.hbm, 151, rfl⟩
abbrev main_call7_v8 : Ref sig .tc := ⟨.hbm, 152, rfl⟩
abbrev main_call7_c_3 : Ref sig .tc := ⟨.hbm, 153, rfl⟩
abbrev main_call7_v9 : Ref sig .tc := ⟨.hbm, 154, rfl⟩
abbrev main_call7_v10 : Ref sig .tc := ⟨.hbm, 155, rfl⟩
abbrev main_call7_v11 : Ref sig .tc := ⟨.hbm, 156, rfl⟩
abbrev main_call7_v12 : Ref sig .tc := ⟨.hbm, 157, rfl⟩
abbrev main_call7_v13 : Ref sig .tc := ⟨.hbm, 158, rfl⟩
abbrev main_call7_v14 : Ref sig .tc := ⟨.hbm, 159, rfl⟩
abbrev main_v54 : Ref sig .tc := ⟨.hbm, 160, rfl⟩
abbrev main_c_17 : Ref sig .tc := ⟨.hbm, 161, rfl⟩
abbrev main_call8_v0 : Ref sig .tc := ⟨.hbm, 162, rfl⟩
abbrev main_call8_v1 : Ref sig .tc := ⟨.hbm, 163, rfl⟩
abbrev main_call8_v2 : Ref sig .tc := ⟨.hbm, 164, rfl⟩
abbrev main_call8_v3 : Ref sig .tc := ⟨.hbm, 165, rfl⟩
abbrev main_v55 : Ref sig .tc := ⟨.hbm, 166, rfl⟩
abbrev main_call9_v0 : Ref sig .tc := ⟨.hbm, 167, rfl⟩
abbrev main_call9_v1 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_c_18 : Ref sig .tc := ⟨.hbm, 174, rfl⟩
abbrev main_call10_v0 : Ref sig .tc := ⟨.hbm, 175, rfl⟩
abbrev main_call10_v1 : Ref sig .tc := ⟨.hbm, 176, rfl⟩
abbrev main_call10_v2 : Ref sig .tc := ⟨.hbm, 177, rfl⟩
abbrev main_call10_v3 : Ref sig .tc := ⟨.hbm, 178, rfl⟩
abbrev main_call10_v4 : Ref sig .tc := ⟨.hbm, 179, rfl⟩
abbrev main_call10_v5 : Ref sig .tc := ⟨.hbm, 180, rfl⟩
abbrev main_call10_v6 : Ref sig .tc := ⟨.hbm, 181, rfl⟩
abbrev main_call10_v7 : Ref sig .tc := ⟨.hbm, 182, rfl⟩
abbrev main_call10_v8 : Ref sig .tc := ⟨.hbm, 183, rfl⟩
abbrev main_call10_c : Ref sig .tc := ⟨.hbm, 184, rfl⟩
abbrev main_call10_v9 : Ref sig .tc := ⟨.hbm, 185, rfl⟩
abbrev main_call10_v10 : Ref sig .tc := ⟨.hbm, 186, rfl⟩
abbrev main_call10_v11 : Ref sig .tc := ⟨.hbm, 187, rfl⟩
abbrev main_call10_c_0 : Ref sig .tc := ⟨.hbm, 188, rfl⟩
abbrev main_call10_v12 : Ref sig .tc := ⟨.hbm, 189, rfl⟩
abbrev main_call10_v13 : Ref sig .tc := ⟨.hbm, 190, rfl⟩
abbrev main_v61 : Ref sig .tc := ⟨.hbm, 191, rfl⟩
abbrev main_v62 : Ref sig .tc := ⟨.hbm, 192, rfl⟩
abbrev main_v63 : Ref sig .tc := ⟨.hbm, 193, rfl⟩
abbrev main_v64 : Ref sig .tc := ⟨.hbm, 194, rfl⟩
abbrev main_v65 : Ref sig .tc := ⟨.hbm, 195, rfl⟩
abbrev main_v66 : Ref sig .tc := ⟨.hbm, 196, rfl⟩
abbrev main_v67 : Ref sig .tc := ⟨.hbm, 197, rfl⟩
abbrev main_v68 : Ref sig .tc := ⟨.hbm, 198, rfl⟩
abbrev main_v69 : Ref sig .tc := ⟨.hbm, 199, rfl⟩
abbrev main_c_19 : Ref sig .tc := ⟨.hbm, 200, rfl⟩
abbrev main_v70 : Ref sig .tc := ⟨.hbm, 201, rfl⟩
abbrev main_v71 : Ref sig .tc := ⟨.hbm, 202, rfl⟩
abbrev main_v72 : Ref sig .tc := ⟨.hbm, 203, rfl⟩
abbrev main_v73 : Ref sig .tc := ⟨.hbm, 204, rfl⟩
abbrev main_c_20 : Ref sig .tc := ⟨.hbm, 205, rfl⟩
abbrev main_v74 : Ref sig .tc := ⟨.hbm, 206, rfl⟩
abbrev main_v75 : Ref sig .tc := ⟨.hbm, 207, rfl⟩
abbrev main_c_21 : Ref sig .tc := ⟨.hbm, 208, rfl⟩
abbrev main_v76 : Ref sig .tc := ⟨.hbm, 209, rfl⟩
abbrev main_v77 : Ref sig .tc := ⟨.hbm, 210, rfl⟩
abbrev main_v78 : Ref sig .tc := ⟨.hbm, 211, rfl⟩
abbrev main_v79 : Ref sig .tc := ⟨.hbm, 212, rfl⟩
abbrev main_v80 : Ref sig .tc := ⟨.hbm, 213, rfl⟩
abbrev main_c_22 : Ref sig .tc := ⟨.hbm, 214, rfl⟩
abbrev main_v81 : Ref sig .tc := ⟨.hbm, 215, rfl⟩
abbrev main_v82 : Ref sig .tc := ⟨.hbm, 216, rfl⟩
abbrev main_v83 : Ref sig .tc := ⟨.hbm, 217, rfl⟩
abbrev main_v84 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_v88_0 : Ref sig .tc := ⟨.hbm, 222, rfl⟩
abbrev main_v88_1 : Ref sig .tc := ⟨.hbm, 223, rfl⟩
abbrev main_v88_2 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel8Ideal.lean ====
variable {F : FTy → Type} [FloatOps F] [Named F]
def κ : String → Option EReal := fun
  | "half" => some ⊥
  | "mask" => some ⊥
  | _ => none
-- ==== Reference8Ideal.lean ====
abbrev S32768x1024 : Shape := ⟨2, ![32768, 1024]⟩
abbrev S4x512x256 : Shape := ⟨3, ![4, 512, 256]⟩
abbrev S32768x128 : Shape := ⟨2, ![32768, 128]⟩
abbrev S4x8192x2x4x128 : Shape := ⟨5, ![4, 8192, 2, 4, 128]⟩
abbrev S4x512x128 : Shape := ⟨3, ![4, 512, 128]⟩
abbrev S4x512x2x64 : Shape := ⟨4, ![4, 512, 2, 64]⟩
abbrev S32768x24 : Shape := ⟨2, ![32768, 24]⟩
abbrev S_ : Shape := ⟨0, ![]⟩
abbrev S4x8192x2x4x3 : Shape := ⟨5, ![4, 8192, 2, 4, 3]⟩
abbrev S8 : Shape := ⟨1, ![8]⟩
abbrev S2x4 : Shape := ⟨2, ![2, 4]⟩
abbrev S8192 : Shape := ⟨1, ![8192]⟩
abbrev S8192x1 : Shape := ⟨2, ![8192, 1]⟩
abbrev S512 : Shape := ⟨1, ![512]⟩
abbrev S1x512 : Shape := ⟨2, ![1, 512]⟩
abbrev S8192x512 : Shape := ⟨2, ![8192, 512]⟩
abbrev S4x512x8192x2x4 : Shape := ⟨5, ![4, 512, 8192, 2, 4]⟩
abbrev S4x2x4x8192x512 : Shape := ⟨5, ![4, 2, 4, 8192, 512]⟩
abbrev S2x4x1x1 : Shape := ⟨4, ![2, 4, 1, 1]⟩
abbrev S1x1x8192x512 : Shape := ⟨4, ![1, 1, 8192, 512]⟩
abbrev S2x4x8192x512 : Shape := ⟨4, ![2, 4, 8192, 512]⟩
abbrev S1x2x4x8192x512 : Shape := ⟨5, ![1, 2, 4, 8192, 512]⟩
abbrev S4x2x4x8192 : Shape := ⟨4, ![4, 2, 4, 8192]⟩
abbrev S4x2x4x8192x1 : Shape := ⟨5, ![4, 2, 4, 8192, 1]⟩
abbrev S4x8192x2x4x1 : Shape := ⟨5, ![4, 8192, 2, 4, 1]⟩
abbrev S4x2x64x4x8192 : Shape := ⟨5, ![4, 2, 64, 4, 8192]⟩
abbrev S4x8192x2x4x64 : Shape := ⟨5, ![4, 8192, 2, 4, 64]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S4x2x8192x512 : Shape := ⟨4, ![4, 2, 8192, 512]⟩
abbrev S4x2x8192x128 : Shape := ⟨4, ![4, 2, 8192, 128]⟩
abbrev S8192x128 : Shape := ⟨2, ![8192, 128]⟩
abbrev S4x2x8192x16 : Shape := ⟨4, ![4, 2, 8192, 16]⟩
abbrev S4x2x8192x16x1 : Shape := ⟨5, ![4, 2, 8192, 16, 1]⟩
abbrev S1x1x1x1x128 : Shape := ⟨5, ![1, 1, 1, 1, 128]⟩
abbrev S4x2x8192x16x128 : Shape := ⟨5, ![4, 2, 8192, 16, 128]⟩
abbrev S4x8192x2x128 : Shape := ⟨4, ![4, 8192, 2, 128]⟩
abbrev S32768x256 : Shape := ⟨2, ![32768, 256]⟩
abbrev S256x128x256 : Shape := ⟨3, ![256, 128, 256]⟩
abbrev S256x256 : Shape := ⟨2, ![256, 256]⟩
abbrev S256x1x256 : Shape := ⟨3, ![256, 1, 256]⟩
abbrev S256x8x256 : Shape := ⟨3, ![256, 8, 256]⟩
abbrev S2048x256 : Shape := ⟨2, ![2048, 256]⟩
abbrev S4x8192x4x2x64 : Shape := ⟨5, ![4, 8192, 4, 2, 64]⟩
abbrev S32768x512 : Shape := ⟨2, ![32768, 512]⟩

abbrev nBuf : Space → Nat
  | .hbm => 189
  | .vmem => 0
  | .smem => 0
  | _ => 0

abbrev hbmTy0_0 (i : Nat) : BufTy := match i % 128 with
  | 0 => ⟨S32768x1024, .bf16⟩
  | 1 => ⟨S4x512x256, .bf16⟩
  | 2 => ⟨S32768x128, .f32⟩
  | 3 => ⟨S32768x1024, .f32⟩
  | 4 => ⟨S4x8192x2x4x128, .f32⟩
  | 5 => ⟨S4x512x128, .bf16⟩
  | 6 => ⟨S4x512x128, .f32⟩
  | 7 => ⟨S4x512x128, .bf16⟩
  | 8 => ⟨S4x512x128, .f32⟩
  | 9 => ⟨S4x512x2x64, .f32⟩
  | 10 => ⟨S32768x24, .f32⟩
  | 11 => ⟨S32768x24, .f32⟩
  | 12 => ⟨S32768x24, .f32⟩
  | 13 => ⟨S_, .f32⟩
  | 14 => ⟨S32768x24, .f32⟩
  | 15 => ⟨S32768x24, .f32⟩
  | 16 => ⟨S_, .f32⟩
  | 17 => ⟨S32768x24, .f32⟩
  | 18 => ⟨S32768x24, .f32⟩
  | 19 => ⟨S4x8192x2x4x3, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S8, .f32⟩
  | 34 => ⟨S2x4, .f32⟩
  | 35 => ⟨S8192, .i32⟩
  | 36 => ⟨S8192x1, .i32⟩
  | 37 => ⟨S512, .i32⟩
  | 38 => ⟨S_, .i32⟩
  | 39 => ⟨S512, .i32⟩
  | 40 => ⟨S512, .i32⟩
  | 41 => ⟨S_, .i32⟩
  | 42 => ⟨S512, .i32⟩
  | 43 => ⟨S512, .i32⟩
  | 44 => ⟨S1x512, .i32⟩
  | 45 => ⟨S8192x512, .i32⟩
  | 46 => ⟨S8192x512, .i32⟩
  | 47 => ⟨S8192x512, .i32⟩
  | 48 => ⟨S_, .i32⟩
  | 49 => ⟨S8192x512, .i32⟩
  | 50 => ⟨S8192x512, .i1⟩
  | 51 => ⟨S4x512x8192x2x4, .f32⟩
  | 52 => ⟨S4x2x4x8192x512, .f32⟩
  | 53 => ⟨S2x4x1x1, .f32⟩
  | 54 => ⟨S8192x512, .f32⟩
  | 55 => ⟨S1x1x8192x512, .f32⟩
  | 56 => ⟨S2x4x8192x512, .f32⟩
  | 57 => ⟨S2x4x8192x512, .f32⟩
  | 58 => ⟨S2x4x8192x512, .f32⟩
  | 59 => ⟨S1x2x4x8192x512, .f32⟩
  | 60 => ⟨S4x2x4x8192x512, .f32⟩
  | 61 => ⟨S4x2x4x8192x512, .f32⟩
  | 62 => ⟨S_, .f32⟩
  | 63 => ⟨S_, .f32⟩
  | 64 => ⟨S4x2x4x8192x512, .i1⟩
  | 65 => ⟨S4x2x4x8192x512, .f32⟩
  | 66 => ⟨S4x2x4x8192x512, .f32⟩
  | 67 => ⟨S_, .f32⟩
  | 68 => ⟨S4x2x4x8192, .f32⟩
  | 69 => ⟨S4x2x4x8192x1, .f32⟩
  | 70 => ⟨S4x2x4x8192x512, .f32⟩
  | 71 => ⟨S4x2x4x8192x512, .f32⟩
  | 72 => ⟨S4x2x4x8192x512, .f32⟩
  | 73 => ⟨S_, .f32⟩
  | 74 => ⟨S_, .f32⟩
  | 75 => ⟨S4x2x4x8192x512, .i1⟩
  | 76 => ⟨S4x2x4x8192x512, .f32⟩
  | 77 => ⟨S4x2x4x8192x512, .f32⟩
  | 78 => ⟨S_, .f32⟩
  | 79 => ⟨S4x2x4x8192, .f32⟩
  | 80 => ⟨S4x2x4x8192x1, .f32⟩
  | 81 => ⟨S_, .f32⟩
  | 82 => ⟨S4x2x4x8192x1, .f32⟩
  | 83 => ⟨S4x2x4x8192x1, .f32⟩
  | 84 => ⟨S4x2x4x8192x512, .f32⟩
  | 85 => ⟨S4x2x4x8192x512, .f32⟩
  | 86 => ⟨S4x8192x2x4x1, .f32⟩
  | 87 => ⟨S4x2x64x4x8192, .f32⟩
  | 88 => ⟨S4x8192x2x4x64, .f32⟩
  | 89 => ⟨S4x8192x2x4x64, .f32⟩
  | 90 => ⟨S4x8192x2x4x64, .f32⟩
  | 91 => ⟨S512, .i32⟩
  | 92 => ⟨S512x1, .i32⟩
  | 93 => ⟨S_, .i32⟩
  | 94 => ⟨S512x1, .i32⟩
  | 95 => ⟨S512x1, .i32⟩
  | 96 => ⟨S128, .i32⟩
  | 97 => ⟨S_, .i32⟩
  | 98 => ⟨S128, .i32⟩
  | 99 => ⟨S128, .i32⟩
  | 100 => ⟨S_, .i32⟩
  | 101 => ⟨S128, .i32⟩
  | 102 => ⟨S128, .i32⟩
  | 103 => ⟨S1x128, .i32⟩
  | 104 => ⟨S512x128, .i32⟩
  | 105 => ⟨S512x128, .i32⟩
  | 106 => ⟨S512x128, .i1⟩
  | 107 => ⟨S_, .i32⟩
  | 108 => ⟨S512x1, .i32⟩
  | 109 => ⟨S512x1, .i32⟩
  | 110 => ⟨S_, .i32⟩
  | 111 => ⟨S128, .i32⟩
  | 112 => ⟨S128, .i32⟩
  | 113 => ⟨S1x128, .i32⟩
  | 114 => ⟨S512x128, .i32⟩
  | 115 => ⟨S512x128, .i32⟩
  | 116 => ⟨S512x128, .i1⟩
  | 117 => ⟨S512x128, .i1⟩
  | 118 => ⟨S512x128, .f32⟩
  | 119 => ⟨S_, .f32⟩
  | 120 => ⟨S4x2x8192x512, .f32⟩
  | 121 => ⟨S4x2x8192x128, .f32⟩
  | 122 => ⟨S8192, .i32⟩
  | 123 => ⟨S_, .i32⟩
  | 124 => ⟨S8192, .i32⟩
  | 125 => ⟨S8192, .i32⟩
  | 126 => ⟨S8192x1, .i32⟩
  | 127 => ⟨S_, .i32⟩
  | _ => ⟨S32768x1024, .bf16⟩

abbrev hbmTy0_1 (i : Nat) : BufTy := match i % 128 with
  | 0 => ⟨S128, .i32⟩
  | 1 => ⟨S128, .i1⟩
  | 2 => ⟨S1x128, .i32⟩
  | 3 => ⟨S8192x128, .i32⟩
  | 4 => ⟨S8192x128, .i32⟩
  | 5 => ⟨S8192x128, .i1⟩
  | 6 => ⟨S1x128, .i1⟩
  | 7 => ⟨S8192x128, .i1⟩
  | 8 => ⟨S8192x128, .i1⟩
  | 9 => ⟨S_, .i32⟩
  | 10 => ⟨S8192x1, .i32⟩
  | 11 => ⟨S8192x1, .i32⟩
  | 12 => ⟨S1x128, .i32⟩
  | 13 => ⟨S8192x128, .i32⟩
  | 14 => ⟨S8192x128, .i32⟩
  | 15 => ⟨S8192x128, .i1⟩
  | 16 => ⟨S8192x128, .i1⟩
  | 17 => ⟨S1x128, .i32⟩
  | 18 => ⟨S8192x128, .i32⟩
  | 19 => ⟨S8192x128, .i32⟩
  | 20 => ⟨S8192x128, .i1⟩
  | 21 => ⟨S_, .f32⟩
  | 22 => ⟨S_, .f32⟩
  | 23 => ⟨S4x2x8192x128, .i1⟩
  | 24 => ⟨S4x2x8192x128, .f32⟩
  | 25 => ⟨S4x2x8192x128, .f32⟩
  | 26 => ⟨S_, .f32⟩
  | 27 => ⟨S_, .f32⟩
  | 28 => ⟨S4x2x8192x128, .i1⟩
  | 29 => ⟨S4x2x8192x128, .f32⟩
  | 30 => ⟨S4x2x8192x128, .f32⟩
  | 31 => ⟨S4x2x8192x16, .f32⟩
  | 32 => ⟨S4x2x8192x16, .i32⟩
  | 33 => ⟨S1x128, .i32⟩
  | 34 => ⟨S8192x128, .i32⟩
  | 35 => ⟨S8192x128, .i32⟩
  | 36 => ⟨S8192x128, .i1⟩
  | 37 => ⟨S4x2x8192x16x1, .i32⟩
  | 38 => ⟨S1x1x1x1x128, .i32⟩
  | 39 => ⟨S4x2x8192x16x128, .i32⟩
  | 40 => ⟨S4x2x8192x16x128, .i32⟩
  | 41 => ⟨S4x2x8192x16x128, .i1⟩
  | 42 => ⟨S4x2x8192x16x128, .f32⟩
  | 43 => ⟨S_, .f32⟩
  | 44 => ⟨S4x2x8192x128, .f32⟩
  | 45 => ⟨S_, .f32⟩
  | 46 => ⟨S_, .f32⟩
  | 47 => ⟨S4x2x8192x128, .i1⟩
  | 48 => ⟨S4x2x8192x128, .f32⟩
  | 49 => ⟨S4x2x8192x128, .f32⟩
  | 50 => ⟨S4x8192x2x128, .f32⟩
  | 51 => ⟨S32768x256, .f32⟩
  | 52 => ⟨S256x128x256, .f32⟩
  | 53 => ⟨S_, .f32⟩
  | 54 => ⟨S256x256, .f32⟩
  | 55 => ⟨S256x1x256, .f32⟩
  | 56 => ⟨S256x8x256, .f32⟩
  | 57 => ⟨S2048x256, .f32⟩
  | 58 => ⟨S4x8192x4x2x64, .f32⟩
  | 59 => ⟨S32768x512, .f32⟩
  | 60 => ⟨S32768x256, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_13 : Ref sig .tc := ⟨.hbm, 97, rfl⟩
abbrev main_v73 : Ref sig .tc := ⟨.hbm, 98, rfl⟩
abbrev main_v74 : Ref sig .tc := ⟨.hbm, 99, rfl⟩
abbrev main_c_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_15 : Ref sig .tc := ⟨.hbm, 107, rfl⟩
abbrev main_v81 : Ref sig .tc := ⟨.hbm, 108, rfl⟩
abbrev main_v82 : Ref sig .tc := ⟨.hbm, 109, rfl⟩
abbrev main_c_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_18 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_c_20 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_21 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_v117 : Ref sig .tc := ⟨.hbm, 153, rfl⟩
abbrev main_cst_22 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_v118 : Ref sig .tc := ⟨.hbm, 158, rfl⟩
abbrev main_values : Ref sig .tc := ⟨.hbm, 159, rfl⟩
abbrev main_indices : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_23 : Ref sig .tc := ⟨.hbm, 171, rfl⟩
abbrev main_v129 : Ref sig .tc := ⟨.hbm, 172, rfl⟩
abbrev main_cst_24 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_25 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩

abbrev nD : Nat := 1
abbrev τ : Topo := Topo.v7x

variable {F : FTy → Type} [FloatOps F]
-- ==== Proof.Merge.Spec.lean ====
/-
  The merge layer written out over coordinates: three sigmoid gates, three up-projections, the output projection,
  the scaled residual and the layer norm, each at one row and one column of extended reals.
-/
module

public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Merge

/-- The sigmoid as both programs spell it: one over one plus the exponential of the negation. -/
def sigm (z : EReal) : EReal := Ideal.div 1 (1 + Ideal.exp (-z))

/-- The layer norm of one row `h` at column `c`, scale `g` and shift `b`: deviation from the mean times the inverse
    square root of the mean square deviation (plus a small constant). -/
def norm (h : Fin 1024 → EReal) (g b : EReal) (c : Fin 1024) : EReal :=
  (h c - Ideal.div (∑ l : Fin 1024, h l) (Ideal.ofBits .f32 0x44800000#32))
    * Ideal.rsqrt (Ideal.div (∑ l : Fin 1024, (h l - Ideal.div (∑ l : Fin 1024, h l) (Ideal.ofBits .f32 0x44800000#32))
        * (h l - Ideal.div (∑ l : Fin 1024, h l) (Ideal.ofBits .f32 0x44800000#32))) (Ideal.ofBits .f32 0x44800000#32)
      + Ideal.ofBits .f32 0x3727C5AC#32) * g + b

/-- One row before the norm: `x` is the row of the residual stream (`xb` the same row as the gates read it), `wg j` the
    columns of the gates' weights, `o j` the branches' rows, `wu j` their up-projections, `wo` the output projection. -/
def hrow (x xb : Fin 1024 → EReal) (wg : Fin 3 → Fin 1024 → Fin 1024 → EReal) (o : Fin 3 → Fin 512 → EReal)
    (wu : Fin 3 → Fin 512 → Fin 1024 → EReal) (wo : Fin 1024 → Fin 1024 → EReal) (c : Fin 1024) : EReal :=
  Ideal.ofBits .f32 0x3FD744FD#32 * x c
    + ∑ k : Fin 1024, (sigm (∑ d : Fin 1024, xb d * wg 0 d k) * (∑ e : Fin 512, o 0 e * wu 0 e k)
        + sigm (∑ d : Fin 1024, xb d * wg 1 d k) * (∑ e : Fin 512, o 1 e * wu 1 e k)
        + sigm (∑ d : Fin 1024, xb d * wg 2 d k) * (∑ e : Fin 512, o 2 e * wu 2 e k)) * wo k c

theorem norm_congr {h h' : Fin 1024 → EReal} {g g' b b' : EReal} (c : Fin 1024) (hh : ∀ l, h l = h' l) (hg : g = g') (hb : b = b') :
    norm h g b c = norm h' g' b' c := by
  rw [funext hh, hg, hb]

theorem hrow_congr {x x' xb xb' : Fin 1024 → EReal} {wg wg' : Fin 3 → Fin 1024 → Fin 1024 → EReal} {o o' : Fin 3 → Fin 512 → EReal}
    {wu wu' : Fin 3 → Fin 512 → Fin 1024 → EReal} {wo wo' : Fin 1024 → Fin 1024 → EReal} (hx : ∀ d, x d = x' d) (hxb : ∀ d, xb d = xb' d)
    (hg : ∀ j d k, wg j d k = wg' j d k) (hu : ∀ j k, ∑ e, o j e * wu j e k = ∑ e, o' j e * wu' j e k) (ho : ∀ k c, wo k c = wo' k c)
    (c : Fin 1024) : hrow x xb wg o wu wo c = hrow x' xb' wg' o' wu' wo' c := by
  unfold hrow
  rw [funext hx, funext hxb]
  refine congrArg₂ (· + ·) rfl (Finset.sum_congr rfl fun k _ => ?_)
  simp only [hg, hu, ho]

section
open Cert.Reference2Ideal Cert.Reference2Ideal.Gen Cert.Reference2Ideal.Read

theorem ref_gate0 (x0 : FVec Ideal S32768x1024 .f32) (x4 : FVec Ideal S1024x5400 .f32) (r : Fin 32768) (k : Fin 1024) :
    val_main_v19 (F := Ideal) x0 x4 (ix2 r k) = sigm (∑ d : Fin 1024, x0 (ix2 r d) * x4 (ix2 d ⟨2328 + k.val, by omega⟩)) := by
  pointwise [val_main_v19, val_main_v18, val_main_v17, val_main_v16, val_main_v15, val_main_v14, val_main_v13, val_main_v12, val_main_v11, val_main_v10, val_main_v9, val_main_cst, val_main_cst_0, sigm]

theorem ref_gate1 (x0 : FVec Ideal S32768x1024 .f32) (x4 : FVec Ideal S1024x5400 .f32) (r : Fin 32768) (k : Fin 1024) :
    val_main_v23 (F := Ideal) x0 x4 (ix2 r k) = sigm (∑ d : Fin 1024, x0 (ix2 r d) * x4 (ix2 d ⟨2328 + (1024 + k.val), by omega⟩)) := by
  pointwise [val_main_v23, val_main_v22, val_main_v17, val_main_v16, val_main_v15, val_main_v14, val_main_v13, val_main_v12, val_main_v11, val_main_v10, val_main_v9, val_main_cst, val_main_cst_0, sigm]

theorem ref_gate2 (x0 : FVec Ideal S32768x1024 .f32) (x4 : FVec Ideal S1024x5400 .f32) (r : Fin 32768) (k : Fin 1024) :
    val_main_v28 (F := Ideal) x0 x4 (ix2 r k) = sigm (∑ d : Fin 1024, x0 (ix2 r d) * x4 (ix2 d ⟨2328 + (2048 + k.val), by omega⟩)) := by
  pointwise [val_main_v28, val_main_v27, val_main_v17, val_main_v16, val_main_v15, val_main_v14, val_main_v13, val_main_v12, val_main_v11, val_main_v10, val_main_v9, val_main_cst, val_main_cst_0, sigm]

/-- The gates' columns of the input projection: gate `j`'s column `k` for input `d`. -/
def wgOf (x4 : FVec Ideal S1024x5400 .f32) (j : Fin 3) (d k : Fin 1024) : EReal :=
  x4 (ix2 d ⟨2328 + (1024 * j.val + k.val), by omega⟩)

/-- The branches' rows: the first with its eight heads of 64 back in the order of the weights, the second as it is, the
    third out of its layout by time. -/
def oOf (x1 x2 : FVec Ideal S32768x512 .bf16) (x3 : FVec Ideal S8192x2048 .bf16) (r : Fin 32768) (j : Fin 3) (e : Fin 512) : EReal :=
  match j with
  | 0 => x1 (ix2 r ⟨(e.val / 64 % 4) * 128 + (e.val / 256) * 64 + e.val % 64, by omega⟩)
  | 1 => x2 (ix2 r e)
  | 2 => x3 (ix2 ⟨r.val % 8192, by omega⟩ ⟨r.val / 8192 * 512 + e.val, by omega⟩)

def wuOf (x5 x6 x7 : FVec Ideal S512x1024 .f32) (j : Fin 3) (e : Fin 512) (k : Fin 1024) : EReal :=
  match j with
  | 0 => x5 (ix2 e k)
  | 1 => x6 (ix2 e k)
  | 2 => x7 (ix2 e k)

theorem ref_up0 (x1 : FVec Ideal S32768x512 .bf16) (x5 : FVec Ideal S512x1024 .f32) (r : Fin 32768) (k : Fin 1024) :
    val_main_v20 (F := Ideal) x1 x5 (ix2 r k) = ∑ e : Fin 512, x1 (ix2 r ⟨(e.val / 64 % 4) * 128 + (e.val / 256) * 64 + e.val % 64, by omega⟩) * x5 (ix2 e k) := by
  pointwise [val_main_v20, val_main_v3, val_main_v2, val_main_v1, val_main_v0]

theorem ref_up1 (x2 : FVec Ideal S32768x512 .bf16) (x6 : FVec Ideal S512x1024 .f32) (r : Fin 32768) (k : Fin 1024) :
    val_main_v24 (F := Ideal) x2 x6 (ix2 r k) = ∑ e : Fin 512, x2 (ix2 r e) * x6 (ix2 e k) := by
  pointwise [val_main_v24, val_main_v4]

theorem ref_up2 (x3 : FVec Ideal S8192x2048 .bf16) (x7 : FVec Ideal S512x1024 .f32) (r : Fin 32768) (k : Fin 1024) :
    val_main_v29 (F := Ideal) x3 x7 (ix2 r k) = ∑ e : Fin 512, x3 (ix2 ⟨r.val % 8192, by omega⟩ ⟨r.val / 8192 * 512 + e.val, by omega⟩) * x7 (ix2 e k) := by
  pointwise [val_main_v29, val_main_v8, val_main_v7, val_main_v6, val_main_v5]

variable (x0 : FVec Ideal S32768x1024 .f32) (x1 x2 : FVec Ideal S32768x512 .bf16) (x3 : FVec Ideal S8192x2048 .bf16) (x4 : FVec Ideal S1024x5400 .f32) (x5 x6 x7 : FVec Ideal S512x1024 .f32)
  (x8 : FVec Ideal S1024x1024 .f32) (x9 x10 : FVec Ideal S1024 .f32)

/-- The row before the norm, of the whole arrays. -/
abbrev rowOf (r : Fin 32768) : Fin 1024 → EReal :=
  hrow (fun d => x0 (ix2 r d)) (fun d => x0 (ix2 r d)) (wgOf x4) (oOf x1 x2 x3 r) (wuOf x5 x6 x7) (fun k c => x8 (ix2 k c))

theorem ref_row (r : Fin 32768) (c : Fin 1024) :
    val_main_v35 (F := Ideal) x0 x1 x2 x3 x4 x5 x6 x7 x8 (ix2 r c) = rowOf x0 x1 x2 x3 x4 x5 x6 x7 x8 r c := by
  have hm : ∀ k : Fin 1024, val_main_v31 (F := Ideal) x0 x1 x2 x3 x4 x5 x6 x7 (ix2 r k) = _ := fun k => by
    show ((val_main_v19 (F := Ideal) x0 x4 (ix2 r k) * val_main_v20 (F := Ideal) x1 x5 (ix2 r k) : EReal) + val_main_v23 (F := Ideal) x0 x4 (ix2 r k) * val_main_v24 (F := Ideal) x2 x6 (ix2 r k))
      + val_main_v28 (F := Ideal) x0 x4 (ix2 r k) * val_main_v29 (F := Ideal) x3 x7 (ix2 r k) = _
    rw [ref_gate0, ref_gate1, ref_gate2, ref_up0, ref_up1, ref_up2]
  pointwise [val_main_v35, val_main_v34, val_main_v33, val_main_v32, val_main_cst_1]
  refine congrArg₂ (· + ·) rfl (Finset.sum_congr rfl fun k _ => ?_)
  rw [hm k]
  simp only [wgOf, oOf, wuOf, Fin.isValue, Fin.val_zero, Fin.val_one, Fin.val_two, Nat.mul_zero, Nat.zero_add, Nat.mul_one, Nat.reduceMul]

theorem ref_eq (r : Fin 32768) (c : Fin 1024) :
    val_main_v59 (F := Ideal) x0 x1 x2 x3 x4 x5 x6 x7 x8 x9 x10 (ix2 r c)
      = norm (rowOf x0 x1 x2 x3 x4 x5 x6 x7 x8 r) (x9 (ix1 c)) (x10 (ix1 c)) c := by
  have h := ref_row x0 x1 x2 x3 x4 x5 x6 x7 x8 r
  generalize rowOf x0 x1 x2 x3 x4 x5 x6 x7 x8 r = H at h ⊢
  pointwise [val_main_v59, val_main_v58, val_main_v57, val_main_v56, val_main_v55, val_main_v54, val_main_v53, val_main_v52, val_main_v51, val_main_v50, val_main_v49, val_main_cst_6,
    val_main_v48, val_main_v47, val_main_v46, val_main_v45, val_main_cst_5, val_main_v44, val_main_v43, val_main_cst_4, val_main_v42, val_main_v41, val_main_v40, val_main_v39, val_main_v38, val_main_cst_3,
    val_main_v37, val_main_v36, val_main_cst_2, norm, h]

end
end Cert.Merge
-- ==== Proof.Merge.Block.lean ====
/-
  What the merge kernel computes in one block, row by row, over the blocks of its windows.
-/
module

public import proofs.«01_k».proof.Proof.Merge.Spec
public import proofs.«01_k».proof.Proof.Gen.Kernel2Ideal.Skeleton

@[expose] public section

set_option maxRecDepth 16384

noncomputable section

open Idealize.ShloMosaic Idealize.ShloMosaic.TcCoe Idealize.SL.Sem

namespace Cert.Merge

open Cert.Kernel2Ideal Cert.Kernel2Ideal.Gen

variable (xb : FVec Ideal S512x1024 .bf16) (w0 w1 w2 : FVec Ideal S1024x1024 .bf16) (o0 o1 o2 : FVec Ideal S512x512 .bf16)
  (u0 u1 u2 : FVec Ideal S512x1024 .bf16) (x : FVec Ideal S512x1024 .f32) (wo : FVec Ideal S1024x1024 .bf16)
  (g b : FVec Ideal S1x1024 .f32)

/-- A block's row before the norm. -/
abbrev rowB (r : Fin 512) : Fin 1024 → EReal :=
  hrow (fun d => x (ix2 r d)) (fun d => xb (ix2 r d))
    (fun j d k => match j with | 0 => w0 (ix2 d k) | 1 => w1 (ix2 d k) | 2 => w2 (ix2 d k))
    (fun j e => match j with | 0 => o0 (ix2 r e) | 1 => o1 (ix2 r e) | 2 => o2 (ix2 r e))
    (fun j e k => match j with | 0 => u0 (ix2 e k) | 1 => u1 (ix2 e k) | 2 => u2 (ix2 e k))
    (fun k c => wo (ix2 k c))

/-- The two gated branches the first part of the body adds up. -/
theorem pay4_eq (r : Fin 512) (k : Fin 1024) :
    k0_pay4 (F := Ideal) xb w0 o0 u0 w1 o1 u1 (ix2 r k)
      = sigm (∑ d : Fin 1024, xb (ix2 r d) * w0 (ix2 d k)) * (∑ e : Fin 512, o0 (ix2 r e) * u0 (ix2 e k))
        + sigm (∑ d : Fin 1024, xb (ix2 r d) * w1 (ix2 d k)) * (∑ e : Fin 512, o1 (ix2 r e) * u1 (ix2 e k)) := by
  pointwise [k0_pay4, k0_pay3, sigm]
  simp only [zero_sub]

/-- The deviation from the row's mean. -/
theorem pay7_eq (r : Fin 512) (c : Fin 1024) :
    k0_pay7 (F := Ideal) (k0_pay3 xb) (k0_pay4 xb w0 o0 u0 w1 o1 u1) w2 o2 u2 x wo (ix2 r c)
      = rowB xb w0 w1 w2 o0 o1 o2 u0 u1 u2 x wo r c
        - Ideal.div (∑ l : Fin 1024, rowB xb w0 w1 w2 o0 o1 o2 u0 u1 u2 x wo r l) (Ideal.ofBits .f32 0x44800000#32) := by
  have h := pay4_eq xb w0 w1 o0 o1 u0 u1
  generalize k0_pay4 (F := Ideal) xb w0 o0 u0 w1 o1 u1 = v at h ⊢
  pointwise [k0_pay7, k0_pay3, hrow, sigm, h]
  simp only [zero_sub]

theorem pay1_eq (r : Fin 512) (c : Fin 1024) :
    k0_pay1 (F := Ideal) (k0_pay5 g) (k0_pay6 b) (k0_pay7 (k0_pay3 xb) (k0_pay4 xb w0 o0 u0 w1 o1 u1) w2 o2 u2 x wo)
        (k0_pay8 (k0_pay3 xb) (k0_pay4 xb w0 o0 u0 w1 o1 u1) w2 o2 u2 x wo) (ix2 r c)
      = norm (rowB xb w0 w1 w2 o0 o1 o2 u0 u1 u2 x wo r) (g (ix2 0 c)) (b (ix2 0 c)) c := by
  have h := pay7_eq xb w0 w1 w2 o0 o1 o2 u0 u1 u2 x wo
  unfold k0_pay8
  generalize k0_pay7 (F := Ideal) (k0_pay3 xb) (k0_pay4 xb w0 o0 u0 w1 o1 u1) w2 o2 u2 x wo = v at h ⊢
  generalize rowB xb w0 w1 w2 o0 o1 o2 u0 u1 u2 x wo = H at h ⊢
  pointwise [k0_pay1, k0_pay5, k0_pay6, norm, h]

end Cert.Merge
-- ==== Proof.Merge.Value.lean ====
/-
  The merge kernel's two result arrays after the run: every row of the layer, and the same rows narrowed.
-/
module

public import proofs.«01_k».proof.Proof.Merge.Block
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Merge

open Cert.Kernel2Ideal Cert.Kernel2Ideal.Gen

variable (m : (ℓ : Loc nD τ sig) → Buf (Elt Ideal) ℓ)

/-- Every window's block index at every point of the grid, in the point's number. -/
theorem idx : ∀ t : Fin cfg0.N, win0_0.index t = ![t.val, 0] ∧ win0_1.index t = ![t.val, 0] ∧ win0_2.index t = ![t.val % 16, t.val / 16]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] ∧ win0_13.index t = ![t.val, 0] :=
  (by decide +kernel : ∀ t : Fin grid0.N, _)

/-- The layer's result array. -/
def G (c : Dev nD) : FVec Ideal S32768x1024 .f32 := fun i =>
  norm (rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0))
    ((m ((c : Thread nD τ).loc main_arg9) : FVec Ideal S1024 .f32) (ix1 (i 1))) ((m ((c : Thread nD τ).loc main_arg10) : FVec Ideal S1024 .f32) (ix1 (i 1))) (i 1)

/-- Where the head a column of the first branch sits at goes in the order of the weights. -/
def heads : Fin 512 ≃ Fin 512 where
  toFun e := ⟨e.val / 64 % 2 * 256 + e.val / 128 * 64 + e.val % 64, by omega⟩
  invFun e := ⟨e.val / 64 % 4 * 128 + e.val / 256 * 64 + e.val % 64, by omega⟩
  left_inv := by decide +kernel
  right_inv := by decide +kernel

theorem point (c : Dev nD) (t : Fin cfg0.N) (y0 : Fin 512) (y1 : Fin 1024) :
    k0_pay1 (F := Ideal)
      (k0_pay11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t))
      (k0_pay12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t))
      (k0_pay13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t))
      (k0_pay14 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t))
      (ix2 y0 y1) =
    G m c (((cfg0.win 12).blk t).view.emb (ix2 y0 y1)) := by
  have hN : t.val < 64 := lt_of_lt_of_eq t.isLt N_0
  have he : ((cfg0.win 12).blk t).view.emb (ix2 y0 y1) = (ix2 ⟨t.val * 512 + y0.val, by omega⟩ y1 : S32768x1024.Idx) := by
    blk_ext [idx t]
  rw [he]
  refine (pay1_eq _ _ _ _ _ _ _ _ _ _ _ _ _ _ y0 y1).trans ?_
  refine norm_congr y1 (fun l => hrow_congr (fun d => ?_) (fun d => ?_) (fun j d k => ?_) (fun j k => ?_) (fun k c' => ?_) l) ?_ ?_
  · pointwise; blk_point [iblk, V, idx t]
  · pointwise; blk_point [iblk, V, idx t]
  · unfold wgOf
    match j with
    | 0 => pointwise; blk_point [iblk, V, idx t]
    | 1 => pointwise; blk_point [iblk, V, idx t]
    | 2 => pointwise; blk_point [iblk, V, idx t]
  · match j with
    | 0 =>
      refine (Fintype.sum_equiv heads _ _ fun e => congrArg₂ (· * ·) ?_ ?_)
      · show View.ld (iblk m c 0 t) r0_2 (ix2 y0 e) = (m ((c : Thread nD τ).loc main_arg1) : FVec Ideal S32768x512 .bf16)
          (ix2 ⟨t.val * 512 + y0.val, by omega⟩ (heads.symm (heads e)))
        rw [Equiv.symm_apply_apply]
        pointwise; blk_point [iblk, V, idx t]
      · show View.ld (iblk m c 6 t) r0_0 (ix2 e k) = (m ((c : Thread nD τ).loc main_arg5) : FVec Ideal S512x1024 .f32)
          (ix2 ⟨e.val / 64 % 2 * 256 + e.val / 128 * 64 + e.val % 64, by omega⟩ k)
        pointwise; blk_point [iblk, V, idx t]
    | 1 =>
      refine Finset.sum_congr rfl fun e _ => congrArg₂ (· * ·) ?_ ?_
      · show View.ld (iblk m c 1 t) r0_2 (ix2 y0 e) = (m ((c : Thread nD τ).loc main_arg2) : FVec Ideal S32768x512 .bf16)
          (ix2 ⟨t.val * 512 + y0.val, by omega⟩ e)
        pointwise; blk_point [iblk, V, idx t]
      · show View.ld (iblk m c 7 t) r0_0 (ix2 e k) = (m ((c : Thread nD τ).loc main_arg6) : FVec Ideal S512x1024 .f32) (ix2 e k)
        pointwise; blk_point [iblk, V, idx t]
    | 2 =>
      refine Finset.sum_congr rfl fun e _ => congrArg₂ (· * ·) ?_ ?_
      · show View.ld (iblk m c 2 t) r0_2 (ix2 y0 e) = (m ((c : Thread nD τ).loc main_arg3) : FVec Ideal S8192x2048 .bf16)
          (ix2 ⟨(t.val * 512 + y0.val) % 8192, by omega⟩ ⟨(t.val * 512 + y0.val) / 8192 * 512 + e.val, by omega⟩)
        pointwise; blk_point [iblk, V, idx t]
      · show View.ld (iblk m c 8 t) r0_0 (ix2 e k) = (m ((c : Thread nD τ).loc main_arg7) : FVec Ideal S512x1024 .f32) (ix2 e k)
        pointwise; blk_point [iblk, V, idx t]
  · pointwise; blk_point [iblk, V, idx t]
  · pointwise; blk_point [iblk, V, idx t]
  · pointwise; blk_point [iblk, V, idx t]

theorem final12 (c : Dev nD) : (dats m 0 c).arrAt 12 cfg0.N = G m c := by
  refine (dats m 0 c).arrAt_eq_of_covers 12 _ (by decide +kernel) fun t _ y => ?_
  blk_simp
  rw [after0_12]
  frame_out
  idx_vars y
  exact point m c t y0 y1

theorem final13 (c : Dev nD) : (dats m 0 c).arrAt 13 cfg0.N = G m c := by
  refine (dats m 0 c).arrAt_eq_of_covers 13 _ (by decide +kernel) fun t _ y => ?_
  blk_simp
  rw [after0_13]
  frame_out
  idx_vars y
  exact point m c t y0 y1

end Cert.Merge
-- ==== Proof.Merge.Claims.lean ====
/-
  The claims about the merge call: the frames, and its equality with the layer written plainly.
-/
module

public import proofs.«01_k».proof.Defs
public import proofs.«01_k».proof.Proof.Merge.Value
public import proofs.«01_k».proof.Proof.Gen.Kernel2.Frame
public import proofs.«01_k».proof.Proof.Gen.Reference2Ideal.Run
public import proofs.«01_k».proof.Proof.Gen.Reference2Ideal
public import Idealize.ShloMosaic.Lib.Quiescent

@[expose] public section

set_option maxRecDepth 16384

noncomputable section

open Idealize.ShloMosaic Idealize.ShloMosaic.TcCoe Idealize.SL.Sem

namespace Cert.Merge

/-- The plain layer's result, of arguments that agree, is the merge kernel's. -/
theorem ref_G {m : (ℓ : Loc Cert.Kernel2Ideal.nD Cert.Kernel2Ideal.τ Cert.Kernel2Ideal.sig) → Buf (Elt Ideal) ℓ} (c : Dev Cert.Kernel2Ideal.nD) :
    Cert.Reference2Ideal.Read.val_main_v59 (F := Ideal) (m ((c.tc : Thread _ _).loc Cert.Kernel2Ideal.main_arg0)) (m ((c.tc : Thread _ _).loc Cert.Kernel2Ideal.main_arg1))
      (m ((c.tc : Thread _ _).loc Cert.Kernel2Ideal.main_arg2)) (m ((c.tc : Thread _ _).loc Cert.Kernel2Ideal.main_arg3)) (m ((c.tc : Thread _ _).loc Cert.Kernel2Ideal.main_arg4))
      (m ((c.tc : Thread _ _).loc Cert.Kernel2Ideal.main_arg5)) (m ((c.tc : Thread _ _).loc Cert.Kernel2Ideal.main_arg6)) (m ((c.tc : Thread _ _).loc Cert.Kernel2Ideal.main_arg7))
      (m ((c.tc : Thread _ _).loc Cert.Kernel2Ideal.main_arg8)) (m ((c.tc : Thread _ _).loc Cert.Kernel2Ideal.main_arg9)) (m ((c.tc : Thread _ _).loc Cert.Kernel2Ideal.main_arg10))
      = G m c := by
  funext i
  rw [eq_ix2 i]
  exact ref_eq _ _ _ _ _ _ _ _ _ _ _ (i 0) (i 1)

theorem frame : Cert.quiescent_Kernel2 (hKernel2 := Cert.Kernel2.Gen.facts) := fun m ρ _ => Cert.Kernel2.Gen.frame m ρ

theorem frameIdeal : Cert.quiescent_Kernel2Ideal (hKernel2Ideal := Cert.Kernel2Ideal.Gen.facts) := fun m ρ _ => Cert.Kernel2Ideal.Gen.frame m ρ

theorem frameRef : Cert.quiescent_Reference2Ideal (hReference2Ideal := Cert.Reference2Ideal.Gen.facts) := fun m ρ _ =>
  (θ_run Cert.Reference2Ideal.defs _ _).mono (fun r h => ⟨fun c => (h c).2.2, Idealize.ShloMosaic.sem_eq_zero_of_no_sems (by decide) r.2⟩) (Cert.Reference2Ideal.Value.run m ρ)

theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨fun c => G m c, fun c => G m c, ?_, ?_⟩
  · exact (θ_run _ _ _).mono (fun _ h c => ⟨(h c).1.trans (final12 m c), (h c).2.1.trans (final13 m c), (h c).2.2⟩)
      (Cert.Kernel2Ideal.Value.run_blocks m ρ)
  · refine (θ_run _ _ _).mono (fun _ h c => ?_) (Cert.Reference2Ideal.Value.run (F := Ideal) m' ρ')
    obtain ⟨h0, h1, h2, h3, h4, h5, h6, h7, h8, h9, h10⟩ := hag c
    refine ⟨(h c).1.trans ?_, (h c).2.1.trans ?_, (h c).2.2⟩
    · rw [Cert.Reference2Ideal.Read.val_main_v59_eq, h0, h1, h2, h3, h4, h5, h6, h7, h8, h9, h10]
      exact ref_G c
    · rw [Cert.Reference2Ideal.Read.val_main_v60_eq, h0, h1, h2, h3, h4, h5, h6, h7, h8, h9, h10]
      exact ref_G c

end Cert.Merge
-- ==== Proof.Moe.Body.lean ====
/-
  The experts' body, run on any staging buffers: a used block's rows go through its expert, an unused block's are zero.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body is handed them. -/
abbrev tabE : Memref sig .tc .smem S160 .i32 := Memref.whole main_v19
abbrev tabN : Memref sig .tc .smem S1 .i32 := Memref.whole main_v21

/-- A table held at the half share the body is lent. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

/-- The number of used blocks, as the body reads it. -/
abbrev used (c : Dev nD) (f : Buf (Elt F) (tabN.view.loc (c : Thread nD τ))) : BitVec 32 :=
  (show (S1.Idx → BitVec 32) from f) (fun a => ⟨0, by fin_cases a; decide⟩)

/-- Exactly one of the body's two branches is taken: the block lies among the used ones or it does not. -/
theorem cond2_iff (i : grid0.Coords) (n : BitVec 32) : k0_cond2 i n = 1#1 ↔ ¬ k0_cond1 i n = 1#1 := by
  have e : ∀ b : Bool, (Scalar.cmpi .ne (Scalar.extui (BitVec.ofBool b) : BitVec 32) 0#32 = 1#1) ↔ b = true := by decide
  show (Scalar.cmpi .ne (Scalar.extui (BitVec.ofBool (decide (n.toInt ≤ (BitVec.ofNat 32 (i 0).val).toInt))) : BitVec 32) 0#32 = 1#1)
    ↔ ¬ (Scalar.cmpi .ne (Scalar.extui (BitVec.ofBool (decide ((BitVec.ofNat 32 (i 0).val).toInt < n.toInt))) : BitVec 32) 0#32 = 1#1)
  rw [e, e, decide_eq_true_iff, decide_eq_true_iff, Int.not_lt]

/-- What the body leaves in the output's block: a used block's rows through the expert's three matrices, else zero. -/
noncomputable def blockOut (i : grid0.Coords) (n : BitVec 32) (x0 : Vec F S512x1024 .f32) (x1 x2 : Vec F S1x1024x512 .f32) (x3 : Vec F S1x512x1024 .f32) : Vec F S512x1024 .f32 :=
  if k0_cond1 i n = 1#1 then k0_pay1 x0 x1 x2 x3 else k0_pay2

section
variable (c : Dev nD) (i : grid0.Coords) (a3 : Memref sig .tc .vmem S512x1024 .f32) (h3 : a3.IsWhole) (a4 : Memref sig .tc .vmem S1x1024x512 .f32) (h4 : a4.IsWhole)
  (a5 : Memref sig .tc .vmem S1x1024x512 .f32) (h5 : a5.IsWhole) (a6 : Memref sig .tc .vmem S1x512x1024 .f32) (h6 : a6.IsWhole) (a7 : Memref sig .tc .vmem S512x1024 .f32) (h7 : a7.IsWhole)
  (x0 : Vec F S512x1024 .f32) (x1 x2 : Vec F S1x1024x512 .f32) (x3 : Vec F S1x512x1024 .f32)
  (xt0 : Buf (Elt F) (tabE.view.loc (c : Thread nD τ))) (xt1 : Buf (Elt F) (tabN.view.loc (c : Thread nD τ)))

set_option maxHeartbeats 1000000 in
/-- The body's run: its inputs and tables come back as they were, its output's block holds `blockOut`. -/
theorem run (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ (∃ d, owns (c : Thread nD τ) a7 fullShare d) ∗ held c tabE xt0 ∗ held c tabN xt1
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare (blockOut i (used c xt1) x0 x1 x2 x3) ∗ held c tabE xt0 ∗ held c tabN xt1) -∗ K ⟨⟩))
      ⊢ wp frame (wpE (defs₀ (F := F)) Variants.none c none) E (cc0__expert_kernel i tabE (Memref.isWhole_whole _) tabN (Memref.isWhole_whole _) a3 h3 a4 h4 a5 h5 a6 h6 a7 h7) K := by
  simp only [cc0__expert_kernel_eq_skeleton]; unfold cc0__expert_kernel_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := h3.eq_unread hf0; obtain rfl := h4.eq_unread hf1; obtain rfl := h5.eq_unread hf2; obtain rfl := h6.eq_unread hf3
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr
    swap; · iexact H4
    ipureintro
    have hr : run.sl.r c xt1 = used c xt1 :=
      congrArg (show (S1.Idx → BitVec 32) from xt1) (funext fun a => by
        obtain rfl : a = 0 := Subsingleton.elim (α := Fin 1) _ _
        exact Subsingleton.elim (α := Fin 1) _ _)
    rw [hr]
    unfold blockOut
    by_cases hc : k0_cond1 i (used c xt1) = 1#1
    · have hd : ¬ k0_cond2 i (used c xt1) = 1#1 := fun h => (cond2_iff i _).mp h hc
      rw [dif_neg hd, dif_pos hc, if_pos hc]
      refine (View.read_writes_full _ _ inb_S512x1024_S512x1024_0_0 _ _).trans ?_
      rw [View.readAt_full _ _ inb_S512x1024_S512x1024_0_0, View.readAt_full _ _ inb_S1x1024x512_S1x1024x512_0_0_0,
        View.readAt_full _ _ inb_S1x1024x512_S1x1024x512_0_0_0, View.readAt_full _ _ inb_S1x512x1024_S1x512x1024_0_0_0,
        h3.read_unread, h4.read_unread, h5.read_unread, h6.read_unread]
    · have hd : k0_cond2 i (used c xt1) = 1#1 := (cond2_iff i _).mpr hc
      rw [dif_pos hd, if_neg hc]
      exact View.read_writes_full _ _ inb_S512x1024_S512x1024_0_0 _ _
  isplitl [HT0]; · iexact HT0
  iexact HT1

end
end Cert.Moe
-- ==== Proof.Moe.Frame.lean ====
/-
  The experts' launch: the arrays as the kernel finds them, what each grid point leaves in them, and the run of the whole program.
-/
module

public import proofs.«01_k».proof.Proof.Moe.Body

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines that prepare the kernel's arguments, in order. -/
abbrev prep : List (List (HloOp τ sig (Elt F))) := [hostOps0, hostOps0_1, hostOps0_2, hostOps0_3, hostOps0_4, hostOps0_5]

/-- A device's buffers when the kernel starts. -/
abbrev V (c : Dev nD) (b : Ref sig .tc) : Buf (Elt F) ((c : Thread nD τ).loc b) := StableHlo.after prep.flatten (fun b => m (c, b)) b

theorem prep_fresh : (prep (F := F)).Forall fun l => l.Forall fun op => op.fresh = ∅ := by
  simp only [List.Forall]; repeat' constructor

theorem prep_sub : (prep (F := F)).Forall fun l => l.Forall fun op => op.bufs ⊆ StableHlo.tcRefs τ sig := by
  simp only [List.Forall]; exact ⟨hostOps0_sub, hostOps0_1_sub, hostOps0_2_sub, hostOps0_3_sub, hostOps0_4_sub, hostOps0_5_sub⟩

set_option maxHeartbeats 800000 in
/-- The program is those host lines, then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main prep prep_sub prep_fresh main_chain

/-- A buffer no host line writes is as launched. -/
theorem V_kept (c : Dev nD) (b : Ref sig .tc) (h : (prep (F := F)).flatten.Forall fun op => Proc.devRef .tc b ∉ op.writes) : V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) := V_kept m c _ (by
  simp only [hostOps0, hostOps0_1, hostOps0_2, hostOps0_3, hostOps0_4, hostOps0_5, List.flatten_cons, List.flatten_nil, List.append_nil, List.cons_append,
    List.nil_append, List.Forall, StableHlo.nullary_writes, StableHlo.unary_writes, StableHlo.binary_writes, StableHlo.ternary_writes, Finset.mem_singleton]
  repeat' apply And.intro
  all_goals exact StableHlo.devRef_ne_of_ne (by decide))
theorem V_arg1 (c : Dev nD) : V m c main_arg1 = m ((c : Thread nD τ).loc main_arg1) := V_kept m c _ (by
  simp only [hostOps0, hostOps0_1, hostOps0_2, hostOps0_3, hostOps0_4, hostOps0_5, List.flatten_cons, List.flatten_nil, List.append_nil, List.cons_append,
    List.nil_append, List.Forall, StableHlo.nullary_writes, StableHlo.unary_writes, StableHlo.binary_writes, StableHlo.ternary_writes, Finset.mem_singleton]
  repeat' apply And.intro
  all_goals exact StableHlo.devRef_ne_of_ne (by decide))
theorem V_arg2 (c : Dev nD) : V m c main_arg2 = m ((c : Thread nD τ).loc main_arg2) := V_kept m c _ (by
  simp only [hostOps0, hostOps0_1, hostOps0_2, hostOps0_3, hostOps0_4, hostOps0_5, List.flatten_cons, List.flatten_nil, List.append_nil, List.cons_append,
    List.nil_append, List.Forall, StableHlo.nullary_writes, StableHlo.unary_writes, StableHlo.binary_writes, StableHlo.ternary_writes, Finset.mem_singleton]
  repeat' apply And.intro
  all_goals exact StableHlo.devRef_ne_of_ne (by decide))
theorem V_arg3 (c : Dev nD) : V m c main_arg3 = m ((c : Thread nD τ).loc main_arg3) := V_kept m c _ (by
  simp only [hostOps0, hostOps0_1, hostOps0_2, hostOps0_3, hostOps0_4, hostOps0_5, List.flatten_cons, List.flatten_nil, List.append_nil, List.cons_append,
    List.nil_append, List.Forall, StableHlo.nullary_writes, StableHlo.unary_writes, StableHlo.binary_writes, StableHlo.ternary_writes, Finset.mem_singleton]
  repeat' apply And.intro
  all_goals exact StableHlo.devRef_ne_of_ne (by decide))
theorem V_arg4 (c : Dev nD) : V m c main_arg4 = m ((c : Thread nD τ).loc main_arg4) := V_kept m c _ (by
  simp only [hostOps0, hostOps0_1, hostOps0_2, hostOps0_3, hostOps0_4, hostOps0_5, List.flatten_cons, List.flatten_nil, List.append_nil, List.cons_append,
    List.nil_append, List.Forall, StableHlo.nullary_writes, StableHlo.unary_writes, StableHlo.binary_writes, StableHlo.ternary_writes, Finset.mem_singleton]
  repeat' apply And.intro
  all_goals exact StableHlo.devRef_ne_of_ne (by decide))

/-- The two tables the kernel is handed: each block's expert and the number of used blocks. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block's expert is one of the experts: what the windows over the weights need. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem lent_eq (c : Dev nD) : (Pipeline.ΦT pre0 (tbl m) c : sProp 𝕄) = iprop(held c tabE (tbl m 0) ∗ held c tabN (tbl m 1)) := by
  unfold Pipeline.ΦT Pipeline.prefHeld
  rw [show (Finset.univ : Finset (Fin 2)) = insert (0 : Fin 2) {(1 : Fin 2)} from by decide, bigSep_insert (by decide), bigSep_singleton]
  rfl

/-- Window `w`'s block at point `t`, of its array as the kernel finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The number of used blocks the host counted. -/
def nused (c : Dev nD) : BitVec 32 := used c (tbl m 1)

/-- What each point leaves in the output's block. -/
def outAt (hO : Ok m) (c : Dev nD) (t : Fin (cfgM m hO).N) : Vec F S512x1024 .f32 :=
  blockOut (grid0.coords t) (nused m c) (iblk m hO c 0 t) (iblk m hO c 1 t) (iblk m hO c 2 t) (iblk m hO c 3 t)

/-- The launch's data: every input's buffer keeps its block, the output's gets `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

abbrev st_0 (hO : Ok m) (t : Fin (cfgM m hO).N) : Memref sig .tc .vmem S512x1024 .f32 := spec0_0.stage ((cfgM m hO).slots t 0)
abbrev st_1 (hO : Ok m) (t : Fin (cfgM m hO).N) : Memref sig .tc .vmem S1x1024x512 .f32 := spec0_1.stage ((cfgM m hO).slots t 1)
abbrev st_2 (hO : Ok m) (t : Fin (cfgM m hO).N) : Memref sig .tc .vmem S1x1024x512 .f32 := spec0_2.stage ((cfgM m hO).slots t 2)
abbrev st_3 (hO : Ok m) (t : Fin (cfgM m hO).N) : Memref sig .tc .vmem S1x512x1024 .f32 := spec0_3.stage ((cfgM m hO).slots t 3)
abbrev st_4 (hO : Ok m) (t : Fin (cfgM m hO).N) : Memref sig .tc .vmem S512x1024 .f32 := spec0_4.stage ((cfgM m hO).slots t 4)

/-- The body at point `t`, on the buffers it is called with there. -/
abbrev bodyAt (hO : Ok m) (t : Fin (cfgM m hO).N) : Prog (TpuEff nD τ sig (Elt F) Λ₀ .tc) PUnit :=
  cc0__expert_kernel (grid0.coords t) tabE (Memref.isWhole_whole _) tabN (Memref.isWhole_whole _) (st_0 m hO t) (hstage0_0 (((cfgM m hO).slots t 0).cast nbuf0_0)) (st_1 m hO t) (hstage0_1 (((cfgM m hO).slots t 1).cast nbuf0_1)) (st_2 m hO t) (hstage0_2 (((cfgM m hO).slots t 2).cast nbuf0_2)) (st_3 m hO t) (hstage0_3 (((cfgM m hO).slots t 3).cast nbuf0_3)) (st_4 m hO t) (hstage0_4 (((cfgM m hO).slots t 4).cast nbuf0_4))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d))
    ∗ (∃ d, owns (c : Thread nD τ) (st_3 m hO t) fullShare ((dats m hO 0 c).before 3 t d))
    ∗ (∃ d, owns (c : Thread nD τ) (st_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t)
    ∗ owns (c : Thread nD τ) (st_3 m hO t) fullShare ((dats m hO 0 c).after 3 t)
    ∗ owns (c : Thread nD τ) (st_4 m hO t) fullShare ((dats m hO 0 c).after 4 t))

/-- The body meets its obligation at every point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, lent_eq]
  unfold outAt nused
  iintro ⟨⟨HΦ, ⟨HT0, HT1⟩⟩, Ho, ⟨%d0, H0⟩, ⟨%d1, H1⟩, ⟨%d2, H2⟩, ⟨%d3, H3⟩, ⟨%d4, H4⟩⟩
  iapply (run c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

theorem one_branch (i : grid0.Coords) (n : BitVec 32) : (!(k0_cond1 i n == 1#1) && !(k0_cond2 i n == 1#1)) = false := by
  by_cases h : k0_cond1 i n = 1#1
  · rw [h]; rfl
  · rw [(cond2_iff i _).mpr h, Bool.and_comm]; rfl

/-- The output's block is stored at every point: one of the two branches always runs. -/
theorem busy (a : (pcfg0 (F := F)).Adm) (i : grid0.Coords) : (cfg0 a).idle 4 i = false := one_branch i (a.1.atD 1 ![0])

set_option maxHeartbeats 1600000 in
theorem obligation (hO : Ok m) (c : Dev nD) : BodyObligation (dats (F := F) m hO 0 c) (defs₀ (F := F)) Variants.none () Set.univ := fun t => by
  rw [bigSep_W0, bigSep_W0, row_eq m hO, busy (adm m hO)]
  exact triple_restated (sound_body m hO c t) rfl .rfl fun _ => .rfl

set_option backward.isDefEq.respectTransparency.types false in
/-- The launch: every execution ends, the arrays at what the points leave and every counter at zero. -/
theorem launched (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run's result and its arguments: the output array at what the points left, the arguments as launched. -/
theorem run_out (hO : Ok m) : θ_run defs (onTc (τ := τ) (main (F := F))) ⟨m, fun _ => 0, ρ⟩ (fun r => (∀ c : Dev nD,
      r.2.mem ((c.tc : Thread nD τ).loc main_v22) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 4,
      ((h.1 c).2 main_arg0 (by decide : main_arg0 ∈ Pipeline.restRefs sig spec0)).trans (V_arg0 m c),
      ((h.1 c).1 0).trans (((dats m hO 0 c).arrAt_in 0 rfl _).trans ((A_eq m hO c 0).trans (V_arg1 m c))),
      ((h.1 c).1 1).trans (((dats m hO 0 c).arrAt_in 1 rfl _).trans ((A_eq m hO c 1).trans (V_arg2 m c))),
      ((h.1 c).1 2).trans (((dats m hO 0 c).arrAt_in 2 rfl _).trans ((A_eq m hO c 2).trans (V_arg3 m c))),
      ((h.1 c).1 3).trans (((dats m hO 0 c).arrAt_in 3 rfl _).trans ((A_eq m hO c 3).trans (V_arg4 m c)))⟩, h.2⟩) (launched m ρ hO)

end Cert.Moe

end
-- ==== Proof.Moe.Tables.lean ====
/-
  The two tables the host prepares for the experts' kernel, each block's expert and the number of used blocks, are what the reference computes.
-/
module

public import proofs.«01_k».proof.Proof.Moe.Frame
public import proofs.«01_k».proof.Proof.Gen.Reference3Ideal.Read
public import proofs.«01_k».proof.Proof.Gen.Reference3Ideal
public import Idealize.ShloMosaic.Lib.Pipeline.ValueKit
public import Idealize.ShloMosaic.Lib.Pointwise
public import Idealize.ShloMosaic.Lib.StableHlo.Predicate

@[expose] public section

set_option maxRecDepth 16384

noncomputable section

namespace Cert.Moe

open Cert.Kernel3Ideal Cert.Kernel3Ideal.Gen
open Idealize.ShloMosaic Idealize.ShloMosaic.TcCoe Idealize.ShloMosaic.Tactic
open Cert.Reference3Ideal.Read (val_main_v7 val_main_v11 val_main_v13 val_main_v44)

variable {F : FTy → Type} [FloatOps F] (m : (ℓ : Loc nD τ sig) → Buf (Elt F) ℓ)

/-- Each expert's row count, as launched. -/
abbrev counts (c : Dev nD) : (⟨S32, .i32⟩ : BufTy).Contents (Elt F) := m ((c : Thread nD τ).loc main_arg0)

/-- Where each expert's padded rows end: the kernel's host lines and the reference write the same operations. -/
theorem V_ends (c : Dev nD) : V m c main_v7 = val_main_v7 (F := F) (counts m c) := by
  unfold V
  simp only [prep, hostOps0, hostOps0_1, hostOps0_2, hostOps0_3, hostOps0_4, hostOps0_5, List.flatten_cons, List.flatten_nil, List.append_nil, List.cons_append, List.nil_append]
  after_results_simp
  sl_kernel_rfl

/-- Whether block `t` starts at or after the end of expert `q`'s rows, `p` being the ends. -/
def past (p : S32.Idx → BitVec 32) : IVec S160x32 1 :=
  cmpi .sle (broadcastInDim S160x32 ![0, 1] bcast_S1x32_S160x32_0_1 (broadcastInDim S1x32 ![1] bcast_S32_S1x32_1 p))
    (broadcastInDim S160x32 ![0, 1] bcast_S160x1_S160x32_0_1
      (muli (broadcastInDim S160x1 ![0] bcast_S160_S160x1_0 (iotaInDim S160 32 0)) (broadcastInDim S160x1 ![] bcast_S_S160x1 (constantI S_ 32 512#32))))

/-- How many experts' rows end before block `t` starts. -/
def ended (p : S32.Idx → BitVec 32) : IVec S160 32 :=
  Host.reduce IntOp.addi (extui 32 (past p) natLt_1_32) (constantI S_ 32 0#32) reducesTo_S160x32_S160_d1 h_S_

theorem V_blk (c : Dev nD) : V m c main_v19 = minsi (ended (V m c main_v7)) (broadcastInDim S160 ![] bcast_S_S160 (constantI S_ 32 31#32)) := by
  unfold V ended past
  simp only [prep, hostOps0, hostOps0_1, hostOps0_2, hostOps0_3, hostOps0_4, hostOps0_5, List.flatten_cons, List.flatten_nil, List.append_nil, List.cons_append, List.nil_append]
  after_results_simp

/-- A table's two readings agree on which experts' rows end before a block. -/
theorem past_apply (p : S32.Idx → BitVec 32) (t : Fin 160) (q : Fin 32) :
    past p (StableHlo.Predicate.ij t q) = IntOp.cmpi .sle (p (ix1 q)) (IntOp.muli (BitVec.ofNat 32 t.val) 512#32) := by
  unfold past
  pointwise

theorem past_ref (x0 : (⟨S32, .i32⟩ : BufTy).Contents (Elt F)) (t : Fin 160) (q : Fin 32) :
    Cert.Reference3Ideal.Read.val_main_call2_call0_v4 (F := F) x0 (StableHlo.Predicate.ij q t)
      = IntOp.cmpi .sle (val_main_v7 (F := F) x0 (ix1 q)) (IntOp.muli (BitVec.ofNat 32 t.val) 512#32) := by
  rw [Cert.Reference3Ideal.Read.val_main_call2_call0_v4_apply, Cert.Reference3Ideal.Read.val_main_call2_call0_v2_apply, Cert.Reference3Ideal.Read.val_main_call2_call0_v1_apply,
    Cert.Reference3Ideal.Read.val_main_call2_call0_v3_apply, Cert.Reference3Ideal.Read.val_main_call2_call0_v0_apply, Cert.Reference3Ideal.Read.val_main_v10_apply,
    Cert.Reference3Ideal.Read.val_main_v8_apply, Cert.Reference3Ideal.Read.val_main_v9_apply, Cert.Reference3Ideal.Read.val_main_c_3_apply]
  refine congrArg (fun i => IntOp.cmpi .sle (val_main_v7 (F := F) x0 i) _) ?_
  funext a
  match a with
  | ⟨0, _⟩ => rfl

/-- Both count the same experts. -/
theorem ended_eq (x0 : (⟨S32, .i32⟩ : BufTy).Contents (Elt F)) (t : Fin 160) : ended (val_main_v7 (F := F) x0) (ix1 t) = val_main_v11 (F := F) x0 (ix1 t) := by
  apply BitVec.eq_of_toNat_eq
  unfold ended val_main_v11
  rw [StableHlo.Predicate.toNat_reduce_count_cols (by decide) (past (val_main_v7 (F := F) x0)) natLt_1_32 reducesTo_S160x32_S160_d1 h_S_ (ix1 t)]
  refine Eq.trans ?_ (StableHlo.Predicate.toNat_reduce_count_rows (by decide) (Cert.Reference3Ideal.Read.val_main_call2_call0_v4 (F := F) x0) Cert.Reference3Ideal.Gen.natLt_1_32 Cert.Reference3Ideal.Gen.reducesTo_S32x160_S160_d0 Cert.Reference3Ideal.Gen.h_S_ (ix1 t)).symm
  refine congrArg Finset.card (Finset.filter_congr fun q _ => ?_)
  exact iff_of_eq (congrArg (· = 1#1) ((past_apply _ t q).trans (past_ref x0 t q).symm))

theorem ended_le (p : S32.Idx → BitVec 32) (t : Fin 160) : (ended p (ix1 t)).toNat ≤ 32 := by
  unfold ended
  rw [StableHlo.Predicate.toNat_reduce_count_cols (by decide) (past p) natLt_1_32 reducesTo_S160x32_S160_d1 h_S_ (ix1 t)]
  exact (Finset.card_le_univ _).trans (by simp)

/-- Every block's expert is one of the experts. -/
theorem capped (w : BitVec 32) (h : w.toNat ≤ 32) : (IntOp.minsi w 31#32).toNat < 32 := by
  have e : ∀ k : Fin 33, (IntOp.minsi (BitVec.ofNat 32 k.val) 31#32).toNat < 32 := by decide +kernel
  have hw : w = BitVec.ofNat 32 w.toNat := by simp
  rw [hw]; exact e ⟨w.toNat, by omega⟩

theorem V_blk_apply (c : Dev nD) (t : Fin 160) : V m c main_v19 (ix1 t) = val_main_v13 (F := F) (counts m c) (ix1 t) := by
  rw [V_blk, V_ends]
  show IntOp.minsi (ended (val_main_v7 (F := F) (counts m c)) (ix1 t)) _ = IntOp.minsi (val_main_v11 (F := F) (counts m c) (ix1 t)) (Cert.Reference3Ideal.Read.val_main_v12 (F := F) (ix1 t))
  rw [ended_eq]
  rfl

/-- Block `t`'s expert. -/
def expert (x0 : (⟨S32, .i32⟩ : BufTy).Contents (Elt F)) (t : Fin 160) : Nat := (val_main_v13 (F := F) x0 (ix1 t)).toNat

theorem expert_lt (x0 : (⟨S32, .i32⟩ : BufTy).Contents (Elt F)) (t : Fin 160) : expert x0 t < 32 := by
  show (IntOp.minsi (val_main_v11 (F := F) x0 (ix1 t)) 31#32).toNat < 32
  rw [← ended_eq]
  exact capped _ (ended_le _ t)

/-- The word the kernel's windows read of the first table at a grid point. -/
theorem word_eq (pf : pre0.Contents (Elt F)) (i : grid0.Coords) (t : Fin 160) (ht : (i 0).val = t.val) :
    pf.at 0 (Rect.unit (s := S160) ![(Scalar.indexCast (BitVec.ofNat 32 (i 0).val)).toNat] S1.size (k0_off1_inb i)) numel1_S1
      = (show S160.Idx → BitVec 32 from pf 0) (ix1 t) := by
  refine congrArg (show S160.Idx → BitVec 32 from pf 0) (funext fun a => ?_)
  match a with
  | ⟨0, h⟩ =>
    refine Fin.ext ?_
    have hz : ((Shape.Idx.first (s := S1) (numel1_S1.symm ▸ Nat.one_pos)) ⟨0, h⟩).val = 0 := Nat.lt_one_iff.mp (Fin.isLt _)
    have hi : (BitVec.ofNat 32 (i 0).val).toNat = (i 0).val := by
      rw [BitVec.toNat_ofNat]; have : (i 0).val < 160 := (i 0).isLt; omega
    refine Eq.trans (b := (BitVec.ofNat 32 (i 0).val).toNat + 1 * ((Shape.Idx.first (s := S1) (numel1_S1.symm ▸ Nat.one_pos)) ⟨0, h⟩).val) rfl ?_
    rw [hz, hi, ht]; rfl

/-- The kernel's first table at a block is the reference's expert of it. -/
theorem tbl_expert (t : Fin 160) : (show S160.Idx → BitVec 32 from tbl m 0) (ix1 t) = val_main_v13 (F := F) (counts m 0) (ix1 t) := V_blk_apply m 0 t

theorem block1 (pf : pre0.Contents (Elt F)) (i : grid0.Coords) (t : Fin 160) (ht : (i 0).val = t.val) :
    cc0_transform_1 (F := F) k0_off1_inb numel1_S1 pf i = ![((show S160.Idx → BitVec 32 from pf 0) (ix1 t)).toNat, 0, 0] :=
  congrArg (fun w : BitVec 32 => ![w.toNat, 0, 0]) (word_eq pf i t ht)
theorem block2 (pf : pre0.Contents (Elt F)) (i : grid0.Coords) (t : Fin 160) (ht : (i 0).val = t.val) :
    cc0_transform_2 (F := F) k0_off1_inb numel1_S1 pf i = ![((show S160.Idx → BitVec 32 from pf 0) (ix1 t)).toNat, 0, 0] :=
  congrArg (fun w : BitVec 32 => ![w.toNat, 0, 0]) (word_eq pf i t ht)
theorem block3 (pf : pre0.Contents (Elt F)) (i : grid0.Coords) (t : Fin 160) (ht : (i 0).val = t.val) :
    cc0_transform_3 (F := F) k0_off1_inb numel1_S1 pf i = ![((show S160.Idx → BitVec 32 from pf 0) (ix1 t)).toNat, 0, 0] :=
  congrArg (fun w : BitVec 32 => ![w.toNat, 0, 0]) (word_eq pf i t ht)

/-- Every block the windows over the weights read lies inside them. -/
theorem inside (pf : pre0.Contents (Elt F)) (h : ∀ t : Fin 160, ((show S160.Idx → BitVec 32 from pf 0) (ix1 t)).toNat < 32) : ok0 (F := F) pf := by
  refine ⟨fun i => ⟨fun a => ?_, Or.inl rfl⟩, fun i => ⟨fun a => ?_, Or.inl rfl⟩, fun i => ⟨fun a => ?_, Or.inl rfl⟩⟩
  · rw [block1 pf i ⟨(i 0).val, (i 0).isLt⟩ rfl]
    have := h ⟨(i 0).val, (i 0).isLt⟩
    match a with
    | ⟨0, _⟩ => show (BitVec.toNat _ + 1) * 1 ≤ 32; omega
    | ⟨1, _⟩ => show (0 + 1) * 1024 ≤ 1024; omega
    | ⟨2, _⟩ => show (0 + 1) * 512 ≤ 512; omega
  · rw [block2 pf i ⟨(i 0).val, (i 0).isLt⟩ rfl]
    have := h ⟨(i 0).val, (i 0).isLt⟩
    match a with
    | ⟨0, _⟩ => show (BitVec.toNat _ + 1) * 1 ≤ 32; omega
    | ⟨1, _⟩ => show (0 + 1) * 1024 ≤ 1024; omega
    | ⟨2, _⟩ => show (0 + 1) * 512 ≤ 512; omega
  · rw [block3 pf i ⟨(i 0).val, (i 0).isLt⟩ rfl]
    have := h ⟨(i 0).val, (i 0).isLt⟩
    match a with
    | ⟨0, _⟩ => show (BitVec.toNat _ + 1) * 1 ≤ 32; omega
    | ⟨1, _⟩ => show (0 + 1) * 512 ≤ 512; omega
    | ⟨2, _⟩ => show (0 + 1) * 1024 ≤ 1024; omega

theorem ok : Ok m := inside (tbl m) fun t => by
  rw [tbl_expert]; exact expert_lt (counts m 0) t

/-- The number of 512-row blocks in `z` rows, as the kernel's host lines write the floor division. -/
def blocks (z : IVec S1 32) : IVec S1 32 :=
  select (andi (cmpi .ne (signi z) (broadcastInDim S1 ![] bcast_S_S1 (signi (constantI S_ 32 512#32))))
      (cmpi .ne (Host.remsi z (broadcastInDim S1 ![] bcast_S_S1 (constantI S_ 32 512#32))) (broadcastInDim S1 ![] bcast_S_S1 (constantI S_ 32 0#32))))
    (subi (Host.divsi z (broadcastInDim S1 ![] bcast_S_S1 (constantI S_ 32 512#32))) (broadcastInDim S1 ![] bcast_S_S1 (constantI S_ 32 1#32)))
    (Host.divsi z (broadcastInDim S1 ![] bcast_S_S1 (constantI S_ 32 512#32)))

theorem V_blocks (c : Dev nD) : V m c main_v21 = blocks (extractStridedSlice S1 ![31] (V m c main_v7) slices_S32_S1_31) := by
  unfold V blocks
  simp only [prep, hostOps0, hostOps0_1, hostOps0_2, hostOps0_3, hostOps0_4, hostOps0_5, List.flatten_cons, List.flatten_nil, List.append_nil, List.cons_append, List.nil_append]
  after_results_simp
  sl_kernel_rfl

/-- A word's sign. -/
def sgn (w : BitVec 32) : BitVec 32 := if w = 0 then 0 else if w.msb then -1 else 1

/-- The same division of one number. -/
def floorDiv (w : BitVec 32) : BitVec 32 :=
  Scalar.select (IntOp.andi (IntOp.cmpi .ne (sgn w) (sgn 512#32)) (IntOp.cmpi .ne (IntOp.remsi .host w 512#32) 0#32))
    (IntOp.subi (IntOp.divsi .host w 512#32) 1#32) (IntOp.divsi .host w 512#32)

theorem blocks_apply (z : IVec S1 32) (i : S1.Idx) : blocks z i = floorDiv (z i) := rfl

theorem blocks_ref (x0 : (⟨S32, .i32⟩ : BufTy).Contents (Elt F)) (i : S_.Idx) : val_main_v44 (F := F) x0 i = floorDiv (val_main_v7 (F := F) x0 (ix1 31)) := by
  have e : Cert.Reference3Ideal.Read.val_main_v43 (F := F) x0 i = val_main_v7 (F := F) x0 (ix1 31) := by
    unfold Cert.Reference3Ideal.Read.val_main_v43
    generalize hy : Cert.Reference3Ideal.Read.val_main_v42 (F := F) x0 = y
    refine (shapeCast_apply y Cert.Reference3Ideal.Gen.shapeCasts_S1_S_ i (ix1 0) (by
      have h1 := (Shape.rowMajor S1 (ix1 0)).isLt
      have h2 := (Shape.rowMajor S_ i).isLt
      have n1 : S1.numel = 1 := by decide
      have n2 : S_.numel = 1 := by decide
      exact (Nat.lt_one_iff.mp (lt_of_lt_of_eq h1 n1)).trans (Nat.lt_one_iff.mp (lt_of_lt_of_eq h2 n2)).symm)).trans ?_
    rw [← hy, Cert.Reference3Ideal.Read.val_main_v42_apply]
    refine congrArg (val_main_v7 (F := F) x0) (funext fun a => ?_)
    match a with
    | ⟨0, _⟩ => rfl
  rw [← e]
  rfl

/-- The number of used blocks, as the kernel is handed it and as the reference computes it. -/
theorem nused_eq (c : Dev nD) (i : S_.Idx) : nused m c = val_main_v44 (F := F) (counts m 0) i := by
  rw [blocks_ref]
  show V m 0 main_v21 _ = _
  rw [V_blocks, blocks_apply, V_ends]
  refine congrArg floorDiv ?_
  refine (extractStridedSlice_apply ![31] _ slices_S32_S1_31 _ (ix1 31) fun a => ?_)
  match a with
  | ⟨0, _⟩ => rfl

end Cert.Moe
-- ==== Proof.Moe.Value.lean ====
/-
  The experts' result: each used block's rows through its expert's three matrices, the other blocks zero; the kernel's array and the reference's.
-/
module

public import proofs.«01_k».proof.Proof.Moe.Tables

@[expose] public section

set_option maxRecDepth 16384

noncomputable section

namespace Cert.Moe

open Cert.Kernel3Ideal Cert.Kernel3Ideal.Gen
open Idealize.ShloMosaic Idealize.ShloMosaic.TcCoe Idealize.ShloMosaic.Tactic
open Cert.Reference3Ideal.Read (val_main_v7 val_main_v11 val_main_v13 val_main_v44)

section Blocks

variable {F : FTy → Type} [FloatOps F]

/-- A point's grid coordinate is the point, and there are 160. -/
theorem crd (a : (pcfg0 (F := F)).Adm) : ∀ t : Fin (cfg0 a).N, (grid0.coords t 0).val = t.val := of_decide_eq_true (by sl_kernel_rfl)
theorem lt_160 (a : (pcfg0 (F := F)).Adm) (t : Fin (cfg0 a).N) : t.val < 160 := by
  rw [← crd a t]; exact (grid0.coords t 0).isLt
theorem word_crd (a : (pcfg0 (F := F)).Adm) (t : Fin (cfg0 a).N) : (BitVec.ofNat 32 (grid0.coords t 0).val).toNat = t.val := by
  have := lt_160 a t
  rw [crd a t, BitVec.toNat_ofNat]; omega
/-- Which block each window is at: the rows' and the output's the point's own, the weights' the point's expert. -/
theorem idx4 (a : (pcfg0 (F := F)).Adm) (t : Fin (cfg0 a).N) : ((cfg0 a).win 4).index t = ![t.val, 0] := by
  show ![(BitVec.ofNat 32 (grid0.coords t 0).val).toNat, 0] = _
  rw [word_crd a t]
theorem idx0 (a : (pcfg0 (F := F)).Adm) (t : Fin (cfg0 a).N) : ((cfg0 a).win 0).index t = ![t.val, 0] := by
  show ![(BitVec.ofNat 32 (grid0.coords t 0).val).toNat, 0] = _
  rw [word_crd a t]
theorem idx1 (a : (pcfg0 (F := F)).Adm) (t : Fin (cfg0 a).N) : ((cfg0 a).win 1).index t = ![((show S160.Idx → BitVec 32 from a.1 0) (ix1 ⟨t.val, lt_160 a t⟩)).toNat, 0, 0] :=
  block1 a.1 (grid0.coords t) ⟨t.val, lt_160 a t⟩ (crd a t)

theorem idx2 (a : (pcfg0 (F := F)).Adm) (t : Fin (cfg0 a).N) : ((cfg0 a).win 2).index t = ![((show S160.Idx → BitVec 32 from a.1 0) (ix1 ⟨t.val, lt_160 a t⟩)).toNat, 0, 0] :=
  block2 a.1 (grid0.coords t) ⟨t.val, lt_160 a t⟩ (crd a t)
theorem idx3 (a : (pcfg0 (F := F)).Adm) (t : Fin (cfg0 a).N) : ((cfg0 a).win 3).index t = ![((show S160.Idx → BitVec 32 from a.1 0) (ix1 ⟨t.val, lt_160 a t⟩)).toNat, 0, 0] :=
  block3 a.1 (grid0.coords t) ⟨t.val, lt_160 a t⟩ (crd a t)

/-- Where a block of the rows sits in the array. -/
theorem at0 (a : (pcfg0 (F := F)).Adm) (t : Fin (cfg0 a).N) (r : Fin 512) (d : Fin 1024) (h : t.val * 512 + r.val < 81920) :
    (((cfg0 a).win 0).blk t).view.emb (ix2 r d : S512x1024.Idx) = (ix2 ⟨t.val * 512 + r.val, h⟩ d : S81920x1024.Idx) := by
  funext k
  refine Fin.ext (((((cfg0 a).win 0).rect_emb_val t (ix2 r d : S512x1024.Idx) k rfl)).trans ?_)
  rw [idx0 a t]
  match k with
  | ⟨0, _⟩ => rfl
  | ⟨1, _⟩ => exact Nat.zero_add _

theorem at4 (a : (pcfg0 (F := F)).Adm) (t : Fin (cfg0 a).N) (r : Fin 512) (d : Fin 1024) (h : t.val * 512 + r.val < 81920) :
    (((cfg0 a).win 4).blk t).view.emb (ix2 r d : S512x1024.Idx) = (ix2 ⟨t.val * 512 + r.val, h⟩ d : S81920x1024.Idx) := by
  funext k
  refine Fin.ext (((((cfg0 a).win 4).rect_emb_val t (ix2 r d : S512x1024.Idx) k rfl)).trans ?_)
  rw [idx4 a t]
  match k with
  | ⟨0, _⟩ => rfl
  | ⟨1, _⟩ => exact Nat.zero_add _

/-- Where a block of the weights sits in their array: at its expert. -/
theorem at1 (a : (pcfg0 (F := F)).Adm) (t : Fin (cfg0 a).N) (d : Fin 1024) (f : Fin 512) (e : Fin 32)
    (h : ((show S160.Idx → BitVec 32 from a.1 0) (ix1 ⟨t.val, lt_160 a t⟩)).toNat = e.val) :
    (((cfg0 a).win 1).blk t).view.emb (ix3 0 d f : S1x1024x512.Idx) = (ix3 e d f : S32x1024x512.Idx) := by
  funext k
  refine Fin.ext (((((cfg0 a).win 1).rect_emb_val t (ix3 0 d f : S1x1024x512.Idx) k rfl)).trans ?_)
  rw [idx1 a t, h]
  match k with
  | ⟨0, _⟩ => exact Nat.mul_one _
  | ⟨1, _⟩ => exact Nat.zero_add _
  | ⟨2, _⟩ => exact Nat.zero_add _

theorem at2 (a : (pcfg0 (F := F)).Adm) (t : Fin (cfg0 a).N) (d : Fin 1024) (f : Fin 512) (e : Fin 32)
    (h : ((show S160.Idx → BitVec 32 from a.1 0) (ix1 ⟨t.val, lt_160 a t⟩)).toNat = e.val) :
    (((cfg0 a).win 2).blk t).view.emb (ix3 0 d f : S1x1024x512.Idx) = (ix3 e d f : S32x1024x512.Idx) := by
  funext k
  refine Fin.ext (((((cfg0 a).win 2).rect_emb_val t (ix3 0 d f : S1x1024x512.Idx) k rfl)).trans ?_)
  rw [idx2 a t, h]
  match k with
  | ⟨0, _⟩ => exact Nat.mul_one _
  | ⟨1, _⟩ => exact Nat.zero_add _
  | ⟨2, _⟩ => exact Nat.zero_add _

theorem at3 (a : (pcfg0 (F := F)).Adm) (t : Fin (cfg0 a).N) (f : Fin 512) (d : Fin 1024) (e : Fin 32)
    (h : ((show S160.Idx → BitVec 32 from a.1 0) (ix1 ⟨t.val, lt_160 a t⟩)).toNat = e.val) :
    (((cfg0 a).win 3).blk t).view.emb (ix3 0 f d : S1x512x1024.Idx) = (ix3 e f d : S32x512x1024.Idx) := by
  funext k
  refine Fin.ext (((((cfg0 a).win 3).rect_emb_val t (ix3 0 f d : S1x512x1024.Idx) k rfl)).trans ?_)
  rw [idx3 a t, h]
  match k with
  | ⟨0, _⟩ => exact Nat.mul_one _
  | ⟨1, _⟩ => exact Nat.zero_add _
  | ⟨2, _⟩ => exact Nat.zero_add _

/-- What a window reads, at coordinates. -/
theorem read0 (a : (pcfg0 (F := F)).Adm) (t : Fin (cfg0 a).N) (r : Fin 512) (d : Fin 1024) (h : t.val * 512 + r.val < 81920) (X : Vec F S81920x1024 .f32) :
    (((cfg0 a).win 0).blk t).view.read (Elt F) X (ix2 r d : S512x1024.Idx) = X (ix2 ⟨t.val * 512 + r.val, h⟩ d) := congrArg X (at0 a t r d h)
theorem read1 (a : (pcfg0 (F := F)).Adm) (t : Fin (cfg0 a).N) (d : Fin 1024) (f : Fin 512) (e : Fin 32)
    (h : ((show S160.Idx → BitVec 32 from a.1 0) (ix1 ⟨t.val, lt_160 a t⟩)).toNat = e.val) (X : Vec F S32x1024x512 .f32) :
    (((cfg0 a).win 1).blk t).view.read (Elt F) X (ix3 0 d f : S1x1024x512.Idx) = X (ix3 e d f) := congrArg X (at1 a t d f e h)
theorem read2 (a : (pcfg0 (F := F)).Adm) (t : Fin (cfg0 a).N) (d : Fin 1024) (f : Fin 512) (e : Fin 32)
    (h : ((show S160.Idx → BitVec 32 from a.1 0) (ix1 ⟨t.val, lt_160 a t⟩)).toNat = e.val) (X : Vec F S32x1024x512 .f32) :
    (((cfg0 a).win 2).blk t).view.read (Elt F) X (ix3 0 d f : S1x1024x512.Idx) = X (ix3 e d f) := congrArg X (at2 a t d f e h)
theorem read3 (a : (pcfg0 (F := F)).Adm) (t : Fin (cfg0 a).N) (f : Fin 512) (d : Fin 1024) (e : Fin 32)
    (h : ((show S160.Idx → BitVec 32 from a.1 0) (ix1 ⟨t.val, lt_160 a t⟩)).toNat = e.val) (X : Vec F S32x512x1024 .f32) :
    (((cfg0 a).win 3).blk t).view.read (Elt F) X (ix3 0 f d : S1x512x1024.Idx) = X (ix3 e f d) := congrArg X (at3 a t f d e h)

/-- Every block of the output is written. -/
theorem covers (a : (pcfg0 (F := F)).Adm) : ((cfg0 a).win 4).Covers := of_decide_eq_true (by sl_kernel_rfl)

theorem cond1_iff (i : grid0.Coords) (n : BitVec 32) : k0_cond1 i n = 1#1 ↔ IntOp.cmpi .slt (BitVec.ofNat 32 (i 0).val) n = 1#1 := by
  have e : ∀ b : BitVec 1, (Scalar.cmpi .ne (Scalar.extui b : BitVec 32) 0#32 = 1#1) ↔ b = 1#1 := by decide
  exact e _

end Blocks

/-- One entry of a row through an expert's matrix. -/
def through (x1 : S81920x1024.Idx → EReal) (w : S32x1024x512.Idx → EReal) (e : Fin 32) (row : Fin 81920) (f : Fin 512) : EReal :=
  ∑ d : Fin 1024, x1 (ix2 row d) * w (ix3 e d f)

/-- The gated product of the two. -/
def gated (a b : EReal) : EReal := a * Ideal.div 1 (1 + Ideal.exp (0 - a)) * b

/-- How many blocks are used. -/
def count (x0 : S32.Idx → BitVec 32) : BitVec 32 := floorDiv (val_main_v7 (F := Ideal) x0 (ix1 31))

/-- A block's expert, as an index. -/
def who (x0 : S32.Idx → BitVec 32) (t : Fin 160) : Fin 32 := ⟨expert (F := Ideal) x0 t, expert_lt x0 t⟩

/-- Row `r` of block `t`, column `n`, of the result. -/
def entry (x0 : S32.Idx → BitVec 32) (x1 : S81920x1024.Idx → EReal) (x2 x3 : S32x1024x512.Idx → EReal) (x4 : S32x512x1024.Idx → EReal) (t : Fin 160) (r : Fin 512) (n : Fin 1024) : EReal :=
  if IntOp.cmpi .slt (BitVec.ofNat 32 t.val) (count x0) = 1#1 then
    ∑ f : Fin 512, gated (through x1 x2 (who x0 t) ⟨t.val * 512 + r.val, by omega⟩ f) (through x1 x3 (who x0 t) ⟨t.val * 512 + r.val, by omega⟩ f) * x4 (ix3 (who x0 t) f n)
  else 0

/-- The whole result. -/
def result (x0 : S32.Idx → BitVec 32) (x1 : S81920x1024.Idx → EReal) (x2 x3 : S32x1024x512.Idx → EReal) (x4 : S32x512x1024.Idx → EReal) : S81920x1024.Idx → EReal := fun i =>
  entry x0 x1 x2 x3 x4 ⟨(i 0).val / 512, by have : (i 0).val < 81920 := (i 0).isLt; omega⟩ ⟨(i 0).val % 512, by omega⟩ (i 1)

theorem result_at (x0 : S32.Idx → BitVec 32) (x1 : S81920x1024.Idx → EReal) (x2 x3 : S32x1024x512.Idx → EReal) (x4 : S32x512x1024.Idx → EReal) (t : Fin 160) (r : Fin 512) (n : Fin 1024)
    (h : t.val * 512 + r.val < 81920) : result x0 x1 x2 x3 x4 (ix2 ⟨t.val * 512 + r.val, h⟩ n) = entry x0 x1 x2 x3 x4 t r n := by
  unfold result
  have ht : ∀ h', (⟨(t.val * 512 + r.val) / 512, h'⟩ : Fin 160) = t := fun h' => Fin.ext (by show (t.val * 512 + r.val) / 512 = t.val; omega)
  have hr : ∀ h', (⟨(t.val * 512 + r.val) % 512, h'⟩ : Fin 512) = r := fun h' => Fin.ext (by show (t.val * 512 + r.val) % 512 = r.val; omega)
  exact congrArg₂ (fun a b => entry x0 x1 x2 x3 x4 a b n) (ht _) (hr _)

/-- A sum of products over equal factors. -/
theorem dot_congr {n : ℕ} {f f' g g' : Fin n → EReal} (h : ∀ d, f d = f' d) (k : ∀ d, g d = g' d) :
    ∑ d, f d * g d = ∑ d, f' d * g' d := Finset.sum_congr rfl fun d _ => by rw [h, k]

/-- A used block's payload at an entry. -/
theorem pay1_apply (v8 : Vec Ideal S512x1024 .f32) (v10 v22 : Vec Ideal S1x1024x512 .f32) (v28 : Vec Ideal S1x512x1024 .f32) (r : Fin 512) (n : Fin 1024) :
    k0_pay1 (F := Ideal) v8 v10 v22 v28 (ix2 r n)
      = ∑ f : Fin 512, gated (∑ d : Fin 1024, v8 (ix2 r d) * v10 (ix3 0 d f)) (∑ d : Fin 1024, v8 (ix2 r d) * v22 (ix3 0 d f)) * v28 (ix3 0 f n) := by
  pointwise [k0_pay1]
  rfl

theorem pay2_apply (i : S512x1024.Idx) : k0_pay2 (F := Ideal) i = (0 : EReal) := by
  pointwise [k0_pay2]

theorem blockOut_apply (i : grid0.Coords) (w : BitVec 32) (v8 : Vec Ideal S512x1024 .f32) (v10 v22 : Vec Ideal S1x1024x512 .f32) (v28 : Vec Ideal S1x512x1024 .f32) (r : Fin 512) (n : Fin 1024) :
    blockOut (F := Ideal) i w v8 v10 v22 v28 (ix2 r n) = if k0_cond1 i w = 1#1 then
      ∑ f : Fin 512, gated (∑ d : Fin 1024, v8 (ix2 r d) * v10 (ix3 0 d f)) (∑ d : Fin 1024, v8 (ix2 r d) * v22 (ix3 0 d f)) * v28 (ix3 0 f n) else 0 := by
  unfold blockOut
  rw [apply_ite (fun g : Vec Ideal S512x1024 .f32 => g (ix2 r n)), pay1_apply, pay2_apply]

variable (m : (ℓ : Loc nD τ sig) → Buf (Elt Ideal) ℓ)

/-- The launched arguments. -/
abbrev rows (c : Dev nD) : S81920x1024.Idx → EReal := m ((c : Thread nD τ).loc main_arg1)
abbrev wGate (c : Dev nD) : S32x1024x512.Idx → EReal := m ((c : Thread nD τ).loc main_arg2)
abbrev wUp (c : Dev nD) : S32x1024x512.Idx → EReal := m ((c : Thread nD τ).loc main_arg3)
abbrev wDown (c : Dev nD) : S32x512x1024.Idx → EReal := m ((c : Thread nD τ).loc main_arg4)

/-- What a point leaves in the output's block, at coordinates. -/
theorem block_entry (hO : Ok m) (c : Dev nD) (t : Fin (cfgM m hO).N) (r : Fin 512) (n : Fin 1024) :
    outAt m hO c t (ix2 r n) = entry (counts m c) (rows m c) (wGate m c) (wUp m c) (wDown m c) ⟨t.val, lt_160 (adm m hO) t⟩ r n := by
  obtain rfl : c = 0 := Subsingleton.elim _ _
  have hw : ((show S160.Idx → BitVec 32 from (adm m hO).1 0) (ix1 ⟨t.val, lt_160 (adm m hO) t⟩)).toNat = (who (counts m 0) ⟨t.val, lt_160 (adm m hO) t⟩).val :=
    Eq.trans (b := (val_main_v13 (F := Ideal) (counts m 0) (ix1 ⟨t.val, lt_160 (adm m hO) t⟩)).toNat) (congrArg BitVec.toNat (tbl_expert m ⟨t.val, lt_160 (adm m hO) t⟩)) rfl
  have hn : nused m 0 = count (counts m 0) := (nused_eq m 0 (fun a => a.elim0)).trans (blocks_ref _ _)
  have hlt : t.val * 512 + r.val < 81920 := by have := lt_160 (adm m hO) t; omega
  have hc : (k0_cond1 (grid0.coords t) (nused m 0) = 1#1) = (IntOp.cmpi .slt (BitVec.ofNat 32 t.val) (count (counts m 0)) = 1#1) := by
    rw [hn, propext (cond1_iff _ _), crd (adm m hO) t]
  refine (blockOut_apply (grid0.coords t) (nused m 0) (iblk m hO 0 0 t) (iblk m hO 0 1 t) (iblk m hO 0 2 t) (iblk m hO 0 3 t) r n).trans (if_congr (iff_of_eq hc) ?_ rfl)
  have e0 : ∀ d, (iblk m hO 0 0 t : Vec Ideal S512x1024 .f32) (ix2 r d) = rows m 0 (ix2 ⟨t.val * 512 + r.val, hlt⟩ d) := fun d =>
    (read0 (adm m hO) t r d hlt (V m 0 main_arg1)).trans (congrFun (V_arg1 m 0) _)
  have e1 : ∀ d f, (iblk m hO 0 1 t : Vec Ideal S1x1024x512 .f32) (ix3 0 d f) = wGate m 0 (ix3 (who (counts m 0) ⟨t.val, lt_160 (adm m hO) t⟩) d f) := fun d f =>
    (read1 (adm m hO) t d f _ hw (V m 0 main_arg2)).trans (congrFun (V_arg2 m 0) _)
  have e2 : ∀ d f, (iblk m hO 0 2 t : Vec Ideal S1x1024x512 .f32) (ix3 0 d f) = wUp m 0 (ix3 (who (counts m 0) ⟨t.val, lt_160 (adm m hO) t⟩) d f) := fun d f =>
    (read2 (adm m hO) t d f _ hw (V m 0 main_arg3)).trans (congrFun (V_arg3 m 0) _)
  have e3 : ∀ f d, (iblk m hO 0 3 t : Vec Ideal S1x512x1024 .f32) (ix3 0 f d) = wDown m 0 (ix3 (who (counts m 0) ⟨t.val, lt_160 (adm m hO) t⟩) f d) := fun f d =>
    (read3 (adm m hO) t f d _ hw (V m 0 main_arg4)).trans (congrFun (V_arg4 m 0) _)
  refine dot_congr (fun f => ?_) (fun f => e3 f n)
  exact congrArg₂ gated (dot_congr e0 fun d => e1 d f) (dot_congr e0 fun d => e2 d f)

/-- The kernel's array. -/
theorem out4 (hO : Ok m) (c : Dev nD) : (dats m hO 0 c).arrAt 4 (cfgM m hO).N = result (counts m c) (rows m c) (wGate m c) (wUp m c) (wDown m c) := by
  refine (dats m hO 0 c).arrAt_eq_of_covers 4 _ (covers (adm m hO)) fun t _ y => ?_
  have key : ∀ y : S512x1024.Idx, outAt m hO c t y = result (counts m c) (rows m c) (wGate m c) (wUp m c) (wDown m c) ((((cfgM m hO).win 4).blk t).view.emb y) := by
    intro y
    have hy : y = ix2 (y 0) (y 1) := by
      funext k
      match k with
      | ⟨0, _⟩ => rfl
      | ⟨1, _⟩ => rfl
    have hlt : t.val * 512 + (y 0).val < 81920 := by
      have := lt_160 (adm m hO) t; have : (y 0).val < 512 := (y 0).isLt; omega
    rw [hy]
    exact (block_entry m hO c t _ _).trans ((result_at _ _ _ _ _ ⟨t.val, lt_160 (adm m hO) t⟩ _ _ hlt).symm.trans (congrArg _ (at4 (adm m hO) t _ _ hlt).symm))
  exact (congrFun (after_4 m hO c t) y).trans (key y)

/-! ## The reference's array -/

section Reference

open Cert.Reference3Ideal.Read

/-- Rows of a stack of matrices named by a column of indices: each result matrix is the one its index names. -/
theorem take_apply {α : Type} {A B : Nat} (wf) (x : (⟨3, ![32, A, B]⟩ : Shape).Idx → α) (idx : IVec ⟨2, ![160, 1]⟩ 32) (t : Fin 160) (a : Fin A) (b : Fin B) (e : Fin 32)
    (h : (idx (ix2 t (0 : Fin 1))).toInt.toNat = e.val) :
    Host.gather (⟨[1, 2], [0], [], [], [0], 1, ![1, A, B], wf⟩ : GatherDims ⟨3, ![32, A, B]⟩ ⟨2, ![160, 1]⟩ ⟨3, ![160, A, B]⟩) x idx (ix3 t a b) = x (ix3 e a b) := by
  generalize hd : (⟨[1, 2], [0], [], [], [0], 1, ![1, A, B], wf⟩ : GatherDims ⟨3, ![32, A, B]⟩ ⟨2, ![160, 1]⟩ ⟨3, ![160, A, B]⟩) = d
  unfold Host.gather
  refine congrArg x (funext fun k => Fin.ext ?_)
  have hb : ∀ k, d.batchCoord (ix3 t a b) k = 0 := fun k => d.batchCoord_eq_zero _ _ (by rw [← hd]; exact List.not_mem_nil)
  show d.start (ix3 t a b) idx k + d.batchCoord (ix3 t a b) k + d.offCoord (ix3 t a b) k = _
  rw [hb, Nat.add_zero]
  match k with
  | ⟨0, _⟩ =>
    rw [d.offCoord_eq_zero _ _ (by subst hd; show (0 : Fin 3) ∉ ([1, 2] : List (Fin 3)); decide), Nat.add_zero]
    unfold GatherDims.start
    rw [dif_pos (by subst hd; show (0 : Fin 3) ∈ ([0] : List (Fin 3)); decide)]
    have hs : ∀ q, d.siIdx (ix3 t a b) q = ix2 t (0 : Fin 1) := by
      intro q
      subst hd
      funext p
      match p with
      | ⟨0, _⟩ => rfl
      | ⟨1, _⟩ => exact Subsingleton.elim (α := Fin 1) _ _
    rw [hs, h]
    subst hd
    show min e.val (32 - 1) = e.val
    omega
  | ⟨1, _⟩ =>
    unfold GatherDims.start
    rw [dif_neg (by subst hd; show (1 : Fin 3) ∉ ([0] : List (Fin 3)); decide), Nat.zero_add]
    subst hd; rfl
  | ⟨2, _⟩ =>
    unfold GatherDims.start
    rw [dif_neg (by subst hd; show (2 : Fin 3) ∉ ([0] : List (Fin 3)); decide), Nat.zero_add]
    subst hd; rfl

variable (x0 : (⟨S32, .i32⟩ : BufTy).Contents (Elt Ideal)) (x1 : (⟨S81920x1024, .f32⟩ : BufTy).Contents (Elt Ideal)) (x2 x3 : (⟨S32x1024x512, .f32⟩ : BufTy).Contents (Elt Ideal))
  (x4 : (⟨S32x512x1024, .f32⟩ : BufTy).Contents (Elt Ideal))

/-- No index of an expert is negative, so none is moved. -/
theorem kept (w : BitVec 32) (h : w.toNat < 32) : (Scalar.select (IntOp.cmpi .slt w 0#32) (IntOp.addi w 32#32) w).toInt.toNat = w.toNat := by
  have e : ∀ k : Fin 32, (Scalar.select (IntOp.cmpi .slt (BitVec.ofNat 32 k.val) 0#32) (IntOp.addi (BitVec.ofNat 32 k.val) 32#32) (BitVec.ofNat 32 k.val)).toInt.toNat = k.val := by decide +kernel
  have hw : w = BitVec.ofNat 32 w.toNat := by simp
  have := e ⟨w.toNat, h⟩
  rw [← hw] at this
  exact this

theorem index20 (t : Fin 160) : (val_main_v20 (F := Ideal) x0 (ix2 t 0)).toInt.toNat = (who x0 t).val := by
  rw [val_main_v20_apply]
  have : idx_main_v20 (ix2 t 0) = (ix1 t : S160.Idx) := by funext a; match a with | ⟨0, _⟩ => rfl
  rw [this]
  exact kept _ (expert_lt x0 t)
theorem index29 (t : Fin 160) : (val_main_v29 (F := Ideal) x0 (ix2 t 0)).toInt.toNat = (who x0 t).val := by
  rw [val_main_v29_apply]
  have : idx_main_v29 (ix2 t 0) = (ix1 t : S160.Idx) := by funext a; match a with | ⟨0, _⟩ => rfl
  rw [this]
  exact kept _ (expert_lt x0 t)
theorem index38 (t : Fin 160) : (val_main_v38 (F := Ideal) x0 (ix2 t 0)).toInt.toNat = (who x0 t).val := by
  rw [val_main_v38_apply]
  have : idx_main_v38 (ix2 t 0) = (ix1 t : S160.Idx) := by funext a; match a with | ⟨0, _⟩ => rfl
  rw [this]
  exact kept _ (expert_lt x0 t)

theorem gather21 (t : Fin 160) (d : Fin 1024) (f : Fin 512) : val_main_v21 (F := Ideal) x0 x2 (ix3 t d f) = x2 (ix3 (who x0 t) d f) :=
  take_apply Cert.Reference3Ideal.Gen.gather_S32x1024x512_S160x1_S160x1024x512_12_0_n_n_0_1_11024512_wf x2 (val_main_v20 (F := Ideal) x0) t d f (who x0 t) (index20 x0 t)
theorem gather30 (t : Fin 160) (d : Fin 1024) (f : Fin 512) : val_main_v30 (F := Ideal) x0 x3 (ix3 t d f) = x3 (ix3 (who x0 t) d f) :=
  take_apply Cert.Reference3Ideal.Gen.gather_S32x1024x512_S160x1_S160x1024x512_12_0_n_n_0_1_11024512_wf x3 (val_main_v29 (F := Ideal) x0) t d f (who x0 t) (index29 x0 t)
theorem gather39 (t : Fin 160) (f : Fin 512) (n : Fin 1024) : val_main_v39 (F := Ideal) x0 x4 (ix3 t f n) = x4 (ix3 (who x0 t) f n) :=
  take_apply Cert.Reference3Ideal.Gen.gather_S32x512x1024_S160x1_S160x512x1024_12_0_n_n_0_1_15121024_wf x4 (val_main_v38 (F := Ideal) x0) t f n (who x0 t) (index38 x0 t)

theorem block14 (t : Fin 160) (r : Fin 512) (d : Fin 1024) : val_main_v14 (F := Ideal) x1 (ix3 t r d) = x1 (ix2 ⟨t.val * 512 + r.val, by omega⟩ d) := by
  rw [val_main_v14_apply]
  refine congrArg x1 (funext fun a => Fin.ext ?_)
  match a with
  | ⟨0, _⟩ => show ((t.val * 512 + r.val) * 1024 + d.val) / 1024 = t.val * 512 + r.val; omega
  | ⟨1, _⟩ => show ((t.val * 512 + r.val) * 1024 + d.val) % 1024 = d.val; omega

theorem gate22 (t : Fin 160) (r f : Fin 512) : val_main_v22 (F := Ideal) x0 x1 x2 (ix3 t r f) = through x1 x2 (who x0 t) ⟨t.val * 512 + r.val, by omega⟩ f := by
  rw [val_main_v22_apply]
  refine dot_congr (fun d => ?_) (fun d => ?_)
  · refine Eq.trans (congrArg _ ?_) (block14 x1 t r d)
    funext a; match a with | ⟨0, _⟩ => rfl | ⟨1, _⟩ => rfl | ⟨2, _⟩ => rfl
  · refine Eq.trans (congrArg _ (a₂ := (ix3 t d f : Cert.Reference3Ideal.S160x1024x512.Idx)) ?_) (gather21 x0 x2 t d f)
    funext a; match a with | ⟨0, _⟩ => rfl | ⟨1, _⟩ => rfl | ⟨2, _⟩ => rfl

theorem up31 (t : Fin 160) (r f : Fin 512) : val_main_v31 (F := Ideal) x0 x1 x3 (ix3 t r f) = through x1 x3 (who x0 t) ⟨t.val * 512 + r.val, by omega⟩ f := by
  rw [val_main_v31_apply]
  refine dot_congr (fun d => ?_) (fun d => ?_)
  · refine Eq.trans (congrArg _ ?_) (block14 x1 t r d)
    funext a; match a with | ⟨0, _⟩ => rfl | ⟨1, _⟩ => rfl | ⟨2, _⟩ => rfl
  · refine Eq.trans (congrArg _ (a₂ := (ix3 t d f : Cert.Reference3Ideal.S160x1024x512.Idx)) ?_) (gather30 x0 x3 t d f)
    funext a; match a with | ⟨0, _⟩ => rfl | ⟨1, _⟩ => rfl | ⟨2, _⟩ => rfl

theorem hidden32 (t : Fin 160) (r f : Fin 512) : val_main_v32 (F := Ideal) x0 x1 x2 x3 (ix3 t r f)
    = gated (through x1 x2 (who x0 t) ⟨t.val * 512 + r.val, by omega⟩ f) (through x1 x3 (who x0 t) ⟨t.val * 512 + r.val, by omega⟩ f) := by
  rw [← gate22, ← up31]
  unfold gated
  rw [zero_sub]
  pointwise [val_main_v32, val_main_v23, val_main_call3_v0, val_main_call3_v1, val_main_call3_v2, val_main_call3_v3, val_main_call3_v4, val_main_call3_v5, val_main_call3_cst, val_main_call3_cst_0]

theorem out40 (t : Fin 160) (r : Fin 512) (n : Fin 1024) : val_main_v40 (F := Ideal) x0 x1 x2 x3 x4 (ix3 t r n)
    = ∑ f : Fin 512, gated (through x1 x2 (who x0 t) ⟨t.val * 512 + r.val, by omega⟩ f) (through x1 x3 (who x0 t) ⟨t.val * 512 + r.val, by omega⟩ f) * x4 (ix3 (who x0 t) f n) := by
  rw [val_main_v40_apply]
  refine dot_congr (fun f => ?_) (fun f => ?_)
  · refine Eq.trans (congrArg _ ?_) (hidden32 x0 x1 x2 x3 t r f)
    funext a; match a with | ⟨0, _⟩ => rfl | ⟨1, _⟩ => rfl | ⟨2, _⟩ => rfl
  · refine Eq.trans (congrArg _ (a₂ := (ix3 t f n : Cert.Reference3Ideal.S160x512x1024.Idx)) ?_) (gather39 x0 x4 t f n)
    funext a; match a with | ⟨0, _⟩ => rfl | ⟨1, _⟩ => rfl | ⟨2, _⟩ => rfl

theorem entry48 (t : Fin 160) (r : Fin 512) (n : Fin 1024) : val_main_v48 (F := Ideal) x0 x1 x2 x3 x4 (ix3 t r n) = entry x0 x1 x2 x3 x4 t r n := by
  rw [val_main_v48_apply, val_main_call5_v1_apply, val_main_v47_apply, val_main_v46_apply, val_main_v45_apply, blocks_ref, out40]
  have hz : val_main_call5_v2 (F := Ideal) (ix3 t r n) = (0 : EReal) := by pointwise [val_main_call5_v2, val_main_call5_v0, val_main_cst, id_eq]
  rw [hz]
  rfl

/-- The reference's array. -/
theorem ref49 : val_main_v49 (F := Ideal) x0 x1 x2 x3 x4 = result x0 x1 x2 x3 x4 := by
  funext i
  rw [val_main_v49_apply]
  refine Eq.trans (congrArg _ ?_) (entry48 x0 x1 x2 x3 x4 _ _ _)
  funext a
  have h0 : (i 0).val < 81920 := (i 0).isLt
  have h1 : (i 1).val < 1024 := (i 1).isLt
  refine Fin.ext ?_
  match a with
  | ⟨0, _⟩ => show ((i 0).val * 1024 + (i 1).val) / 524288 = (i 0).val / 512; omega
  | ⟨1, _⟩ => show ((i 0).val * 1024 + (i 1).val) / 1024 % 512 = (i 0).val % 512; omega
  | ⟨2, _⟩ => show ((i 0).val * 1024 + (i 1).val) % 1024 = (i 1).val; omega

end Reference

end Cert.Moe
-- ==== Proof.Moe.Claims.lean ====
/-
  The claims about the experts: the frames, and the equality with each block's rows through its expert written plainly.
-/
module

public import proofs.«01_k».proof.Defs
public import proofs.«01_k».proof.Proof.Moe.Value
public import proofs.«01_k».proof.Proof.Gen.Kernel3.Launch
public import proofs.«01_k».proof.Proof.Gen.Reference3Ideal
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem
open Idealize.ShloMosaic.Tactic

namespace Cert.Moe

/-- The program ends with its arguments unchanged and every counter at zero, at every kind of arithmetic. -/
def Ends (F : FTy → Type) [FloatOps F] : Prop :=
  ∀ (m : (ℓ : Loc Cert.Kernel3Ideal.nD Cert.Kernel3Ideal.τ Cert.Kernel3Ideal.sig) → Buf (Elt F) ℓ) (ρ : Dev Cert.Kernel3Ideal.nD → PrngReg), True →
    θ_run Cert.Kernel3Ideal.defs (onTc (τ := Cert.Kernel3Ideal.τ) (Cert.Kernel3Ideal.main (F := F))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

theorem ends (F : FTy → Type) [FloatOps F] : Ends F := fun m ρ _ =>
  (θ_run _ _ _).mono (fun _ h => ⟨fun c => (h.1 c).2, h.2⟩) (run_out m ρ (ok m))

theorem frameIdeal : Cert.quiescent_Kernel3Ideal (hKernel3Ideal := Cert.Kernel3Ideal.Gen.facts) := ends Ideal

/-- The kernel's own program is the same program read at machine floats. -/
theorem same : Cert.quiescent_Kernel3 (hKernel3 := Cert.Kernel3.Gen.facts) = Ends Bits := by sl_kernel_rfl

theorem frame : Cert.quiescent_Kernel3 (hKernel3 := Cert.Kernel3.Gen.facts) := same ▸ ends Bits

theorem frameRef : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run m ρ)

theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => result (counts m c) (rows m c) (wGate m c) (wUp m c) (wDown m c), ?_, ?_⟩
  · exact (θ_run _ _ _).mono (fun _ h c => ⟨(h.1 c).1.trans (out4 m (ok m) c), (h.1 c).2⟩) (run_out m ρ (ok m))
  · refine (θ_run _ _ _).mono (fun _ h c => ?_) (Cert.Reference3Ideal.Value.run (F := Ideal) m' ρ')
    obtain ⟨h0, h1, h2, h3, h4⟩ := hag c
    refine ⟨(h c).1.trans ?_, (h c).2⟩
    rw [Cert.Reference3Ideal.Read.val_main_v49_eq, h0, h1, h2, h3, h4]
    exact ref49 _ _ _ _ _

end Cert.Moe
-- ==== Proof.Proj.Wide.lean ====
/-
  The wide projection: the queries scaled and laid out head by head, the keys and values, the gates, the pooling branch's columns.
-/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Proj

/-! ## A finite scale taken out of a sum -/

/-- The number an eighth, as either format spells it. -/
theorem eighth_bf16 : Ideal.ofBits .bf16 0x3E00#16 = (((1 : ℝ) / 8 : ℝ) : EReal) := by
  simp [Ideal.ofBits, Ideal.ieee, -EReal.coe_mul]; norm_num
theorem eighth_f32 : Ideal.ofBits .f32 0x3E000000#32 = (((1 : ℝ) / 8 : ℝ) : EReal) := by
  simp [Ideal.ofBits, Ideal.ieee, -EReal.coe_mul]; norm_num

theorem sum_scale {n : ℕ} (f g : Fin n → EReal) (a : ℝ) (ha : 0 ≤ a) :
    ∑ d, f d * (g d * (a : EReal)) = (∑ d, f d * g d) * (a : EReal) := by
  have h : ∀ s : Finset (Fin n), ∑ d ∈ s, f d * (g d * (a : EReal)) = (∑ d ∈ s, f d * g d) * (a : EReal) := by
    intro s
    induction s using Finset.induction_on with
    | empty => simp
    | insert x s hx ih =>
      rw [Finset.sum_insert hx, Finset.sum_insert hx, ih, ← mul_assoc,
        EReal.right_distrib_of_nonneg_of_ne_top (by exact_mod_cast ha) (EReal.coe_ne_top a)]
  exact h _

open Cert.Kernel4Ideal Cert.Kernel4Ideal.Gen

/-! ## What the projection is, column by column -/

variable (x : FVec Ideal S32768x1024 .f32) (w : FVec Ideal S1024x5400 .f32)

/-- One column of the projection. -/
def col (r : Fin 32768) (n : Fin 5400) : EReal := ∑ d : Fin 1024, x (ix2 r d) * w (ix2 d n)

/-- The queries: head `j / 128` holds its group's half of the lanes, scaled, the other half zero. -/
def qRow : FVec Ideal S32768x1024 .bf16 := fun i =>
  if h : (i 1).val / 512 < 1 then
    if h₁ : (i 1).val % 128 < 64 then col x w (i 0) ⟨(i 1).val / 128 % 4 * 64 + (i 1).val % 128, by have := (i 1).isLt; simp at this; omega⟩ * Ideal.ofBits .f32 0x3E000000#32 else 0
  else
    if h₁ : (i 1).val % 128 < 64 then 0 else
      col x w (i 0) ⟨256 + (i 1).val / 128 % 4 * 64 + ((i 1).val % 128 - 64), by have := (i 1).isLt; simp at this; omega⟩ * Ideal.ofBits .f32 0x3E000000#32

/-- The keys and values of the three branches. -/
def kvRow : FVec Ideal S32768x768 .bf16 := fun i => col x w (i 0) ⟨512 + (i 1).val, by have := (i 1).isLt; simp at this; omega⟩

/-- The gates of the attention branches, 24 lanes of 128. -/
def ngRow : FVec Ideal S32768x128 .f32 := fun i =>
  if h : (i 1).val < 24 then col x w (i 0) ⟨1280 + (i 1).val, by omega⟩ else 0

/-- The pooling branch's columns. -/
def poolRow : FVec Ideal S32768x512 .f32 := fun i => col x w (i 0) ⟨1304 + (i 1).val, by have := (i 1).isLt; simp at this; omega⟩

/-! ## The plain projection's four results -/

open Cert.Reference4Ideal.Read in
theorem ref_q : val_main_v18 (F := Ideal) x w = qRow x w := by
  funext i
  rw [eq_ix2 i]
  generalize (i 0) = r
  generalize (i 1) = j
  unfold qRow col
  pointwise [val_main_v0, val_main_v1, val_main_v2, val_main_v3, val_main_v4, val_main_v5, val_main_v6, val_main_v7, val_main_v8, val_main_v9, val_main_v10, val_main_v11, val_main_v12, val_main_v13, val_main_v14, val_main_v15, val_main_v18, val_main_cst, val_main_cst_0]

open Cert.Reference4Ideal.Read in
theorem ref_kv : val_main_v20 (F := Ideal) x w = kvRow x w := by
  funext i
  rw [eq_ix2 i]
  generalize (i 0) = r
  generalize (i 1) = j
  unfold kvRow col
  pointwise [val_main_v0, val_main_v19, val_main_v20]

open Cert.Reference4Ideal.Read in
theorem ref_ng : val_main_v17 (F := Ideal) x w = ngRow x w := by
  funext i
  rw [eq_ix2 i]
  generalize (i 0) = r
  generalize (i 1) = j
  unfold ngRow col
  pointwise [val_main_v0, val_main_v16, val_main_v17, val_main_call0_v0, val_main_c]
  rw [show (FloatOps.sitofp .f32 (0#32 : BitVec 32) : Ideal .f32) = 0 from sitofp_zero]

open Cert.Reference4Ideal.Read in
theorem ref_pool : val_main_v21 (F := Ideal) x w = poolRow x w := by
  funext i
  rw [eq_ix2 i]
  generalize (i 0) = r
  generalize (i 1) = j
  unfold poolRow col
  pointwise [val_main_v0, val_main_v21]

/-! ## The prepared weights -/

variable (m : (ℓ : Loc nD τ sig) → Buf (Elt Ideal) ℓ)

/-- The argument the weights are prepared from. -/
abbrev win (c : Dev nD) : FVec Ideal S1024x5400 .f32 := m ((c : Thread nD τ).loc main_arg1)

theorem w_q (c : Dev nD) (d : Fin 1024) (j : Fin 1024) :
    (V m c main_v27 : FVec Ideal S1024x2432 .bf16) (ix2 d ⟨j.val, by omega⟩)
      = (if h : j.val / 512 < 1 then
          if h₁ : j.val % 128 < 64 then win m c (ix2 d ⟨j.val / 128 % 4 * 64 + j.val % 128, by omega⟩) * Ideal.ofBits .bf16 0x3E00#16 else 0
        else
          if h₁ : j.val % 128 < 64 then 0 else
            win m c (ix2 d ⟨256 + j.val / 128 % 4 * 64 + (j.val % 128 - 64), by omega⟩) * Ideal.ofBits .bf16 0x3E00#16 : EReal) := by
  unfold V
  simp only [hostOps0, hostOps0_1, hostOps0_2, List.flatten_cons, List.flatten_nil, List.append_nil, List.cons_append, List.nil_append]
  after_results_simp
  pointwise
  after_results_simp
  pointwise
  after_results_simp
  pointwise
  after_results_simp
  pointwise

theorem w_kv (c : Dev nD) (d : Fin 1024) (j : Fin 768) :
    (V m c main_v27 : FVec Ideal S1024x2432 .bf16) (ix2 d ⟨1024 + j.val, by omega⟩)
      = win m c (ix2 d ⟨512 + j.val, by omega⟩) := by
  have h0 : ¬ 1024 + j.val < 1024 := by omega
  have h1 : 1024 + j.val - 1024 < 768 := by omega
  have h2 : 1024 + j.val - 1024 = j.val := by omega
  unfold V
  simp only [hostOps0, hostOps0_1, hostOps0_2, List.flatten_cons, List.flatten_nil, List.append_nil, List.cons_append, List.nil_append]
  after_results_simp
  pointwise [h0, h1, h2]
  after_results_simp
  pointwise [h0, h1, h2]

theorem w_ng (c : Dev nD) (d : Fin 1024) (j : Fin 128) :
    (V m c main_v27 : FVec Ideal S1024x2432 .bf16) (ix2 d ⟨1792 + j.val, by omega⟩)
      = (if h : j.val < 24 then win m c (ix2 d ⟨1280 + j.val, by omega⟩) else 0 : EReal) := by
  have h0 : ¬ 1792 + j.val < 1024 := by omega
  have h1 : ¬ 1792 + j.val - 1024 < 768 := by omega
  have h2 : 1792 + j.val - 1024 - 768 < 128 := by omega
  have h3 : 1792 + j.val - 1024 - 768 = j.val := by omega
  unfold V
  simp only [hostOps0, hostOps0_1, hostOps0_2, List.flatten_cons, List.flatten_nil, List.append_nil, List.cons_append, List.nil_append]
  after_results_simp
  pointwise [h0, h1, h2, h3]
  after_results_simp
  refine Eq.trans (b := (pad S1x1024x128 ![0, 0, 0] ![0, 0, 104] ![0, 0, 0]
    (extractStridedSlice S1x1024x24 ![0, 0, 1280] (truncf .bf16 (broadcastInDim S1x1024x5400 ![1, 2] bcast_S1024x5400_S1x1024x5400_1_2 (win m c)) bitsLt_bf16_f32)
      slices_S1x1024x5400_S1x1024x24_0_0_1280 : FVec Ideal S1x1024x24 .bf16)
    (sitofp .bf16 (constantI S_ 32 0#32) : FVec Ideal S_ .bf16) pads_S1x1024x24_S1x1024x128_000_000_01040 h_S_ : FVec Ideal S1x1024x128 .bf16) (ix3 0 d j)) rfl ?_
  pointwise
  rw [show (FloatOps.sitofp .bf16 (0#32 : BitVec 32) : Ideal .bf16) = 0 from sitofp_zero]

theorem w_pool (c : Dev nD) (d : Fin 1024) (j : Fin 512) :
    (V m c main_v27 : FVec Ideal S1024x2432 .bf16) (ix2 d ⟨1920 + j.val, by omega⟩)
      = win m c (ix2 d ⟨1304 + j.val, by omega⟩) := by
  have h0 : ¬ 1920 + j.val < 1024 := by omega
  have h1 : ¬ 1920 + j.val - 1024 < 768 := by omega
  have h2 : ¬ 1920 + j.val - 1024 - 768 < 128 := by omega
  have h3 : 1920 + j.val - 1024 - 768 - 128 = j.val := by omega
  unfold V
  simp only [hostOps0, hostOps0_1, hostOps0_2, List.flatten_cons, List.flatten_nil, List.append_nil, List.cons_append, List.nil_append]
  after_results_simp
  pointwise [h0, h1, h2, h3]
  after_results_simp
  pointwise [h0, h1, h2, h3]

/-! ## The arrays the call leaves -/

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

abbrev xin (c : Dev nD) : FVec Ideal S32768x1024 .f32 := m ((c : Thread nD τ).loc main_arg0)

/-- The vectors' window at a grid point: its 512 rows. -/
theorem x_read (c : Dev nD) (t : Fin cfg0.N) (r : Fin 512) (d : Fin 1024) (hN : t.val < 64) :
    (iblk m c 0 t : FVec Ideal S512x1024 .bf16) (ix2 r d) = xin m c (ix2 ⟨t.val * 512 + r.val, by omega⟩ d) := by
  have hV : (V m c main_v26 : FVec Ideal S32768x1024 .bf16) = xin m c := by
    unfold V
    simp only [hostOps0, hostOps0_1, hostOps0_2, List.flatten_cons, List.flatten_nil, List.append_nil, List.cons_append, List.nil_append]
    after_results_simp
    rfl
  rw [← hV]
  blk_simp [iblk]
  refine congrArg (V m c main_v26) ?_
  blk_ext [idx t]

/-- A sum of products over equal factors. -/
theorem dot_congr {n : ℕ} {f f' g g' : Fin n → EReal} (h : ∀ d, f d = f' d) (k : ∀ d, g d = g' d) :
    ∑ d, f d * g d = ∑ d, f' d * g' d := Finset.sum_congr rfl fun d _ => by rw [h, k]

/-- The weights' window is all of them. -/
theorem w_read (c : Dev nD) (t : Fin cfg0.N) (d : Fin 1024) (n : Fin 2432) :
    (iblk m c 1 t : FVec Ideal S1024x2432 .bf16) (ix2 d n) = (V m c main_v27 : FVec Ideal S1024x2432 .bf16) (ix2 d n) := by
  blk_simp [iblk]
  refine congrArg (V m c main_v27) ?_
  blk_ext [idx t]

theorem final2 (c : Dev nD) : (dats m 0 c).arrAt 2 cfg0.N = qRow (xin m c) (win m c) := by
  refine (dats m 0 c).arrAt_eq_of_covers 2 _ (by decide +kernel) fun t _ y => ?_
  blk_simp
  rw [after0_2]
  frame_out
  idx_vars y
  have hN : t.val < 64 := lt_of_lt_of_eq t.isLt N_0
  have he : ((cfg0.win 2).blk t).view.emb (ix2 y0 y1) = (ix2 ⟨t.val * 512 + y0.val, by omega⟩ y1 : S32768x1024.Idx) := by
    blk_ext [idx t]
  rw [he]
  pointwise [k0_pay2, k0_pay1]
  refine (dot_congr (fun d => x_read m c t y0 d hN) (fun d => (w_read m c t d _).trans (w_q m c d y1))).trans ?_
  show _ = (if h : y1.val / 512 < 1 then
      if h₁ : y1.val % 128 < 64 then col (xin m c) (win m c) ⟨t.val * 512 + y0.val, by omega⟩ ⟨y1.val / 128 % 4 * 64 + y1.val % 128, by omega⟩ * Ideal.ofBits .f32 0x3E000000#32 else 0
    else
      if h₁ : y1.val % 128 < 64 then 0 else
        col (xin m c) (win m c) ⟨t.val * 512 + y0.val, by omega⟩ ⟨256 + y1.val / 128 % 4 * 64 + (y1.val % 128 - 64), by omega⟩ * Ideal.ofBits .f32 0x3E000000#32 : EReal)
  rw [eighth_f32]
  by_cases h : y1.val / 512 < 1 <;> by_cases h₁ : y1.val % 128 < 64 <;>
    simp only [h, h₁, ↓reduceDIte, mul_zero, Finset.sum_const_zero]
  · rw [eighth_bf16]; exact sum_scale _ _ (1 / 8) (by norm_num)
  · rw [eighth_bf16]; exact sum_scale _ _ (1 / 8) (by norm_num)

theorem final3 (c : Dev nD) : (dats m 0 c).arrAt 3 cfg0.N = kvRow (xin m c) (win m c) := by
  refine (dats m 0 c).arrAt_eq_of_covers 3 _ (by decide +kernel) fun t _ y => ?_
  blk_simp
  rw [after0_3]
  frame_out
  idx_vars y
  have hN : t.val < 64 := lt_of_lt_of_eq t.isLt N_0
  have he : ((cfg0.win 3).blk t).view.emb (ix2 y0 y1) = (ix2 ⟨t.val * 512 + y0.val, by omega⟩ y1 : S32768x768.Idx) := by
    blk_ext [idx t]
  rw [he]
  pointwise [k0_pay3, k0_pay1]
  refine (dot_congr (fun d => x_read m c t y0 d hN) (fun d => (w_read m c t d _).trans (w_kv m c d y1))).trans ?_
  rfl

theorem final4 (c : Dev nD) : (dats m 0 c).arrAt 4 cfg0.N = ngRow (xin m c) (win m c) := by
  refine (dats m 0 c).arrAt_eq_of_covers 4 _ (by decide +kernel) fun t _ y => ?_
  blk_simp
  rw [after0_4]
  frame_out
  idx_vars y
  have hN : t.val < 64 := lt_of_lt_of_eq t.isLt N_0
  have he : ((cfg0.win 4).blk t).view.emb (ix2 y0 y1) = (ix2 ⟨t.val * 512 + y0.val, by omega⟩ y1 : S32768x128.Idx) := by
    blk_ext [idx t]
  rw [he]
  pointwise [k0_pay4, k0_pay1]
  refine (dot_congr (fun d => x_read m c t y0 d hN) (fun d => (w_read m c t d _).trans (w_ng m c d y1))).trans ?_
  show _ = (if h : y1.val < 24 then col (xin m c) (win m c) ⟨t.val * 512 + y0.val, by omega⟩ ⟨1280 + y1.val, by omega⟩ else 0 : EReal)
  by_cases h : y1.val < 24
  · simp only [h, ↓reduceDIte]
    rfl
  · simp only [h, ↓reduceDIte, mul_zero, Finset.sum_const_zero]

theorem final5 (c : Dev nD) : (dats m 0 c).arrAt 5 cfg0.N = poolRow (xin m c) (win m c) := by
  refine (dats m 0 c).arrAt_eq_of_covers 5 _ (by decide +kernel) fun t _ y => ?_
  blk_simp
  rw [after0_5]
  frame_out
  idx_vars y
  have hN : t.val < 64 := lt_of_lt_of_eq t.isLt N_0
  have he : ((cfg0.win 5).blk t).view.emb (ix2 y0 y1) = (ix2 ⟨t.val * 512 + y0.val, by omega⟩ y1 : S32768x512.Idx) := by
    blk_ext [idx t]
  rw [he]
  pointwise [k0_pay5, k0_pay1]
  refine (dot_congr (fun d => x_read m c t y0 d hN) (fun d => (w_read m c t d _).trans (w_pool m c d y1))).trans ?_
  rfl

end Cert.Proj
-- ==== Proof.Proj.Time.lean ====
/-
  The time-major projection: the recurrence's columns, one row a time step, the four sequences side by side.
-/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ProjTime

open Cert.Kernel5Ideal Cert.Kernel5Ideal.Gen

/-- Time step `i 0`, sequence `i 1 / 512`: its column `i 1 % 512` of the recurrence's part of the projection. -/
def tRow (x : FVec Ideal S32768x1024 .f32) (w : FVec Ideal S1024x5400 .f32) : FVec Ideal S8192x2048 .f32 := fun i =>
  ∑ d : Fin 1024, x (ix2 ⟨(i 1).val / 512 * 8192 + (i 0).val, by have := (i 1).isLt; have := (i 0).isLt; simp at *; omega⟩ d)
    * w (ix2 d ⟨1816 + (i 1).val % 512, by omega⟩)

open Cert.Reference5Ideal.Read in
theorem ref_t (x : FVec Ideal S32768x1024 .f32) (w : FVec Ideal S1024x5400 .f32) : val_main_v4 (F := Ideal) x w = tRow x w := by
  funext i
  rw [eq_ix2 i]
  generalize (i 0) = r
  generalize (i 1) = j
  unfold tRow
  pointwise [val_main_v0, val_main_v1, val_main_v2, val_main_v3, val_main_v4]

variable (m : (ℓ : Loc nD τ sig) → Buf (Elt Ideal) ℓ)

abbrev xin (c : Dev nD) : FVec Ideal S32768x1024 .f32 := m ((c : Thread nD τ).loc main_arg0)
abbrev win (c : Dev nD) : FVec Ideal S1024x5400 .f32 := m ((c : Thread nD τ).loc main_arg1)

/-- The prepared weights are the recurrence's columns. -/
theorem w_t (c : Dev nD) (d : Fin 1024) (j : Fin 512) :
    (V m c main_v27 : FVec Ideal S1024x512 .bf16) (ix2 d j) = win m c (ix2 d ⟨1816 + j.val, by omega⟩) := by
  unfold V
  simp only [hostOps0, hostOps0_1, hostOps0_2, List.flatten_cons, List.flatten_nil, List.append_nil, List.cons_append, List.nil_append]
  after_results_simp
  pointwise

theorem idx : ∀ t : Fin cfg0.N, win0_0.index t = ![t.val, 0] ∧ win0_1.index t = ![0, 0] ∧ win0_2.index t = ![t.val % 16, t.val / 16] :=
  (by decide +kernel : ∀ t : Fin grid0.N, _)

/-- The vectors' window at a grid point: its 512 rows. -/
theorem x_read (c : Dev nD) (t : Fin cfg0.N) (r : Fin 512) (d : Fin 1024) (hN : t.val < 64) :
    (iblk m c 0 t : FVec Ideal S512x1024 .bf16) (ix2 r d) = xin m c (ix2 ⟨t.val * 512 + r.val, by omega⟩ d) := by
  have hV : (V m c main_v26 : FVec Ideal S32768x1024 .bf16) = xin m c := by
    unfold V
    simp only [hostOps0, hostOps0_1, hostOps0_2, List.flatten_cons, List.flatten_nil, List.append_nil, List.cons_append, List.nil_append]
    after_results_simp
    rfl
  rw [← hV]
  blk_simp [iblk]
  refine congrArg (V m c main_v26) ?_
  blk_ext [idx t]

/-- The weights' window is all of them. -/
theorem w_read (c : Dev nD) (t : Fin cfg0.N) (d : Fin 1024) (n : Fin 512) :
    (iblk m c 1 t : FVec Ideal S1024x512 .bf16) (ix2 d n) = (V m c main_v27 : FVec Ideal S1024x512 .bf16) (ix2 d n) := by
  blk_simp [iblk]
  refine congrArg (V m c main_v27) ?_
  blk_ext [idx t]

/-- A sum of products over equal factors. -/
theorem dot_congr {n : ℕ} {f f' g g' : Fin n → EReal} (h : ∀ d, f d = f' d) (k : ∀ d, g d = g' d) :
    ∑ d, f d * g d = ∑ d, f' d * g' d := Finset.sum_congr rfl fun d _ => by rw [h, k]

theorem final2 (c : Dev nD) : (dats m 0 c).arrAt 2 cfg0.N = tRow (xin m c) (win m c) := by
  refine (dats m 0 c).arrAt_eq_of_covers 2 _ (by decide +kernel) fun t _ y => ?_
  blk_simp
  rw [Cert.Kernel5Ideal.Gen.after0_2]
  frame_out
  idx_vars y
  have hN : t.val < 64 := lt_of_lt_of_eq t.isLt N_0
  have he : ((cfg0.win 2).blk t).view.emb (ix2 y0 y1)
      = (ix2 ⟨t.val % 16 * 512 + y0.val, by omega⟩ ⟨t.val / 16 * 512 + y1.val, by omega⟩ : S8192x2048.Idx) := by
    blk_ext [idx t]
  rw [he]
  pointwise [k0_pay1]
  refine (dot_congr (fun d => x_read m c t y0 d hN) (fun d => (w_read m c t d _).trans (w_t m c d y1))).trans ?_
  show _ = ∑ d : Fin 1024, xin m c (ix2 ⟨(t.val / 16 * 512 + y1.val) / 512 * 8192 + (t.val % 16 * 512 + y0.val), by omega⟩ d)
    * win m c (ix2 d ⟨1816 + (t.val / 16 * 512 + y1.val) % 512, by omega⟩)
  refine dot_congr (fun d => ?_) (fun d => ?_)
  · congr 2; apply Fin.ext; show t.val * 512 + y0.val = (t.val / 16 * 512 + y1.val) / 512 * 8192 + (t.val % 16 * 512 + y0.val); omega
  · congr 2; apply Fin.ext; show 1816 + y1.val = 1816 + (t.val / 16 * 512 + y1.val) % 512; omega

end Cert.ProjTime
-- ==== Proof.Proj.Claims.lean ====
/-
  The claims about the two projections: the frames, and their equality with the projection written plainly.
-/
module

public import proofs.«01_k».proof.Defs
public import proofs.«01_k».proof.Proof.Proj.Wide
public import proofs.«01_k».proof.Proof.Proj.Time
public import proofs.«01_k».proof.Proof.Gen.Kernel4.Frame
public import proofs.«01_k».proof.Proof.Gen.Kernel5.Frame
public import proofs.«01_k».proof.Proof.Gen.Reference4Ideal.Run
public import proofs.«01_k».proof.Proof.Gen.Reference4Ideal
public import proofs.«01_k».proof.Proof.Gen.Reference5Ideal.Run
public import proofs.«01_k».proof.Proof.Gen.Reference5Ideal
public import Idealize.ShloMosaic.Lib.Quiescent

@[expose] public section

set_option maxRecDepth 16384

noncomputable section

open Idealize.ShloMosaic Idealize.ShloMosaic.TcCoe Idealize.SL.Sem

namespace Cert.Proj

theorem frame4 : Cert.quiescent_Kernel4 (hKernel4 := Cert.Kernel4.Gen.facts) := fun m ρ _ => Cert.Kernel4.Gen.frame m ρ

theorem frameIdeal4 : Cert.quiescent_Kernel4Ideal (hKernel4Ideal := Cert.Kernel4Ideal.Gen.facts) := fun m ρ _ => Cert.Kernel4Ideal.Gen.frame m ρ

theorem frameRef4 : Cert.quiescent_Reference4Ideal (hReference4Ideal := Cert.Reference4Ideal.Gen.facts) := fun m ρ _ =>
  (θ_run Cert.Reference4Ideal.defs _ _).mono (fun r h => ⟨fun c => (h c).2.2.2.2, Idealize.ShloMosaic.sem_eq_zero_of_no_sems (by decide) r.2⟩) (Cert.Reference4Ideal.Value.run m ρ)

theorem algebraic4 : Cert.algebraic_Kernel4Ideal_Reference4Ideal (hKernel4Ideal := Cert.Kernel4Ideal.Gen.facts)
    (hReference4Ideal := Cert.Reference4Ideal.Gen.facts) := by
  intro m ρ m' ρ' _ hag
  refine ⟨fun c => qRow (xin m c) (win m c), fun c => kvRow (xin m c) (win m c), fun c => ngRow (xin m c) (win m c),
    fun c => poolRow (xin m c) (win m c), ?_, ?_⟩
  · exact (θ_run _ _ _).mono (fun _ h c => ⟨(h c).1.trans (final2 m c), (h c).2.1.trans (final3 m c), (h c).2.2.1.trans (final4 m c),
      (h c).2.2.2.1.trans (final5 m c), (h c).2.2.2.2⟩) (Cert.Kernel4Ideal.Value.run_blocks m ρ)
  · refine (θ_run _ _ _).mono (fun _ h c => ?_) (Cert.Reference4Ideal.Value.run (F := Ideal) m' ρ')
    obtain ⟨h0, h1⟩ := hag c
    refine ⟨(h c).1.trans ?_, (h c).2.1.trans ?_, (h c).2.2.1.trans ?_, (h c).2.2.2.1.trans ?_, (h c).2.2.2.2⟩
    · rw [Cert.Reference4Ideal.Read.val_main_v18_eq, h0, h1]; exact ref_q _ _
    · rw [Cert.Reference4Ideal.Read.val_main_v20_eq, h0, h1]; exact ref_kv _ _
    · rw [Cert.Reference4Ideal.Read.val_main_v17_eq, h0, h1]; exact ref_ng _ _
    · rw [Cert.Reference4Ideal.Read.val_main_v21_eq, h0, h1]; exact ref_pool _ _

theorem frame5 : Cert.quiescent_Kernel5 (hKernel5 := Cert.Kernel5.Gen.facts) := fun m ρ _ => Cert.Kernel5.Gen.frame m ρ

theorem frameIdeal5 : Cert.quiescent_Kernel5Ideal (hKernel5Ideal := Cert.Kernel5Ideal.Gen.facts) := fun m ρ _ => Cert.Kernel5Ideal.Gen.frame m ρ

theorem frameRef5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩) (Cert.Reference5Ideal.Value.run m ρ)

theorem algebraic5 : Cert.algebraic_Kernel5Ideal_Reference5Ideal (hKernel5Ideal := Cert.Kernel5Ideal.Gen.facts)
    (hReference5Ideal := Cert.Reference5Ideal.Gen.facts) := by
  intro m ρ m' ρ' _ hag
  refine ⟨fun c => ProjTime.tRow (ProjTime.xin m c) (ProjTime.win m c), ?_, ?_⟩
  · exact (θ_run _ _ _).mono (fun _ h c => ⟨(h c).1.trans (ProjTime.final2 m c), (h c).2⟩) (Cert.Kernel5Ideal.Value.run_blocks m ρ)
  · refine (θ_run _ _ _).mono (fun _ h c => ?_) (Cert.Reference5Ideal.Value.run (F := Ideal) m' ρ')
    obtain ⟨h0, h1⟩ := hag c
    refine ⟨(h c).1.trans ?_, (h c).2⟩
    rw [Cert.Reference5Ideal.Read.val_main_v4_eq, h0, h1]; exact ProjTime.ref_t _ _

end Cert.Proj
-- ==== Proof.Nsa.Soft.lean ====
/-
  The masked softmax average of one query, as the kernel and as the reference write it, over the extended reals.
-/
module

public import proofs.«01_k».proof.Proof.Gen.Reference8Ideal.Read
public import Idealize.ShloMosaic.Lib.Pointwise

@[expose] public section

set_option maxRecDepth 16384

noncomputable section

open Idealize.ShloMosaic

namespace Cert.Nsa

/-- The largest score, negative infinity where there is none. -/
def top {n : ℕ} (s : Fin n → EReal) : EReal := Finset.univ.fold max ⊥ s

/-- The smallest denominator. -/
abbrev eps : EReal := Ideal.ofBits .f32 0x0DA24260#32

/-- The kernel's average of `v` under the scores `s`: the exponentials times one inverse denominator, which is zero where
    every score is negative infinity. -/
def avg {n : ℕ} (s v : Fin n → EReal) : EReal :=
  ∑ c, Ideal.exp (s c - top s) * (if ⊥ < top s then Ideal.div 1 (max (∑ c, Ideal.exp (s c - top s)) eps) else 0) * v c

/-- The reference's average: hidden keys (`k c` false) have negative infinity for a score and zero for a weight. -/
def ravg {n : ℕ} (k : Fin n → Prop) [DecidablePred k] (s v : Fin n → EReal) : EReal :=
  ∑ c, v c * Ideal.div (if k c then Ideal.exp ((if k c then s c else ⊥) - top (fun c => if k c then s c else ⊥)) else 0)
    (max (∑ c, if k c then Ideal.exp ((if k c then s c else ⊥) - top (fun c => if k c then s c else ⊥)) else 0) eps)

theorem add_sub_add_coe (x y : EReal) (r : ℝ) : (x + r) - (y + r) = x - y := by
  induction x <;> induction y <;> first
    | rfl
    | simp only [EReal.top_add_coe, EReal.bot_add, EReal.coe_sub_top, EReal.sub_bot, EReal.bot_sub, EReal.top_sub_coe, EReal.sub_top]
    | (norm_cast; ring)

/-- A shift by a real goes through the largest score. -/
theorem top_add {n : ℕ} (s : Fin n → EReal) (r : ℝ) : top (fun c => s c + r) = top s + r := by
  have h : ∀ t : Finset (Fin n), t.fold max ⊥ (fun c => s c + (r : EReal)) = t.fold max ⊥ s + r := fun t => by
    induction t using Finset.induction_on with
    | empty => simp only [Finset.fold_empty, EReal.bot_add]
    | insert a t ha ih =>
      rw [Finset.fold_insert ha, Finset.fold_insert ha, ih]
      exact ((add_left_mono (a := (r : EReal))).map_max).symm
  exact h _

theorem eps_pos : (0 : EReal) < eps := by
  have h : eps = ((( (2 ^ 23 + 2245216 : ℕ) : ℝ) * (2 : ℝ) ^ ((27 : ℤ) - 127 - 23) : ℝ) : EReal) := by
    simp [eps, Ideal.ofBits, Ideal.ieee, -EReal.coe_mul]
  rw [h]
  exact_mod_cast (by positivity : (0 : ℝ) < ((2 ^ 23 + 2245216 : ℕ) : ℝ) * (2 : ℝ) ^ ((27 : ℤ) - 127 - 23))

theorem den_ne (x : EReal) : max x eps ≠ 0 :=
  (lt_of_lt_of_le eps_pos (le_max_right _ _)).ne'

theorem exp_bot_sub (x : EReal) : Ideal.exp (⊥ - x) = 0 := by
  rw [EReal.bot_sub]; rfl

theorem le_top {n : ℕ} (s : Fin n → EReal) (c : Fin n) : s c ≤ top s :=
  Finset.le_fold_max (s c) |>.mpr (Or.inr ⟨c, Finset.mem_univ c, le_rfl⟩)

/-- The largest score over more keys is the same where the further ones are hidden. -/
theorem top_ext {n N : ℕ} (h : n ≤ N) (s : Fin N → EReal) (hs : ∀ c : Fin N, n ≤ c.val → s c = ⊥) :
    top s = top (fun c : Fin n => s (c.castLE h)) := by
  refine le_antisymm ?_ ?_
  · refine Finset.fold_max_le _ |>.mpr ⟨bot_le, fun c _ => ?_⟩
    by_cases hc : c.val < n
    · exact le_top (fun c : Fin n => s (c.castLE h)) ⟨c.val, hc⟩
    · rw [hs c (by omega)]; exact bot_le
  · exact Finset.fold_max_le _ |>.mpr ⟨bot_le, fun c _ => le_top s _⟩

/-- A sum over more keys is the same where the further terms are zero. -/
theorem sum_ext {n N : ℕ} (h : n ≤ N) (f : Fin N → EReal) (hf : ∀ c : Fin N, n ≤ c.val → f c = 0) :
    ∑ c, f c = ∑ c : Fin n, f (c.castLE h) := by
  obtain ⟨d, rfl⟩ := Nat.exists_eq_add_of_le h
  rw [Fin.sum_univ_add]
  rw [Finset.sum_eq_zero (s := Finset.univ) (f := fun i : Fin d => f (Fin.natAdd n i)) (fun i _ => hf _ (by simp))]
  rw [add_zero]; rfl

/-- The two averages agree: the reference's scores are the kernel's moved by one real number, the keys the kernel
    leaves out are hidden. -/
theorem ravg_eq_avg {n N : ℕ} (h : n ≤ N) (k : Fin N → Prop) [DecidablePred k] (s v : Fin N → EReal) (s' v' : Fin n → EReal) (r : ℝ)
    (hk : ∀ c : Fin N, n ≤ c.val → ¬ k c)
    (hs : ∀ c : Fin n, s' c = if k (c.castLE h) then s (c.castLE h) + r else ⊥) (hv : ∀ c : Fin n, v' c = v (c.castLE h)) :
    ravg k s v = avg s' v' := by
  have hS : ∀ c : Fin n, (if k (c.castLE h) then s (c.castLE h) else ⊥) + (r : EReal) = s' c := fun c => by
    rw [hs c]; split
    · rfl
    · exact EReal.bot_add _
  have hT : top (fun c => if k c then s c else ⊥) + r = top s' := by
    rw [top_ext h _ (fun c hc => if_neg (hk c hc)), ← top_add]
    exact congrArg top (funext hS)
  have hE : ∀ c : Fin n, (if k (c.castLE h) then Ideal.exp ((if k (c.castLE h) then s (c.castLE h) else ⊥) - top (fun c => if k c then s c else ⊥)) else 0)
      = Ideal.exp (s' c - top s') := fun c => by
    rw [← hT, ← hS c, add_sub_add_coe]
    split
    · rfl
    · exact (exp_bot_sub _).symm
  have h0 : ∀ c : Fin N, n ≤ c.val → (if k c then Ideal.exp ((if k c then s c else ⊥) - top (fun c => if k c then s c else ⊥)) else 0) = 0 :=
    fun c hc => if_neg (hk c hc)
  have hD := (sum_ext h _ h0).trans (Finset.sum_congr rfl fun c _ => hE c)
  unfold ravg avg
  rw [hD]
  refine (sum_ext h _ fun c hc => ?_).trans (Finset.sum_congr rfl fun c _ => ?_)
  · rw [h0 c hc, Ideal.zero_div (den_ne _), mul_zero]
  rw [hE c, ← hv c, mul_comm]
  refine congrArg (· * v' c) ?_
  by_cases hb : ⊥ < top s'
  · rw [if_pos hb]
    rw [Ideal.div, Ideal.div, if_neg (den_ne _), if_neg (den_ne _), one_mul]
  · have hb' : top s' = ⊥ := by simpa using hb
    have : s' c = ⊥ := le_bot_iff.mp (hb' ▸ le_top s' c)
    rw [this, exp_bot_sub, zero_mul, Ideal.zero_div (den_ne _)]

end Cert.Nsa
-- ==== Proof.Nsa.Ref.lean ====
/-
  The reference's attention over the compressed keys, read at one query and one column.
-/
module

public import proofs.«01_k».proof.Proof.Nsa.Soft

@[expose] public section

set_option maxRecDepth 16384

noncomputable section

open Idealize.ShloMosaic Idealize.ShloMosaic.TcCoe Idealize.SL.Sem

namespace Cert.Nsa

open Cert.Reference8Ideal Cert.Reference8Ideal.Gen Cert.Reference8Ideal.Read

/-- The sigmoid as both programs spell it. -/
def sigm (z : EReal) : EReal := Ideal.div 1 (1 + Ideal.exp (-z))

/-- The slope of one head, as both programs compute it. -/
def slope (h : Fin 8) : EReal :=
  Ideal.exp (Ideal.ofBits .f32 0x3F317218#32 * Ideal.div (Ideal.ofBits .f32 0xC1000000#32 * (1 + ((h.val : ℝ) : EReal))) (Ideal.ofBits .f32 0x41000000#32))

/-- Whether query `t` sees compressed key `c`. -/
abbrev sees (t : Fin 8192) (c : Fin 512) : Prop := 16 * c.val + 31 ≤ t.val

variable (x0 : FVec Ideal S32768x1024 .bf16) (x1 : FVec Ideal S4x512x256 .bf16) (x2 : FVec Ideal S32768x128 .f32)

theorem toInt_small {n : ℕ} (h : n < 2 ^ 31) : (BitVec.ofNat 32 n).toInt = n := by
  rw [BitVec.toInt_ofNat', Int.bmod_eq_of_le] <;> omega

theorem sitofp_eq (w : BitVec 32) : (FloatOps.sitofp .f32 w : Ideal .f32) = ((w.toInt : ℝ) : EReal) := rfl

theorem ref_slope (g : Fin 2) (r : Fin 4) :
    val_main_v25 (F := Ideal) (ix2 g r) = slope ⟨4 * g.val + r.val, by omega⟩ := by
  pointwise [val_main_v25, val_main_v24, val_main_v23, val_main_v22, val_main_cst_4, val_main_v21, val_main_v20, val_main_cst_3, val_main_v19, val_main_v18, val_main_cst_2, val_main_v17, val_main_v16, val_main_cst_1, val_main_v15, slope]
  rw [sitofp_eq, toInt_small (by omega), Nat.mul_comm]
  push_cast
  rfl

/-- The distance from a query to a compressed key, as a word. -/
theorem dist_toInt (t : Fin 8192) (c : Fin 512) :
    (IntOp.subi (BitVec.ofNat 32 t.val) (IntOp.addi (IntOp.muli (BitVec.ofNat 32 c.val) 16#32) 31#32)).toInt = (t.val : ℤ) - (16 * c.val + 31) := by
  show (BitVec.ofNat 32 t.val - (BitVec.ofNat 32 c.val * 16#32 + 31#32)).toInt = _
  have h1 : (BitVec.ofNat 32 c.val * 16#32 + 31#32) = BitVec.ofNat 32 (16 * c.val + 31) := by
    apply BitVec.eq_of_toNat_eq; simp [BitVec.toNat_add, BitVec.toNat_mul]; omega
  rw [h1, BitVec.toInt_sub, toInt_small (by omega), toInt_small (by omega), Int.bmod_eq_of_le] <;> push_cast <;> omega

theorem ref_mask (t : Fin 8192) (c : Fin 512) :
    val_main_v38 (F := Ideal) (ix2 t c) = if sees t c then 1#1 else 0#1 := by
  pointwise [val_main_v38, val_main_v37, val_main_v36, val_main_v35, val_main_v34, val_main_v33, val_main_v32, val_main_v31, val_main_v30, val_main_v29, val_main_v28, val_main_v27, val_main_v26, val_main_c, val_main_c_5, val_main_c_6]
  have h := dist_toInt t c
  generalize IntOp.subi _ _ = d at h ⊢
  simp only [IntOp.cmpi, BitVec.sle, h, sees, BitVec.toInt_zero]
  by_cases hc : 16 * c.val + 31 ≤ t.val
  · rw [if_pos hc, decide_eq_true (by omega)]; rfl
  · rw [if_neg hc, decide_eq_false (by omega)]; rfl

theorem ref_dist (t : Fin 8192) (c : Fin 512) :
    val_main_v42 (F := Ideal) (ix2 t c) = (((t.val : ℝ) - (16 * c.val + 31 : ℝ) : ℝ) : EReal) := by
  pointwise [val_main_v42, val_main_v36, val_main_v35, val_main_v34, val_main_v33, val_main_v32, val_main_v31, val_main_v30, val_main_v29, val_main_v28, val_main_v27, val_main_v26, val_main_c, val_main_c_5]
  rw [sitofp_eq, dist_toInt]
  push_cast
  rfl

/-- The score of one key before the mask. -/
def rscore (b : Fin 4) (g : Fin 2) (r : Fin 4) (t : Fin 8192) (c : Fin 512) : EReal :=
  ∑ k : Fin 128, x1 (ix3 b c ⟨k.val, by omega⟩) * x0 (ix2 ⟨b.val * 8192 + t.val, by omega⟩ ⟨g.val * 512 + r.val * 128 + k.val, by omega⟩)
    - slope ⟨4 * g.val + r.val, by omega⟩ * (((t.val : ℝ) - (16 * c.val + 31 : ℝ) : ℝ) : EReal)

theorem ref_score (b : Fin 4) (g : Fin 2) (r : Fin 4) (t : Fin 8192) (c : Fin 512) :
    val_main_v49 (F := Ideal) x0 x1 (ix5 b g r t c) = rscore x0 x1 b g r t c := by
  pointwise [val_main_v49, val_main_v48, val_main_v47, val_main_v46, val_main_v45, val_main_v44, val_main_v43, val_main_v41, val_main_v40, val_main_v39, val_main_v3, val_main_v2, val_main_v1, val_main_v0]
  rw [ref_slope, ref_dist]
  rfl

theorem select_if {α : Type} (p : Prop) [Decidable p] (x y : α) : Scalar.select (if p then 1#1 else 0#1) x y = if p then x else y := by
  split <;> rfl

theorem ofBits_bot : Ideal.ofBits .f32 0xFF800000#32 = ⊥ := by simp [Ideal.ofBits, Ideal.ieee]

/-- The weight of one key. -/
theorem ref_weight (b : Fin 4) (g : Fin 2) (r : Fin 4) (t : Fin 8192) (c : Fin 512) :
    val_main_v62 (F := Ideal) x0 x1 (ix5 b g r t c)
      = Ideal.div (if sees t c then Ideal.exp ((if sees t c then rscore x0 x1 b g r t c else ⊥) - top (fun c => if sees t c then rscore x0 x1 b g r t c else ⊥)) else 0)
        (max (∑ c, if sees t c then Ideal.exp ((if sees t c then rscore x0 x1 b g r t c else ⊥) - top (fun c => if sees t c then rscore x0 x1 b g r t c else ⊥)) else 0) eps) := by
  pointwise [val_main_v62, val_main_v61, val_main_v60, val_main_v59, val_main_v58, val_main_v57, val_main_v56, val_main_v55, val_main_v54, val_main_v53, val_main_v52, val_main_v51, val_main_v50, val_main_call0_v0, val_main_call0_v1, val_main_call0_v2, val_main_call1_v0, val_main_call1_v1, val_main_call1_v2, val_main_cst_7, val_main_cst_8, val_main_cst_9, val_main_cst_10, val_main_cst_11]
  have hb : (id (constant (F := Ideal) S_ FTy.f32 0xFF800000#32) ix0 : EReal) = ⊥ := ofBits_bot
  have hz : (id (constant (F := Ideal) S_ FTy.f32 0#32) ix0 : EReal) = 0 := Ideal.ofBits_zero_f32
  simp only [ref_mask, ref_score, select_if, hb, hz, ofBits_bot, top]

/-- The reference at one row and one column of the result. -/
theorem ref_out (t : Fin 32768) (j : Fin 512) :
    val_main_v139 (F := Ideal) x0 x1 x2 (ix2 t j)
      = sigm (x2 (ix2 t ⟨j.val / 64 % 2 * 12 + j.val / 128 * 3, by omega⟩))
        * ravg (sees ⟨t.val % 8192, by omega⟩) (rscore x0 x1 ⟨t.val / 8192, by omega⟩ ⟨j.val / 64 % 2, by omega⟩ ⟨j.val / 128, by omega⟩ ⟨t.val % 8192, by omega⟩)
          (fun c => x1 (ix3 ⟨t.val / 8192, by omega⟩ c ⟨128 + (j.val / 64 % 2 * 64 + j.val % 64), by omega⟩)) := by
  pointwise [val_main_v139, val_main_v138, val_main_v67, val_main_v66, val_main_v65, val_main_v64, val_main_v63, val_main_v14, val_main_v13, val_main_v12, val_main_v11, val_main_v10, val_main_v9, val_main_v8, val_main_v7, val_main_v6, val_main_v5, val_main_v4, val_main_cst, val_main_cst_0, sigm]
  simp only [ref_weight, ravg]

end Cert.Nsa
-- ==== Proof.Nsa.Host.lean ====
/-
  The two tables the host prepares: the heads' slopes in two columns, and the compressed keys' positions in two columns.
  Their product is the slope times the position.
-/
module

public import proofs.«01_k».proof.Proof.Nsa.Ref
public import proofs.«01_k».proof.Proof.Gen.Kernel8Ideal.Frame
public import Idealize.ShloMosaic.Lib.Pipeline.ValueKit

@[expose] public section

set_option maxRecDepth 16384

noncomputable section

namespace Cert.Nsa

open Cert.Kernel8Ideal Cert.Kernel8Ideal.Gen
open Idealize.ShloMosaic Idealize.ShloMosaic.TcCoe Idealize.ShloMosaic.Tactic

variable (m : (ℓ : Loc nD τ sig) → Buf (Elt Ideal) ℓ)

/-- The slopes of the eight heads. -/
def slopeV : FVec Ideal S2x4x1x1 .f32 :=
  Host.exp (mulf (broadcastInDim S2x4x1x1 ![] bcast_S_S2x4x1x1 (constant S_ .f32 0x3F317218#32))
    (Host.divf (mulf (broadcastInDim S2x4x1x1 ![] bcast_S_S2x4x1x1 (constant S_ .f32 0xC1000000#32))
        (addf (shapeCast S2x4x1x1 (sitofp .f32 (iotaInDim S8 32 0)) shapeCasts_S8_S2x4x1x1)
          (broadcastInDim S2x4x1x1 ![] bcast_S_S2x4x1x1 (constant S_ .f32 0x3F800000#32))))
      (broadcastInDim S2x4x1x1 ![] bcast_S_S2x4x1x1 (constant S_ .f32 0x41000000#32))))

/-- The slopes' table: the slope times 64 in column 0, the slope in column 1, one row for each stacked query row. -/
def slopeTab : FVec Ideal S2x512x128 .bf16 :=
  truncf .bf16 (shapeCast S2x512x128 (broadcastInDim S2x4x128x128 ![0, 1, 2, 3] bcast_S2x4x1x128_S2x4x128x128_0_1_2_3
    (select (broadcastInDim S2x4x1x128 ![0, 1, 2, 3] bcast_S1x1x1x128_S2x4x1x128_0_1_2_3
        (cmpi .eq (broadcastInDim S1x1x1x128 ![3] bcast_S128_S1x1x1x128_3 (iotaInDim S128 32 0)) (broadcastInDim S1x1x1x128 ![] bcast_S_S1x1x1x128 (constantI S_ 32 0#32))))
      (broadcastInDim S2x4x1x128 ![0, 1, 2, 3] bcast_S2x4x1x1_S2x4x1x128_0_1_2_3
        (mulf slopeV (broadcastInDim S2x4x1x1 ![] bcast_S_S2x4x1x1 (constant S_ .f32 0x42800000#32))))
      (select (broadcastInDim S2x4x1x128 ![0, 1, 2, 3] bcast_S1x1x1x128_S2x4x1x128_0_1_2_3
          (cmpi .eq (broadcastInDim S1x1x1x128 ![3] bcast_S128_S1x1x1x128_3 (iotaInDim S128 32 0)) (broadcastInDim S1x1x1x128 ![] bcast_S_S1x1x1x128 (constantI S_ 32 1#32))))
        (broadcastInDim S2x4x1x128 ![0, 1, 2, 3] bcast_S2x4x1x1_S2x4x1x128_0_1_2_3 slopeV)
        (broadcastInDim S2x4x1x128 ![] bcast_S_S2x4x1x128 (constant S_ .f32 0x00000000#32)))))
    shapeCasts_S2x4x128x128_S2x512x128) bitsLt_bf16_f32

/-- The keys' positions. -/
def posW : IVec S512x1 32 :=
  broadcastInDim S512x1 ![0] bcast_S512_S512x1_0 (addi (muli (iotaInDim S512 32 0) (broadcastInDim S512 ![] bcast_S_S512 (constantI S_ 32 16#32)))
    (broadcastInDim S512 ![] bcast_S_S512 (constantI S_ 32 31#32)))

/-- One word in every row. -/
abbrev wordW (w : IVec S_ 32) : IVec S512x1 32 := broadcastInDim S512x1 ![] bcast_S_S512x1 w

/-- The positions divided by 64, rounded down. -/
def quotW : IVec S512x1 32 :=
  select (andi (cmpi .ne (signi posW) (wordW (signi (constantI S_ 32 64#32)))) (cmpi .ne (Host.remsi posW (wordW (constantI S_ 32 64#32))) (wordW (constantI S_ 32 0#32))))
    (subi (Host.divsi posW (wordW (constantI S_ 32 64#32))) (wordW (constantI S_ 32 1#32))) (Host.divsi posW (wordW (constantI S_ 32 64#32)))

/-- The divisor of the remainder. -/
def modW : IVec S_ 32 := select (cmpi .eq (constantI S_ 32 64#32) (constantI S_ 32 0#32)) (constantI S_ 32 1#32) (constantI S_ 32 64#32)

/-- The positions modulo 64. -/
def remW : IVec S512x1 32 :=
  select (andi (cmpi .ne (cmpi .slt (Host.remsi posW (wordW modW)) (wordW (constantI S_ 32 0#32)))
        (broadcastInDim S512x1 ![] bcast_S_S512x1 (cmpi .slt modW (constantI S_ 32 0#32))))
      (cmpi .ne (Host.remsi posW (wordW modW)) (wordW (constantI S_ 32 0#32))))
    (addi (Host.remsi posW (wordW modW)) (wordW modW)) (Host.remsi posW (wordW modW))

/-- The positions' table: the quotient in column 0, the remainder in column 1. -/
def posTab : FVec Ideal S512x128 .bf16 :=
  sitofp .bf16 (select (broadcastInDim S512x128 ![0, 1] bcast_S1x128_S512x128_0_1
      (cmpi .eq (broadcastInDim S1x128 ![1] bcast_S128_S1x128_1 (iotaInDim S128 32 0)) (broadcastInDim S1x128 ![] bcast_S_S1x128 (constantI S_ 32 0#32))))
    (broadcastInDim S512x128 ![0, 1] bcast_S512x1_S512x128_0_1 quotW)
    (select (broadcastInDim S512x128 ![0, 1] bcast_S1x128_S512x128_0_1
        (cmpi .eq (broadcastInDim S1x128 ![1] bcast_S128_S1x128_1 (iotaInDim S128 32 0)) (broadcastInDim S1x128 ![] bcast_S_S1x128 (constantI S_ 32 1#32))))
      (broadcastInDim S512x128 ![0, 1] bcast_S512x1_S512x128_0_1 remW)
      (broadcastInDim S512x128 ![] bcast_S_S512x128 (constantI S_ 32 0#32))))

theorem V_slope (c : Dev nD) : (V m c main_v23 : FVec Ideal S2x512x128 .bf16) = slopeTab := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]; after_results_simp
  sl_kernel_rfl

theorem V_pos (c : Dev nD) : (V m c main_v66 : FVec Ideal S512x128 .bf16) = posTab := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]; after_results_simp
  sl_kernel_rfl

theorem quot_at (c : Fin 512) : quotW (ix2 c 0) = BitVec.ofNat 32 ((16 * c.val + 31) / 64) := by
  revert c; decide +kernel

theorem rem_at (c : Fin 512) : remW (ix2 c 0) = BitVec.ofNat 32 ((16 * c.val + 31) % 64) := by
  revert c; decide +kernel

theorem slopeV_at (g : Fin 2) (r : Fin 4) : slopeV (ix4 g r 0 0) = slope ⟨4 * g.val + r.val, by omega⟩ := by
  pointwise [slopeV]
  rw [sitofp_eq, toInt_small (by omega)]
  unfold slope
  have e : ((((g.val * 4 + r.val : ℕ) : ℤ) : ℝ) : EReal) + 1 = 1 + (((4 * g.val + r.val : ℕ) : ℝ) : EReal) := by
    rw [add_comm, Nat.mul_comm]; norm_cast
  rw [e]

/-- A word whose sign is clear and whose exponent field is neither zero nor all ones, read as a real number. -/
theorem word_val (b : BitVec 32) (x f : ℕ) (hn : (b.extractLsb' 31 1 == 1#1) = false) (hx : (b.extractLsb' 23 8).toNat = x) (hf : (b.extractLsb' 0 23).toNat = f)
    (h0 : x ≠ 0) (h1 : x ≠ 255) : Ideal.ofBits .f32 b = ((((2 ^ 23 + f : ℕ) : ℝ) * (2 : ℝ) ^ ((x : ℤ) - 127 - 23) : ℝ) : EReal) := by
  show Ideal.ieee 8 23 b = _
  unfold Ideal.ieee
  dsimp only
  rw [hn, hx, hf, if_neg (by simpa using h1), if_neg h0]
  norm_num

theorem word_64 : Ideal.ofBits .f32 0x42800000#32 = ((64 : ℝ) : EReal) := by
  refine (word_val _ 133 0 (by decide) (by decide) (by decide) (by decide) (by decide)).trans (congrArg _ ?_)
  norm_num

theorem word_8 : Ideal.ofBits .f32 0x41000000#32 = ((8 : ℝ) : EReal) := by
  refine (word_val _ 130 0 (by decide) (by decide) (by decide) (by decide) (by decide)).trans (congrArg _ ?_)
  norm_num

theorem cmp_eq_word (k n : ℕ) (hk : k < 2 ^ 31) (hn : n < 2 ^ 31) (A B : EReal) :
    (Scalar.select (IntOp.cmpi .eq (BitVec.ofNat 32 k) (BitVec.ofNat 32 n)) A B : EReal) = if k = n then A else B := by
  by_cases h : k = n
  · subst h; simp [IntOp.cmpi, Scalar.select]
  · have : ¬ (BitVec.ofNat 32 k = BitVec.ofNat 32 n) := fun e => h (by have := congrArg BitVec.toNat e; simp at this; omega)
    have hb : (BitVec.ofNat 32 k == BitVec.ofNat 32 n) = false := beq_eq_false_iff_ne.mpr this
    simp only [IntOp.cmpi, Scalar.select, hb, if_neg h]; rfl

theorem cmp_eq_word' (k n : ℕ) (hk : k < 2 ^ 31) (hn : n < 2 ^ 31) (A B : BitVec 32) :
    Scalar.select (IntOp.cmpi .eq (BitVec.ofNat 32 k) (BitVec.ofNat 32 n)) A B = if k = n then A else B := by
  by_cases h : k = n
  · subst h; simp [IntOp.cmpi, Scalar.select]
  · have : ¬ (BitVec.ofNat 32 k = BitVec.ofNat 32 n) := fun e => h (by have := congrArg BitVec.toNat e; simp at this; omega)
    have hb : (BitVec.ofNat 32 k == BitVec.ofNat 32 n) = false := beq_eq_false_iff_ne.mpr this
    simp only [IntOp.cmpi, Scalar.select, hb, if_neg h]; rfl

theorem slopeTab_at (g : Fin 2) (i : Fin 512) (k : Fin 128) :
    slopeTab (ix3 g i k) = if k.val = 0 then slope ⟨4 * g.val + i.val / 128, by omega⟩ * ((64 : ℝ) : EReal) else if k.val = 1 then slope ⟨4 * g.val + i.val / 128, by omega⟩ else 0 := by
  pointwise [slopeTab]
  have e := slopeV_at g ⟨i.val / 128, by omega⟩
  have h0 := cmp_eq_word k.val 0 (by omega) (by omega)
  have h1 := cmp_eq_word k.val 1 (by omega) (by omega)
  simp only [h0, h1, e]
  exact congrArg (fun z => if k.val = 0 then slope ⟨4 * g.val + i.val / 128, by omega⟩ * z else if k.val = 1 then slope ⟨4 * g.val + i.val / 128, by omega⟩ else 0) word_64

theorem posTab_at (c : Fin 512) (k : Fin 128) :
    posTab (ix2 c k) = if k.val = 0 then ((((16 * c.val + 31) / 64 : ℕ) : ℝ) : EReal) else if k.val = 1 then ((((16 * c.val + 31) % 64 : ℕ) : ℝ) : EReal) else 0 := by
  pointwise [posTab]
  have h0 := cmp_eq_word' k.val 0 (by omega) (by omega)
  have h1 := cmp_eq_word' k.val 1 (by omega) (by omega)
  have e : ∀ n : ℕ, n < 2 ^ 31 → FloatOps.sitofp (F := Ideal) .bf16 (BitVec.ofNat 32 n) = (((n : ℕ) : ℝ) : EReal) := fun n hn => by
    show (((BitVec.ofNat 32 n).toInt : ℝ) : EReal) = _
    rw [toInt_small hn]; norm_cast
  simp only [h0, h1, quot_at, rem_at]
  by_cases a : k.val = 0
  · rw [if_pos a, if_pos a, e _ (by omega)]
  · rw [if_neg a, if_neg a]
    by_cases b : k.val = 1
    · rw [if_pos b, if_pos b, e _ (by omega)]
    · rw [if_neg b, if_neg b]; exact (e 0 (by omega)).trans (by norm_num)

/-- Each slope is a real number. -/
theorem slope_real (h : Fin 8) : ∃ s : ℝ, slope h = s := by
  have w : ∀ b : BitVec 32, (b.extractLsb' 23 8).toNat ≠ 255 → ∃ r : ℝ, Ideal.ofBits .f32 b = r := fun b hb => by
    show ∃ r : ℝ, Ideal.ieee 8 23 b = r
    unfold Ideal.ieee
    dsimp only
    rw [if_neg (by simpa using hb)]
    split
    · exact ⟨_, rfl⟩
    · exact ⟨_, rfl⟩
  obtain ⟨r1, h1⟩ := w 0x3F317218#32 (by decide)
  obtain ⟨r2, h2⟩ := w 0xC1000000#32 (by decide)
  refine ⟨Real.exp (r1 * (r2 * (1 + (h.val : ℝ)) * (1 / 8))), ?_⟩
  unfold slope
  rw [h1, h2, word_8, Ideal.div_coe (by norm_num), ← Ideal.exp_coe]
  norm_cast

/-- The two tables' product over their columns is the slope times the position. -/
theorem tab_sum (g : Fin 2) (i c : Fin 512) :
    (∑ k : Fin 128, slopeTab (ix3 g i k) * posTab (ix2 c k) : EReal)
      = slope ⟨4 * g.val + i.val / 128, by omega⟩ * (((16 * c.val + 31 : ℕ) : ℝ) : EReal) := by
  obtain ⟨s, hs⟩ := slope_real ⟨4 * g.val + i.val / 128, by omega⟩
  have e : ∀ k : Fin 128, slopeTab (ix3 g i k) * posTab (ix2 c k)
      = (if k = 0 then slopeTab (ix3 g i 0) * posTab (ix2 c 0) else 0) + (if k = 1 then slopeTab (ix3 g i 1) * posTab (ix2 c 1) else 0) := fun k => by
    by_cases a : k = 0
    · subst a; simp
    · by_cases b : k = 1
      · subst b; simp
      · have a' : ¬ k.val = 0 := fun e => a (Fin.ext e)
        have b' : ¬ k.val = 1 := fun e => b (Fin.ext e)
        rw [slopeTab_at, if_neg a', if_neg b', if_neg a, if_neg b]; simp
  rw [Finset.sum_congr rfl (fun k _ => e k), Finset.sum_add_distrib, Finset.sum_ite_eq', Finset.sum_ite_eq',
    if_pos (Finset.mem_univ _), if_pos (Finset.mem_univ _), slopeTab_at, slopeTab_at, posTab_at, posTab_at, hs]
  simp only [show (0 : Fin 128).val = 0 from rfl, show (1 : Fin 128).val = 1 from rfl, if_true, if_neg (show ¬ (1 : ℕ) = 0 by omega)]
  have h := Nat.div_add_mod (16 * c.val + 31) 64
  have h' : (64 : ℝ) * ((16 * c.val + 31) / 64 : ℕ) + ((16 * c.val + 31) % 64 : ℕ) = ((16 * c.val + 31 : ℕ) : ℝ) := by exact_mod_cast h
  rw [← h', ← EReal.coe_mul, ← EReal.coe_mul, ← EReal.coe_mul, ← EReal.coe_mul, ← EReal.coe_add]
  congr 1
  ring

end Cert.Nsa
-- ==== Proof.Nsa.Pay.lean ====
/-
  The compressed attention's body over one block of queries, read at one row and one column: the four variants, which
  differ in the number of keys they look at.
-/
module

public import proofs.«01_k».proof.Proof.Nsa.Ref
public import proofs.«01_k».proof.Proof.Gen.Kernel8Ideal.Frame
public import Idealize.ShloMosaic.Lib.Pipeline.ValueKit

@[expose] public section

set_option maxRecDepth 16384

noncomputable section

namespace Cert.Nsa

open Cert.Kernel8Ideal Cert.Kernel8Ideal.Gen
open Idealize.ShloMosaic Idealize.ShloMosaic.TcCoe Idealize.ShloMosaic.Tactic

theorem mask_val : (Named.named (F := Ideal) κ "mask" (φ := .f32) 0xF149F2CA#32 : EReal) = ⊥ := rfl

theorem half_val : (Named.named (F := Ideal) κ "half" (φ := .f32) 0xF0C9F2CA#32 : EReal) = ⊥ := rfl

/-- The bias of one query row and one key: zero where the row, `T + i`, sees the key, else negative infinity. -/
theorem bias_word {T i c : ℕ} (hT : T + i < 8192) (hc : c < 512) :
    (Scalar.select (IntOp.cmpi CmpIPredicate.sge (IntOp.addi (BitVec.ofNat 32 T) (BitVec.ofNat 32 i))
      (IntOp.addi (IntOp.muli (BitVec.ofNat 32 c) 16#32) 31#32)) 0 (Named.named (F := Ideal) κ "mask" (φ := .f32) 0xF149F2CA#32) : EReal)
      = if 16 * c + 31 ≤ T + i then 0 else ⊥ := by
  have h1 : (IntOp.addi (IntOp.muli (BitVec.ofNat 32 c) 16#32) 31#32) = BitVec.ofNat 32 (16 * c + 31) := by
    apply BitVec.eq_of_toNat_eq; simp [IntOp.addi, IntOp.muli, BitVec.toNat_add, BitVec.toNat_mul]; omega
  have h2 : IntOp.addi (BitVec.ofNat 32 T) (BitVec.ofNat 32 i) = BitVec.ofNat 32 (T + i) := by
    apply BitVec.eq_of_toNat_eq; simp [IntOp.addi, BitVec.toNat_add]
  rw [h1, h2, mask_val]
  simp only [IntOp.cmpi, BitVec.sle, toInt_small (show 16 * c + 31 < 2 ^ 31 by omega), toInt_small (show T + i < 2 ^ 31 by omega)]
  by_cases h : 16 * c + 31 ≤ T + i
  · rw [if_pos h, decide_eq_true (by exact_mod_cast h)]; rfl
  · rw [if_neg h, decide_eq_false (by exact_mod_cast h)]; rfl

/-- The bias of row `i` of the four stacked copies of a block. -/
theorem bias_stack (T : ℕ) (hT : T + 128 ≤ 8192) (i : Fin 512) (c : ℕ) (hc : c < 512) :
    (if h : i.val < 128 then
      (Scalar.select (IntOp.cmpi CmpIPredicate.sge (IntOp.addi (BitVec.ofNat 32 T) (BitVec.ofNat 32 i.val))
        (IntOp.addi (IntOp.muli (BitVec.ofNat 32 c) 16#32) 31#32)) 0 (Named.named (F := Ideal) κ "mask" (φ := .f32) 0xF149F2CA#32) : EReal)
    else if h : i.val - 128 < 128 then
      (Scalar.select (IntOp.cmpi CmpIPredicate.sge (IntOp.addi (BitVec.ofNat 32 T) (BitVec.ofNat 32 (i.val - 128)))
        (IntOp.addi (IntOp.muli (BitVec.ofNat 32 c) 16#32) 31#32)) 0 (Named.named (F := Ideal) κ "mask" (φ := .f32) 0xF149F2CA#32) : EReal)
    else if h : i.val - 128 - 128 < 128 then
      (Scalar.select (IntOp.cmpi CmpIPredicate.sge (IntOp.addi (BitVec.ofNat 32 T) (BitVec.ofNat 32 (i.val - 128 - 128)))
        (IntOp.addi (IntOp.muli (BitVec.ofNat 32 c) 16#32) 31#32)) 0 (Named.named (F := Ideal) κ "mask" (φ := .f32) 0xF149F2CA#32) : EReal)
    else
      (Scalar.select (IntOp.cmpi CmpIPredicate.sge (IntOp.addi (BitVec.ofNat 32 T) (BitVec.ofNat 32 (i.val - 128 - 128 - 128)))
        (IntOp.addi (IntOp.muli (BitVec.ofNat 32 c) 16#32) 31#32)) 0 (Named.named (F := Ideal) κ "mask" (φ := .f32) 0xF149F2CA#32) : EReal))
      = if 16 * c + 31 ≤ T + i.val % 128 then 0 else ⊥ := by
  have e : ∀ k : ℕ, k < 128 → i.val % 128 = k →
      (Scalar.select (IntOp.cmpi CmpIPredicate.sge (IntOp.addi (BitVec.ofNat 32 T) (BitVec.ofNat 32 k))
        (IntOp.addi (IntOp.muli (BitVec.ofNat 32 c) 16#32) 31#32)) 0 (Named.named (F := Ideal) κ "mask" (φ := .f32) 0xF149F2CA#32) : EReal)
      = if 16 * c + 31 ≤ T + i.val % 128 then 0 else ⊥ := fun k hk h => by
    rw [bias_word (by omega) hc, h]
  by_cases h0 : i.val < 128
  · rw [dif_pos h0]; exact e _ h0 (by omega)
  rw [dif_neg h0]
  by_cases h1 : i.val - 128 < 128
  · rw [dif_pos h1]; exact e _ h1 (by omega)
  rw [dif_neg h1]
  by_cases h2 : i.val - 128 - 128 < 128
  · rw [dif_pos h2]; exact e _ h2 (by omega)
  rw [dif_neg h2]; exact e _ (by omega) (by omega)

/-- Row `i` of the four stacked heads of the first group, of a block of queries. -/
theorem heads0 (q : Vec Ideal S128x1024 .bf16) (i : Fin 512) (x : Fin 128) :
    (if h : i.val < 128 then q (ix2 ⟨i.val, h⟩ ⟨x.val, by omega⟩)
      else if h : i.val - 128 < 128 then q (ix2 ⟨i.val - 128, h⟩ ⟨128 + x.val, by omega⟩)
      else if h : i.val - 128 - 128 < 128 then q (ix2 ⟨i.val - 128 - 128, h⟩ ⟨256 + x.val, by omega⟩)
      else q (ix2 ⟨i.val - 128 - 128 - 128, by omega⟩ ⟨384 + x.val, by omega⟩))
      = q (ix2 ⟨i.val % 128, by omega⟩ ⟨i.val / 128 * 128 + x.val, by omega⟩) := by
  split_ifs <;> exact congrArg₂ (fun a b => q (ix2 a b)) (Fin.ext (by dsimp only; omega)) (Fin.ext (by dsimp only; omega))

/-- The same of the second group. -/
theorem heads1 (q : Vec Ideal S128x1024 .bf16) (i : Fin 512) (x : Fin 128) :
    (if h : i.val < 128 then q (ix2 ⟨i.val, h⟩ ⟨512 + x.val, by omega⟩)
      else if h : i.val - 128 < 128 then q (ix2 ⟨i.val - 128, h⟩ ⟨640 + x.val, by omega⟩)
      else if h : i.val - 128 - 128 < 128 then q (ix2 ⟨i.val - 128 - 128, h⟩ ⟨768 + x.val, by omega⟩)
      else q (ix2 ⟨i.val - 128 - 128 - 128, by omega⟩ ⟨896 + x.val, by omega⟩))
      = q (ix2 ⟨i.val % 128, by omega⟩ ⟨512 + i.val / 128 * 128 + x.val, by omega⟩) := by
  split_ifs <;> exact congrArg₂ (fun a b => q (ix2 a b)) (Fin.ext (by dsimp only; omega)) (Fin.ext (by dsimp only; omega))

/-- The score of row `i` and key `c` with the first column of the head at `o`: the query times the key, the two tables'
    product, and the bias. -/
def kscore {n : ℕ} (o : ℕ) (ho : o ≤ 512) (T : ℕ) (q : Vec Ideal S128x1024 .bf16) (kc : Fin n → Fin 128 → EReal) (cx : Fin n → Fin 128 → EReal)
    (qa : Vec Ideal S1x512x128 .bf16) (i : Fin 512) (c : Fin n) : EReal :=
  ∑ k : Fin 128, q (ix2 ⟨i.val % 128, by omega⟩ ⟨o + i.val / 128 * 128 + k.val, by omega⟩) * kc c k
    + ∑ k : Fin 128, qa (ix3 0 i k) * cx c k
    + (if 16 * c.val + 31 ≤ T + i.val % 128 then 0 else ⊥)

section
variable (T : ℕ) (hT : T + 128 ≤ 8192) (q : Vec Ideal S128x1024 .bf16) (kc vc : Vec Ideal S1x128x128 .bf16) (cx : Vec Ideal S128x128 .bf16) (qa : Vec Ideal S1x512x128 .bf16)

include hT

theorem biasA (i : Fin 512) (c : Fin 128) : k0_pay4 (F := Ideal) (BitVec.ofNat 32 T) (ix2 i c) = if 16 * c.val + 31 ≤ T + i.val % 128 then 0 else ⊥ := by
  pointwise [k0_pay4]
  exact bias_stack T hT i c.val (by omega)

theorem scoreA (i : Fin 512) (c : Fin 128) : k0_pay5 (F := Ideal) (BitVec.ofNat 32 T) q kc cx qa (ix2 i c)
    = kscore 0 (by omega) T q (fun c k => kc (ix3 0 c k)) (fun c k => cx (ix2 c k)) qa i c := by
  have hb := biasA T hT i c
  generalize hB : k0_pay4 (F := Ideal) (BitVec.ofNat 32 T) = B at hb
  pointwise [k0_pay5, k0_pay2]
  rw [hB, hb]
  refine congrArg₂ (· + ·) (congrArg₂ (· + ·) (Finset.sum_congr rfl fun x _ => congrArg (· * kc (ix3 0 c x)) ((heads0 q i x).trans ?_)) rfl) rfl
  simp only [Nat.zero_add]

theorem firstA (i : Fin 512) (l : Fin 128) :
    k0_pay11 (F := Ideal) (k0_pay3 vc) (k0_pay7 (BitVec.ofNat 32 T) q kc cx qa) (k0_pay8 (BitVec.ofNat 32 T) q kc cx qa) (k0_pay9 (BitVec.ofNat 32 T) q kc cx qa) (ix3 0 i l)
      = avg (kscore 0 (by omega) T q (fun c k => kc (ix3 0 c k)) (fun c k => cx (ix2 c k)) qa i) (fun c => vc (ix3 0 c l)) := by
  have hs : ∀ c, _ := scoreA T hT q kc cx qa i
  generalize hS : k0_pay5 (F := Ideal) (BitVec.ofNat 32 T) q kc cx qa = S at hs
  pointwise [k0_pay11, k0_pay3, k0_pay7, k0_pay8, k0_pay9, k0_pay10, k0_pay6]
  simp only [hS, hs, half_val, ofBits_bot]
  rfl

theorem secondA (i : Fin 512) (l : Fin 128) :
    k0_pay17 (F := Ideal) q (k0_pay2 kc cx) (k0_pay3 vc) (k0_pay4 (BitVec.ofNat 32 T)) qa (ix3 0 i l)
      = avg (kscore 512 (by omega) T q (fun c k => kc (ix3 0 c k)) (fun c k => cx (ix2 c k)) qa i) (fun c => vc (ix3 0 c l)) := by
  have hb := fun c => biasA T hT i c
  generalize k0_pay4 (F := Ideal) (BitVec.ofNat 32 T) = B at hb ⊢
  unfold k0_pay17 k0_pay16
  dsimp only
  generalize hS : addf (F := Ideal) _ B = S
  have hs : ∀ c, S (ix2 i c) = kscore 512 (by omega) T q (fun c k => kc (ix3 0 c k)) (fun c k => cx (ix2 c k)) qa i c := fun c => by
    rw [← hS]
    pointwise [k0_pay2]
    rw [hb]
    exact congrArg₂ (· + ·) (congrArg₂ (· + ·) (Finset.sum_congr rfl fun x _ => congrArg (· * kc (ix3 0 c x)) (heads1 q i x)) rfl) rfl
  pointwise [k0_pay3]
  simp only [hs, half_val, ofBits_bot]
  rfl

end

section
variable (T : ℕ) (hT : T + 128 ≤ 8192) (q : Vec Ideal S128x1024 .bf16) (kc vc : Vec Ideal S1x256x128 .bf16) (cx : Vec Ideal S256x128 .bf16) (qa : Vec Ideal S1x512x128 .bf16)

include hT

theorem biasB (i : Fin 512) (c : Fin 256) : k0_pay21 (F := Ideal) (BitVec.ofNat 32 T) (ix2 i c) = if 16 * c.val + 31 ≤ T + i.val % 128 then 0 else ⊥ := by
  pointwise [k0_pay21]
  exact bias_stack T hT i c.val (by omega)

theorem scoreB (i : Fin 512) (c : Fin 256) : k0_pay22 (F := Ideal) (BitVec.ofNat 32 T) q kc cx qa (ix2 i c)
    = kscore 0 (by omega) T q (fun c k => kc (ix3 0 c k)) (fun c k => cx (ix2 c k)) qa i c := by
  have hb := biasB T hT i c
  generalize hB : k0_pay21 (F := Ideal) (BitVec.ofNat 32 T) = B at hb
  pointwise [k0_pay22, k0_pay19]
  rw [hB, hb]
  refine congrArg₂ (· + ·) (congrArg₂ (· + ·) (Finset.sum_congr rfl fun x _ => congrArg (· * kc (ix3 0 c x)) ((heads0 q i x).trans ?_)) rfl) rfl
  simp only [Nat.zero_add]

theorem firstB (i : Fin 512) (l : Fin 128) :
    k0_pay28 (F := Ideal) (k0_pay20 vc) (k0_pay24 (BitVec.ofNat 32 T) q kc cx qa) (k0_pay25 (BitVec.ofNat 32 T) q kc cx qa) (k0_pay26 (BitVec.ofNat 32 T) q kc cx qa) (ix3 0 i l)
      = avg (kscore 0 (by omega) T q (fun c k => kc (ix3 0 c k)) (fun c k => cx (ix2 c k)) qa i) (fun c => vc (ix3 0 c l)) := by
  have hs : ∀ c, _ := scoreB T hT q kc cx qa i
  generalize hS : k0_pay22 (F := Ideal) (BitVec.ofNat 32 T) q kc cx qa = S at hs
  pointwise [k0_pay28, k0_pay20, k0_pay24, k0_pay25, k0_pay26, k0_pay27, k0_pay23]
  simp only [hS, hs, half_val, ofBits_bot]
  rfl

theorem secondB (i : Fin 512) (l : Fin 128) :
    k0_pay34 (F := Ideal) q (k0_pay19 kc cx) (k0_pay20 vc) (k0_pay21 (BitVec.ofNat 32 T)) qa (ix3 0 i l)
      = avg (kscore 512 (by omega) T q (fun c k => kc (ix3 0 c k)) (fun c k => cx (ix2 c k)) qa i) (fun c => vc (ix3 0 c l)) := by
  have hb := fun c => biasB T hT i c
  generalize k0_pay21 (F := Ideal) (BitVec.ofNat 32 T) = B at hb ⊢
  unfold k0_pay34 k0_pay33
  dsimp only
  generalize hS : addf (F := Ideal) _ B = S
  have hs : ∀ c, S (ix2 i c) = kscore 512 (by omega) T q (fun c k => kc (ix3 0 c k)) (fun c k => cx (ix2 c k)) qa i c := fun c => by
    rw [← hS]
    pointwise [k0_pay19]
    rw [hb]
    exact congrArg₂ (· + ·) (congrArg₂ (· + ·) (Finset.sum_congr rfl fun x _ => congrArg (· * kc (ix3 0 c x)) (heads1 q i x)) rfl) rfl
  pointwise [k0_pay20]
  simp only [hs, half_val, ofBits_bot]
  rfl

end

section
variable (T : ℕ) (hT : T + 128 ≤ 8192) (q : Vec Ideal S128x1024 .bf16) (kc vc : Vec Ideal S1x384x128 .bf16) (cx : Vec Ideal S384x128 .bf16) (qa : Vec Ideal S1x512x128 .bf16)

include hT

theorem biasC (i : Fin 512) (c : Fin 384) : k0_pay38 (F := Ideal) (BitVec.ofNat 32 T) (ix2 i c) = if 16 * c.val + 31 ≤ T + i.val % 128 then 0 else ⊥ := by
  pointwise [k0_pay38]
  exact bias_stack T hT i c.val (by omega)

theorem scoreC (i : Fin 512) (c : Fin 384) : k0_pay39 (F := Ideal) (BitVec.ofNat 32 T) q kc cx qa (ix2 i c)
    = kscore 0 (by omega) T q (fun c k => kc (ix3 0 c k)) (fun c k => cx (ix2 c k)) qa i c := by
  have hb := biasC T hT i c
  generalize hB : k0_pay38 (F := Ideal) (BitVec.ofNat 32 T) = B at hb
  pointwise [k0_pay39, k0_pay36]
  rw [hB, hb]
  refine congrArg₂ (· + ·) (congrArg₂ (· + ·) (Finset.sum_congr rfl fun x _ => congrArg (· * kc (ix3 0 c x)) ((heads0 q i x).trans ?_)) rfl) rfl
  simp only [Nat.zero_add]

theorem firstC (i : Fin 512) (l : Fin 128) :
    k0_pay45 (F := Ideal) (k0_pay37 vc) (k0_pay41 (BitVec.ofNat 32 T) q kc cx qa) (k0_pay42 (BitVec.ofNat 32 T) q kc cx qa) (k0_pay43 (BitVec.ofNat 32 T) q kc cx qa) (ix3 0 i l)
      = avg (kscore 0 (by omega) T q (fun c k => kc (ix3 0 c k)) (fun c k => cx (ix2 c k)) qa i) (fun c => vc (ix3 0 c l)) := by
  have hs : ∀ c, _ := scoreC T hT q kc cx qa i
  generalize hS : k0_pay39 (F := Ideal) (BitVec.ofNat 32 T) q kc cx qa = S at hs
  pointwise [k0_pay45, k0_pay37, k0_pay41, k0_pay42, k0_pay43, k0_pay44, k0_pay40]
  simp only [hS, hs, half_val, ofBits_bot]
  rfl

theorem secondC (i : Fin 512) (l : Fin 128) :
    k0_pay51 (F := Ideal) q (k0_pay36 kc cx) (k0_pay37 vc) (k0_pay38 (BitVec.ofNat 32 T)) qa (ix3 0 i l)
      = avg (kscore 512 (by omega) T q (fun c k => kc (ix3 0 c k)) (fun c k => cx (ix2 c k)) qa i) (fun c => vc (ix3 0 c l)) := by
  have hb := fun c => biasC T hT i c
  generalize k0_pay38 (F := Ideal) (BitVec.ofNat 32 T) = B at hb ⊢
  unfold k0_pay51 k0_pay50
  dsimp only
  generalize hS : addf (F := Ideal) _ B = S
  have hs : ∀ c, S (ix2 i c) = kscore 512 (by omega) T q (fun c k => kc (ix3 0 c k)) (fun c k => cx (ix2 c k)) qa i c := fun c => by
    rw [← hS]
    pointwise [k0_pay36]
    rw [hb]
    exact congrArg₂ (· + ·) (congrArg₂ (· + ·) (Finset.sum_congr rfl fun x _ => congrArg (· * kc (ix3 0 c x)) (heads1 q i x)) rfl) rfl
  pointwise [k0_pay37]
  simp only [hs, half_val, ofBits_bot]
  rfl

end

section
variable (T : ℕ) (hT : T + 128 ≤ 8192) (q : Vec Ideal S128x1024 .bf16) (kc vc : Vec Ideal S1x512x128 .bf16) (cx : Vec Ideal S512x128 .bf16) (qa : Vec Ideal S1x512x128 .bf16)

include hT

theorem biasD (i : Fin 512) (c : Fin 512) : k0_pay55 (F := Ideal) (BitVec.ofNat 32 T) (ix2 i c) = if 16 * c.val + 31 ≤ T + i.val % 128 then 0 else ⊥ := by
  pointwise [k0_pay55]
  exact bias_stack T hT i c.val (by omega)

theorem scoreD (i : Fin 512) (c : Fin 512) : k0_pay56 (F := Ideal) (BitVec.ofNat 32 T) q kc cx qa (ix2 i c)
    = kscore 0 (by omega) T q (fun c k => kc (ix3 0 c k)) (fun c k => cx (ix2 c k)) qa i c := by
  have hb := biasD T hT i c
  generalize hB : k0_pay55 (F := Ideal) (BitVec.ofNat 32 T) = B at hb
  pointwise [k0_pay56, k0_pay53]
  rw [hB, hb]
  refine congrArg₂ (· + ·) (congrArg₂ (· + ·) (Finset.sum_congr rfl fun x _ => congrArg (· * kc (ix3 0 c x)) ((heads0 q i x).trans ?_)) rfl) rfl
  simp only [Nat.zero_add]

theorem firstD (i : Fin 512) (l : Fin 128) :
    k0_pay62 (F := Ideal) (k0_pay54 vc) (k0_pay58 (BitVec.ofNat 32 T) q kc cx qa) (k0_pay59 (BitVec.ofNat 32 T) q kc cx qa) (k0_pay60 (BitVec.ofNat 32 T) q kc cx qa) (ix3 0 i l)
      = avg (kscore 0 (by omega) T q (fun c k => kc (ix3 0 c k)) (fun c k => cx (ix2 c k)) qa i) (fun c => vc (ix3 0 c l)) := by
  have hs : ∀ c, _ := scoreD T hT q kc cx qa i
  generalize hS : k0_pay56 (F := Ideal) (BitVec.ofNat 32 T) q kc cx qa = S at hs
  pointwise [k0_pay62, k0_pay54, k0_pay58, k0_pay59, k0_pay60, k0_pay61, k0_pay57]
  simp only [hS, hs, half_val, ofBits_bot]
  rfl

theorem secondD (i : Fin 512) (l : Fin 128) :
    k0_pay68 (F := Ideal) q (k0_pay53 kc cx) (k0_pay54 vc) (k0_pay55 (BitVec.ofNat 32 T)) qa (ix3 0 i l)
      = avg (kscore 512 (by omega) T q (fun c k => kc (ix3 0 c k)) (fun c k => cx (ix2 c k)) qa i) (fun c => vc (ix3 0 c l)) := by
  have hb := fun c => biasD T hT i c
  generalize k0_pay55 (F := Ideal) (BitVec.ofNat 32 T) = B at hb ⊢
  unfold k0_pay68 k0_pay67
  dsimp only
  generalize hS : addf (F := Ideal) _ B = S
  have hs : ∀ c, S (ix2 i c) = kscore 512 (by omega) T q (fun c k => kc (ix3 0 c k)) (fun c k => cx (ix2 c k)) qa i c := fun c => by
    rw [← hS]
    pointwise [k0_pay53]
    rw [hb]
    exact congrArg₂ (· + ·) (congrArg₂ (· + ·) (Finset.sum_congr rfl fun x _ => congrArg (· * kc (ix3 0 c x)) (heads1 q i x)) rfl) rfl
  pointwise [k0_pay54]
  simp only [hs, half_val, ofBits_bot]
  rfl

end

end Cert.Nsa
-- ==== Proof.Nsa.Block.lean ====
/-
  The four tiles one point stores: the gated averages of the two groups, side by side in one row of lanes.
-/
module

public import proofs.«01_k».proof.Proof.Nsa.Ref
public import proofs.«01_k».proof.Proof.Gen.Kernel8Ideal.Frame
public import Idealize.ShloMosaic.Lib.Pipeline.ValueKit

@[expose] public section

set_option maxRecDepth 16384

noncomputable section

namespace Cert.Nsa

open Cert.Kernel8Ideal Cert.Kernel8Ideal.Gen
open Idealize.ShloMosaic Idealize.ShloMosaic.TcCoe Idealize.ShloMosaic.Tactic

/-- The two groups' averages, as the body stores them in its scratch. -/
abbrev stored (oc0 oc1 : Vec Ideal S1x512x128 .f32) : List (View.Piece (Elt Ideal) S2x512x128 .f32) :=
  [⟨Rect.unit ![1, 0, 0] ![1, 512, 128] inb_S2x512x128_S1x512x128_1_0_0, oc1⟩, ⟨Rect.unit ![0, 0, 0] ![1, 512, 128] inb_S2x512x128_S1x512x128_0_0_0, oc0⟩]

theorem stored_at (oc0 oc1 : Vec Ideal S1x512x128 .f32) (y : S2x512x128.Idx) :
    View.canon (stored oc0 oc1) y = if (y 0).val = 0 then oc0 (ix3 0 (y 1) (y 2)) else oc1 (ix3 0 (y 1) (y 2)) := by
  unfold stored
  canon_tiles x q
  · rw [if_neg (by omega)]
    exact congrArg oc1 (by blk_ext)
  · rw [if_pos (by omega)]
    exact congrArg oc0 (by blk_ext)

/-- The body's reads of that scratch, 128 rows at a time. -/
theorem loaded_at (oc0 oc1 : Vec Ideal S1x512x128 .f32) (g o : ℕ) (hg : g < 2) (ho : o + 128 ≤ 512)
    (inb : ∀ a, (![g, o, 0] : Fin 3 → ℕ) a + (![1, 128, 128] : Fin 3 → ℕ) a ≤ S2x512x128.size a) (a b : Fin 128) :
    (View.whole cc0_scratch1).readCov (stored oc0 oc1) (Rect.unit (s := S2x512x128) ![g, o, 0] ![1, 128, 128] inb).toLoadRect (ix3 0 a b)
      = if g = 0 then oc0 (ix3 0 ⟨o + a.val, by omega⟩ b) else oc1 (ix3 0 ⟨o + a.val, by omega⟩ b) := by
  rw [View.readCov_eq_canon']
  refine (stored_at oc0 oc1 _).trans ?_
  have e0 : (Rect.unit (s := S2x512x128) ![g, o, 0] ![1, 128, 128] inb).toLoadRect.idx (ix3 0 a b) = ix3 ⟨g, hg⟩ ⟨o + a.val, by omega⟩ b := by
    funext k
    refine Fin.ext ?_
    rw [LoadRect.idx_apply]
    match k with
    | 0 => show g + 1 * 0 = g; omega
    | 1 => show o + 1 * a.val = o + a.val; omega
    | 2 => show 0 + 1 * b.val = b.val; omega
  rw [e0]
  rfl

/-- The four tiles one point stores. -/
abbrev tiles (ng : Vec Ideal S128x128 .f32) (a0 a1 a2 a3 b0 b1 b2 b3 : Vec Ideal S1x128x128 .f32) : List (View.Piece (Elt Ideal) S128x512 .f32) :=
  [⟨Rect.unit ![0, 384] ![128, 128] inb_S128x512_S128x128_0_384,
      k0_pay1 (iota .tc S128x128 32 [1] iota_S128x128_d1_w32) (k0_pay81 (k0_pay76 ng) a3) (k0_pay85 (k0_pay76 ng) b3)⟩,
   ⟨Rect.unit ![0, 256] ![128, 128] inb_S128x512_S128x128_0_256,
      k0_pay131 (iota .tc S128x128 32 [1] iota_S128x128_d1_w32) (k0_pay80 (k0_pay76 ng) a2) (k0_pay84 (k0_pay76 ng) b2)⟩,
   ⟨Rect.unit ![0, 128] ![128, 128] inb_S128x512_S128x128_0_128,
      k0_pay130 (iota .tc S128x128 32 [1] iota_S128x128_d1_w32) (k0_pay79 (k0_pay78 ng) a1) (k0_pay83 (k0_pay76 ng) b1)⟩,
   ⟨Rect.unit ![0, 0] ![128, 128] inb_S128x512_S128x128_0_0,
      k0_pay129 (iota .tc S128x128 32 [1] iota_S128x128_d1_w32) (k0_pay77 ng a0) (k0_pay82 (k0_pay76 ng) b0)⟩]

/-- The lane's group. -/
theorem lane_word {l : ℕ} (hl : l < 128) (A B : EReal) :
    (Scalar.select (IntOp.cmpi .slt (BitVec.ofNat 32 l) 64#32) A B : EReal) = if l < 64 then A else B := by
  simp only [IntOp.cmpi, BitVec.slt, toInt_small (show l < 2 ^ 31 by omega)]
  by_cases h : l < 64
  · rw [if_pos h, decide_eq_true (by rw [show (64#32).toInt = 64 from rfl]; omega)]; rfl
  · rw [if_neg h, decide_eq_false (by rw [show (64#32).toInt = 64 from rfl]; omega)]; rfl

theorem sigm_eq (z : EReal) : Ideal.div 1 (1 + Ideal.exp (0 - z)) = sigm z := by
  rw [zero_sub]; rfl

/-- One tile's element: its lane picks the group. -/
theorem pick (ng : Vec Ideal S128x128 .f32) (oc0 oc1 : Vec Ideal S1x512x128 .f32) (r : ℕ) (hr : r < 4) (a : Fin 128) (b : Fin 512) (x0 x1 : Fin 128)
    (j0 j1 : Fin 128) (ha : a.val = x0.val) (hb : b.val = 128 * r + x1.val) (hj0 : j0.val = 3 * r) (hj1 : j1.val = 12 + 3 * r) (i : Fin 512) (hi : i.val = 128 * r + x0.val) :
    (if x1.val < 64 then sigm (ng (ix2 x0 j0)) * oc0 (ix3 0 i x1) else sigm (ng (ix2 x0 j1)) * oc1 (ix3 0 i x1))
      = sigm (ng (ix2 a ⟨b.val / 64 % 2 * 12 + b.val / 128 * 3, by omega⟩))
        * (if b.val % 128 < 64 then oc0 (ix3 0 ⟨b.val / 128 * 128 + a.val, by omega⟩ ⟨b.val % 128, by omega⟩)
          else oc1 (ix3 0 ⟨b.val / 128 * 128 + a.val, by omega⟩ ⟨b.val % 128, by omega⟩)) := by
  have e0 : x0 = a := Fin.ext ha.symm
  have e1 : i = ⟨b.val / 128 * 128 + a.val, by omega⟩ := Fin.ext (by dsimp only; omega)
  have e2 : x1 = ⟨b.val % 128, by omega⟩ := Fin.ext (by dsimp only; omega)
  have e3 : (b.val % 128 < 64) = (x1.val < 64) := by congr 1; omega
  rw [← e1, ← e2, ← e0]
  simp only [e3]
  by_cases h : x1.val < 64
  · rw [if_pos h, if_pos h]
    exact congrArg (fun k => sigm (ng (ix2 x0 k)) * _) (Fin.ext (by dsimp only; omega))
  · rw [if_neg h, if_neg h]
    exact congrArg (fun k => sigm (ng (ix2 x0 k)) * _) (Fin.ext (by dsimp only; omega))

/-- One element of the block: the gate of its head times the average of its head at its lane. -/
theorem tiles_at (ng : Vec Ideal S128x128 .f32) (a0 a1 a2 a3 b0 b1 b2 b3 : Vec Ideal S1x128x128 .f32) (oc0 oc1 : Vec Ideal S1x512x128 .f32)
    (ha0 : ∀ i l : Fin 128, a0 (ix3 0 i l) = oc0 (ix3 0 ⟨0 + i.val, by omega⟩ l)) (ha1 : ∀ i l : Fin 128, a1 (ix3 0 i l) = oc0 (ix3 0 ⟨128 + i.val, by omega⟩ l))
    (ha2 : ∀ i l : Fin 128, a2 (ix3 0 i l) = oc0 (ix3 0 ⟨256 + i.val, by omega⟩ l)) (ha3 : ∀ i l : Fin 128, a3 (ix3 0 i l) = oc0 (ix3 0 ⟨384 + i.val, by omega⟩ l))
    (hb0 : ∀ i l : Fin 128, b0 (ix3 0 i l) = oc1 (ix3 0 ⟨0 + i.val, by omega⟩ l)) (hb1 : ∀ i l : Fin 128, b1 (ix3 0 i l) = oc1 (ix3 0 ⟨128 + i.val, by omega⟩ l))
    (hb2 : ∀ i l : Fin 128, b2 (ix3 0 i l) = oc1 (ix3 0 ⟨256 + i.val, by omega⟩ l)) (hb3 : ∀ i l : Fin 128, b3 (ix3 0 i l) = oc1 (ix3 0 ⟨384 + i.val, by omega⟩ l))
    (a : Fin 128) (b : Fin 512) :
    View.canon (tiles ng a0 a1 a2 a3 b0 b1 b2 b3) (ix2 a b)
      = sigm (ng (ix2 a ⟨b.val / 64 % 2 * 12 + b.val / 128 * 3, by omega⟩))
        * (if b.val % 128 < 64 then oc0 (ix3 0 ⟨b.val / 128 * 128 + a.val, by omega⟩ ⟨b.val % 128, by omega⟩)
          else oc1 (ix3 0 ⟨b.val / 128 * 128 + a.val, by omega⟩ ⟨b.val % 128, by omega⟩)) := by
  unfold tiles
  canon_tiles x q
  all_goals idx_vars x
  case piece3 =>
    open_payloads
    pointwise [ha0, hb0, lane_word, sigm_eq]
    exact pick ng oc0 oc1 0 (by omega) a b x0 x1 _ _ (by omega) (by omega) rfl rfl _ (by first | rfl | (dsimp only; omega))
  case piece2 =>
    open_payloads
    pointwise [ha1, hb1, lane_word, sigm_eq]
    exact pick ng oc0 oc1 1 (by omega) a b x0 x1 _ _ (by omega) (by omega) rfl rfl _ (by first | rfl | (dsimp only; omega))
  case piece1 =>
    open_payloads
    pointwise [ha2, hb2, lane_word, sigm_eq]
    exact pick ng oc0 oc1 2 (by omega) a b x0 x1 _ _ (by omega) (by omega) rfl rfl _ (by first | rfl | (dsimp only; omega))
  case piece0 =>
    open_payloads
    pointwise [ha3, hb3, lane_word, sigm_eq]
    exact pick ng oc0 oc1 3 (by omega) a b x0 x1 _ _ (by omega) (by omega) rfl rfl _ (by first | rfl | (dsimp only; omega))

end Cert.Nsa
-- ==== Proof.Nsa.Value.lean ====
/-
  The compressed attention's result: what each grid point stores is the reference's attention over its 128 queries.
-/
module

public import proofs.«01_k».proof.Proof.Nsa.Host
public import proofs.«01_k».proof.Proof.Nsa.Pay
public import proofs.«01_k».proof.Proof.Nsa.Block
public import proofs.«01_k».proof.Proof.Gen.Kernel8Ideal.Value

@[expose] public section

set_option maxRecDepth 16384

noncomputable section

namespace Cert.Nsa

open Cert.Kernel8Ideal Cert.Kernel8Ideal.Gen
open Idealize.ShloMosaic Idealize.ShloMosaic.TcCoe Idealize.ShloMosaic.Tactic

variable (m : (ℓ : Loc nD τ sig) → Buf (Elt Ideal) ℓ)

/-! ## What the windows hold -/

theorem idx : ∀ t : Fin cfg0.N, win0_0.index t = ![t.val, 0] ∧ win0_1.index t = ![t.val / 64, 0, 0] ∧ win0_2.index t = ![t.val, 0]
    ∧ win0_4.index t = ![0, 0, 0] ∧ win0_5.index t = ![0, 0] ∧ win0_6.index t = ![t.val, 0] :=
  (by decide +kernel : ∀ t : Fin grid0.N, _)

theorem word (t : Fin cfg0.N) : Scalar.muli (BitVec.ofNat 32 (grid0.coords t 1)) 128#32 = BitVec.ofNat 32 (128 * (t.val % 64)) :=
  (by decide +kernel : ∀ t : Fin grid0.N, Scalar.muli (BitVec.ofNat 32 (grid0.coords t 1)) 128#32 = BitVec.ofNat 32 (128 * (t.val % 64))) t

theorem q_read (c : Dev nD) (t : Fin cfg0.N) (hN : t.val < 256) (a : Fin 128) (k : Fin 1024) :
    (iblk m c 0 t : FVec Ideal S128x1024 .bf16) (ix2 a k) = (V m c main_arg0 : FVec Ideal S32768x1024 .bf16) (ix2 ⟨t.val * 128 + a.val, by omega⟩ k) := by
  blk_simp [iblk]
  refine congrArg (V m c main_arg0) ?_
  blk_ext [idx t]

theorem ng_read (c : Dev nD) (t : Fin cfg0.N) (hN : t.val < 256) (a : Fin 128) (k : Fin 128) :
    (iblk m c 2 t : FVec Ideal S128x128 .f32) (ix2 a k) = (V m c main_arg2 : FVec Ideal S32768x128 .f32) (ix2 ⟨t.val * 128 + a.val, by omega⟩ k) := by
  blk_simp [iblk]
  refine congrArg (V m c main_arg2) ?_
  blk_ext [idx t]

theorem kvc_read (c : Dev nD) (t : Fin cfg0.N) (hN : t.val < 256) (k : Fin 512) (l : Fin 256) :
    (iblk m c 1 t : FVec Ideal S1x512x256 .bf16) (ix3 0 k l) = (V m c main_arg1 : FVec Ideal S4x512x256 .bf16) (ix3 ⟨t.val / 64, by omega⟩ k l) := by
  blk_simp [iblk]
  refine congrArg (V m c main_arg1) ?_
  blk_ext [idx t]

theorem qa_read (c : Dev nD) (t : Fin cfg0.N) (g : Fin 2) (i : Fin 512) (k : Fin 128) :
    (iblk m c 4 t : FVec Ideal S2x512x128 .bf16) (ix3 g i k) = slopeTab (ix3 g i k) := by
  rw [← V_slope m c]
  blk_simp [iblk]
  refine congrArg (V m c main_v23) ?_
  blk_ext [idx t]

theorem ca_read (c : Dev nD) (t : Fin cfg0.N) (i : Fin 512) (k : Fin 128) :
    (iblk m c 5 t : FVec Ideal S512x128 .bf16) (ix2 i k) = posTab (ix2 i k) := by
  rw [← V_pos m c]
  blk_simp [iblk]
  refine congrArg (V m c main_v66) ?_
  blk_ext [idx t]

/-! ## One block of queries -/

/-- One head's average over the first `n` keys is the reference's over all of them. -/
theorem head_eq (x0 : FVec Ideal S32768x1024 .bf16) (x1 : FVec Ideal S4x512x256 .bf16) (b : Fin 4) (g : Fin 2) (r : Fin 4) (t : Fin 8192) {n : ℕ} (hn : n ≤ 512)
    (hk : t.val < 16 * n + 31) (s v' : Fin n → EReal) (v : Fin 512 → EReal)
    (hs : ∀ c : Fin n, s c = ∑ k : Fin 128, x0 (ix2 ⟨b.val * 8192 + t.val, by omega⟩ ⟨g.val * 512 + r.val * 128 + k.val, by omega⟩) * x1 (ix3 b ⟨c.val, by omega⟩ ⟨k.val, by omega⟩)
      + slope ⟨4 * g.val + r.val, by omega⟩ * (((16 * c.val + 31 : ℕ) : ℝ) : EReal) + (if 16 * c.val + 31 ≤ t.val then 0 else ⊥))
    (hv : ∀ c : Fin n, v' c = v (c.castLE hn)) :
    avg s v' = ravg (sees t) (rscore x0 x1 b g r t) v := by
  obtain ⟨w, hw⟩ := slope_real ⟨4 * g.val + r.val, by omega⟩
  refine (ravg_eq_avg hn (sees t) (rscore x0 x1 b g r t) v s v' (w * (t.val : ℝ)) (fun c hc h => by have : 16 * c.val + 31 ≤ t.val := h; omega) (fun c => ?_) hv).symm
  rw [hs c]
  by_cases h : 16 * c.val + 31 ≤ t.val
  · rw [if_pos h, if_pos (show sees t (c.castLE hn) from h), add_zero, rscore, hw, sub_eq_add_neg, add_assoc]
    refine congrArg₂ (· + ·) (Finset.sum_congr rfl fun k _ => mul_comm _ _) ?_
    rw [← EReal.coe_mul, ← EReal.coe_mul, ← EReal.coe_neg, ← EReal.coe_add]
    refine congrArg _ ?_
    have : ((c.castLE hn).val : ℝ) = (c.val : ℝ) := rfl
    rw [this]
    push_cast
    ring
  · rw [if_neg h, if_neg (show ¬ sees t (c.castLE hn) from h), EReal.add_bot]

/-- One element of a block of queries, from the two groups' averages over the first `n` keys. -/
theorem block_eq (x0 : FVec Ideal S32768x1024 .bf16) (x1 : FVec Ideal S4x512x256 .bf16) (x2 : FVec Ideal S32768x128 .f32) (t : ℕ) (ht : t < 256) {n : ℕ} (hn : n ≤ 512)
    (hk : 128 * (t % 64) + 128 ≤ 16 * n + 31)
    (q : Vec Ideal S128x1024 .bf16) (ng : Vec Ideal S128x128 .f32) (qa0 qa1 : Vec Ideal S1x512x128 .bf16) (kc cx vc : Fin n → Fin 128 → EReal)
    (hq : ∀ (a : Fin 128) (k : Fin 1024), q (ix2 a k) = x0 (ix2 ⟨t * 128 + a.val, by omega⟩ k))
    (hng : ∀ a k : Fin 128, ng (ix2 a k) = x2 (ix2 ⟨t * 128 + a.val, by omega⟩ k))
    (hkc : ∀ (c : Fin n) (k : Fin 128), kc c k = x1 (ix3 ⟨t / 64, by omega⟩ ⟨c.val, by omega⟩ ⟨k.val, by omega⟩))
    (hvc : ∀ (c : Fin n) (k : Fin 128), vc c k = x1 (ix3 ⟨t / 64, by omega⟩ ⟨c.val, by omega⟩ ⟨128 + k.val, by omega⟩))
    (hcx : ∀ (c : Fin n) (k : Fin 128), cx c k = posTab (ix2 ⟨c.val, by omega⟩ k))
    (h0 : ∀ (i : Fin 512) (k : Fin 128), qa0 (ix3 0 i k) = slopeTab (ix3 0 i k)) (h1 : ∀ (i : Fin 512) (k : Fin 128), qa1 (ix3 0 i k) = slopeTab (ix3 1 i k))
    (oc0 oc1 : Vec Ideal S1x512x128 .f32)
    (ho0 : ∀ (i : Fin 512) (l : Fin 128), oc0 (ix3 0 i l) = avg (kscore 0 (by omega) (128 * (t % 64)) q kc cx qa0 i) (fun c => vc c l))
    (ho1 : ∀ (i : Fin 512) (l : Fin 128), oc1 (ix3 0 i l) = avg (kscore 512 (by omega) (128 * (t % 64)) q kc cx qa1 i) (fun c => vc c l))
    (a : Fin 128) (b : Fin 512) :
    sigm (ng (ix2 a ⟨b.val / 64 % 2 * 12 + b.val / 128 * 3, by omega⟩))
        * (if b.val % 128 < 64 then oc0 (ix3 0 ⟨b.val / 128 * 128 + a.val, by omega⟩ ⟨b.val % 128, by omega⟩)
          else oc1 (ix3 0 ⟨b.val / 128 * 128 + a.val, by omega⟩ ⟨b.val % 128, by omega⟩))
      = Cert.Reference8Ideal.Read.val_main_v139 (F := Ideal) x0 x1 x2 (ix2 ⟨t * 128 + a.val, by omega⟩ b) := by
  rw [ref_out, hng]
  refine congrArg _ ?_
  have ei : (b.val / 128 * 128 + a.val) % 128 = a.val := by omega
  have er : (b.val / 128 * 128 + a.val) / 128 = b.val / 128 := by omega
  have et : t / 64 * 8192 + (128 * (t % 64) + a.val) = t * 128 + a.val := by omega
  have hT : (⟨(t * 128 + a.val) % 8192, by omega⟩ : Fin 8192) = ⟨128 * (t % 64) + a.val, by omega⟩ := Fin.ext (by dsimp only; omega)
  have hB : (⟨(t * 128 + a.val) / 8192, by omega⟩ : Fin 4) = ⟨t / 64, by omega⟩ := Fin.ext (by dsimp only; omega)
  dsimp only
  rw [hT, hB]
  have key : ∀ (g : Fin 2) (o : ℕ) (ho : o ≤ 512) (hog : o = g.val * 512) (qa : Vec Ideal S1x512x128 .bf16) (hqa : ∀ (i : Fin 512) (k : Fin 128), qa (ix3 0 i k) = slopeTab (ix3 g i k)),
      avg (kscore o ho (128 * (t % 64)) q kc cx qa ⟨b.val / 128 * 128 + a.val, by omega⟩) (fun c => vc c ⟨b.val % 128, by omega⟩)
        = ravg (sees ⟨128 * (t % 64) + a.val, by omega⟩) (rscore x0 x1 ⟨t / 64, by omega⟩ g ⟨b.val / 128, by omega⟩ ⟨128 * (t % 64) + a.val, by omega⟩)
          (fun c => x1 (ix3 ⟨t / 64, by omega⟩ c ⟨128 + b.val % 128, by omega⟩)) := fun g o ho hog qa hqa => by
    refine head_eq x0 x1 _ g _ _ hn (by dsimp only; omega) _ _ _ (fun c => ?_) (fun c => hvc c _)
    unfold kscore
    simp only [ei, er]
    refine congrArg₂ (· + ·) (congrArg₂ (· + ·) (Finset.sum_congr rfl fun k _ => ?_) ?_) rfl
    · rw [hq, hkc]
      refine congrArg₂ (· * ·) (congrArg x0 ?_) rfl
      exact congrArg₂ ix2 (Fin.ext et.symm) (Fin.ext (by dsimp only; omega))
    · refine (Finset.sum_congr rfl fun k _ => congrArg₂ (· * ·) (hqa _ k) (hcx c k)).trans ((tab_sum g _ _).trans ?_)
      exact congrArg₂ (· * ·) (congrArg slope (Fin.ext (by dsimp only; omega))) rfl
  have hv : ∀ g : ℕ, g = b.val / 64 % 2 → g * 64 + b.val % 64 = b.val % 128 := fun g hg => by omega
  by_cases h : b.val % 128 < 64
  · rw [if_pos h, ho0, key 0 0 (by omega) rfl qa0 h0]
    have e : (⟨b.val / 64 % 2, by omega⟩ : Fin 2) = 0 := Fin.ext (by show b.val / 64 % 2 = 0; omega)
    rw [e]
    refine congrArg _ (funext fun c => congrArg x1 (congrArg _ (Fin.ext ?_)))
    dsimp only; omega
  · rw [if_neg h, ho1, key 1 512 (by omega) rfl qa1 h1]
    have e : (⟨b.val / 64 % 2, by omega⟩ : Fin 2) = 1 := Fin.ext (by show b.val / 64 % 2 = 1; omega)
    rw [e]
    refine congrArg _ (funext fun c => congrArg x1 (congrArg _ (Fin.ext ?_)))
    dsimp only; omega

/-! ## What each grid point stores: the four variants -/

/-- The element a load through a unit-stride box reads. -/
theorem at3 {A B C p0 p1 p2 o0 o1 o2 : ℕ} (inb : ∀ a, (![o0, o1, o2] : Fin 3 → ℕ) a + (![p0, p1, p2] : Fin 3 → ℕ) a ≤ (⟨3, ![A, B, C]⟩ : Shape).size a)
    (x : Fin p0) (y : Fin p1) (z : Fin p2) (x' : Fin A) (y' : Fin B) (z' : Fin C) (hx : x'.val = o0 + x.val) (hy : y'.val = o1 + y.val) (hz : z'.val = o2 + z.val) :
    (Rect.unit (s := ⟨3, ![A, B, C]⟩) ![o0, o1, o2] ![p0, p1, p2] inb).toLoadRect.idx (ix3 x y z) = ix3 x' y' z' := by
  funext k
  refine Fin.ext ?_
  rw [LoadRect.idx_apply]
  match k with
  | 0 => show o0 + 1 * x.val = x'.val; omega
  | 1 => show o1 + 1 * y.val = y'.val; omega
  | 2 => show o2 + 1 * z.val = z'.val; omega

theorem at2 {A B p0 p1 o0 o1 : ℕ} (inb : ∀ a, (![o0, o1] : Fin 2 → ℕ) a + (![p0, p1] : Fin 2 → ℕ) a ≤ (⟨2, ![A, B]⟩ : Shape).size a)
    (x : Fin p0) (y : Fin p1) (x' : Fin A) (y' : Fin B) (hx : x'.val = o0 + x.val) (hy : y'.val = o1 + y.val) :
    (Rect.unit (s := ⟨2, ![A, B]⟩) ![o0, o1] ![p0, p1] inb).toLoadRect.idx (ix2 x y) = ix2 x' y' := by
  funext k
  refine Fin.ext ?_
  rw [LoadRect.idx_apply]
  match k with
  | 0 => show o0 + 1 * x.val = x'.val; omega
  | 1 => show o1 + 1 * y.val = y'.val; omega

/-- The result, as the reference has it. -/
def out (c : Dev nD) : FVec Ideal S32768x512 .f32 :=
  Cert.Reference8Ideal.Read.val_main_v139 (F := Ideal) (m ((c : Thread nD τ).loc main_arg0)) (m ((c : Thread nD τ).loc main_arg1)) (m ((c : Thread nD τ).loc main_arg2))

theorem pointA (c : Dev nD) (t : Fin cfg0.N) (hN : t.val < 256) (h0 : t.val % 64 ≤ 15) (h1 : ¬(16 ≤ t.val % 64 ∧ t.val % 64 ≤ 31)) (h2 : ¬(32 ≤ t.val % 64 ∧ t.val % 64 ≤ 47)) (h3 : ¬48 ≤ t.val % 64)
    (a : Fin 128) (b : Fin 512) : (outsAt0 m c t.val t.isLt).1 (ix2 a b) = out m c (ix2 ⟨t.val * 128 + a.val, by omega⟩ b) := by
  rw [outsAt0_A m c t h0 h1 h2 h3]
  frame_out
  rw [word t]
  refine (tiles_at (iblk m c 2 t) _ _ _ _ _ _ _ _ _ _
    (fun i l => (loaded_at _ _ 0 0 (by omega) (by omega) _ i l).trans (if_pos rfl)) (fun i l => (loaded_at _ _ 0 128 (by omega) (by omega) _ i l).trans (if_pos rfl))
    (fun i l => (loaded_at _ _ 0 256 (by omega) (by omega) _ i l).trans (if_pos rfl)) (fun i l => (loaded_at _ _ 0 384 (by omega) (by omega) _ i l).trans (if_pos rfl))
    (fun i l => (loaded_at _ _ 1 0 (by omega) (by omega) _ i l).trans (if_neg (by omega))) (fun i l => (loaded_at _ _ 1 128 (by omega) (by omega) _ i l).trans (if_neg (by omega)))
    (fun i l => (loaded_at _ _ 1 256 (by omega) (by omega) _ i l).trans (if_neg (by omega))) (fun i l => (loaded_at _ _ 1 384 (by omega) (by omega) _ i l).trans (if_neg (by omega)))
    a b).trans ?_
  refine block_eq (n := 128) _ _ _ t.val hN (by omega) (by omega) (iblk m c 0 t) (iblk m c 2 t)
    (View.ld (iblk m c 4 t) (Rect.unit (s := S2x512x128) ![0, 0, 0] ![1, 512, 128] inb_S2x512x128_S1x512x128_0_0_0))
    (View.ld (iblk m c 4 t) (Rect.unit (s := S2x512x128) ![1, 0, 0] ![1, 512, 128] inb_S2x512x128_S1x512x128_1_0_0)) _ _ _
    (fun a k => (q_read m c t hN a k).trans (congrFun (V_main_arg0 m c) _)) (fun a k => (ng_read m c t hN a k).trans (congrFun (V_main_arg2 m c) _))
    ?_ ?_ ?_ ?_ ?_ _ _ (fun i l => firstA (128 * (t.val % 64)) (by omega) (iblk m c 0 t) _ _ _ _ i l) (fun i l => secondA (128 * (t.val % 64)) (by omega) (iblk m c 0 t) _ _ _ _ i l) a b
  · intro k l
    refine Eq.trans ?_ ((kvc_read m c t hN ⟨k.val, by omega⟩ ⟨l.val, by omega⟩).trans (congrFun (V_main_arg1 m c) _))
    exact congrArg (iblk m c 1 t) (at3 _ _ _ _ 0 _ _ rfl (Nat.zero_add _).symm (Nat.zero_add _).symm)
  · intro k l
    refine Eq.trans ?_ ((kvc_read m c t hN ⟨k.val, by omega⟩ ⟨128 + l.val, by omega⟩).trans (congrFun (V_main_arg1 m c) _))
    exact congrArg (iblk m c 1 t) (at3 _ _ _ _ 0 _ _ rfl (Nat.zero_add _).symm rfl)
  · intro k l
    refine Eq.trans ?_ (ca_read m c t ⟨k.val, by omega⟩ l)
    exact congrArg (iblk m c 5 t) (at2 _ _ _ _ _ (Nat.zero_add _).symm (Nat.zero_add _).symm)
  · intro i k
    refine Eq.trans ?_ (qa_read m c t 0 i k)
    exact congrArg (iblk m c 4 t) (at3 _ _ _ _ _ _ _ rfl (Nat.zero_add _).symm (Nat.zero_add _).symm)
  · intro i k
    refine Eq.trans ?_ (qa_read m c t 1 i k)
    exact congrArg (iblk m c 4 t) (at3 _ _ _ _ _ _ _ rfl (Nat.zero_add _).symm (Nat.zero_add _).symm)

theorem pointB (c : Dev nD) (t : Fin cfg0.N) (hN : t.val < 256) (h0 : ¬t.val % 64 ≤ 15) (h1 : 16 ≤ t.val % 64 ∧ t.val % 64 ≤ 31) (h2 : ¬(32 ≤ t.val % 64 ∧ t.val % 64 ≤ 47)) (h3 : ¬48 ≤ t.val % 64)
    (a : Fin 128) (b : Fin 512) : (outsAt0 m c t.val t.isLt).1 (ix2 a b) = out m c (ix2 ⟨t.val * 128 + a.val, by omega⟩ b) := by
  rw [outsAt0_B m c t h0 h1 h2 h3]
  frame_out
  rw [word t]
  refine (tiles_at (iblk m c 2 t) _ _ _ _ _ _ _ _ _ _
    (fun i l => (loaded_at _ _ 0 0 (by omega) (by omega) _ i l).trans (if_pos rfl)) (fun i l => (loaded_at _ _ 0 128 (by omega) (by omega) _ i l).trans (if_pos rfl))
    (fun i l => (loaded_at _ _ 0 256 (by omega) (by omega) _ i l).trans (if_pos rfl)) (fun i l => (loaded_at _ _ 0 384 (by omega) (by omega) _ i l).trans (if_pos rfl))
    (fun i l => (loaded_at _ _ 1 0 (by omega) (by omega) _ i l).trans (if_neg (by omega))) (fun i l => (loaded_at _ _ 1 128 (by omega) (by omega) _ i l).trans (if_neg (by omega)))
    (fun i l => (loaded_at _ _ 1 256 (by omega) (by omega) _ i l).trans (if_neg (by omega))) (fun i l => (loaded_at _ _ 1 384 (by omega) (by omega) _ i l).trans (if_neg (by omega)))
    a b).trans ?_
  refine block_eq (n := 256) _ _ _ t.val hN (by omega) (by omega) (iblk m c 0 t) (iblk m c 2 t)
    (View.ld (iblk m c 4 t) (Rect.unit (s := S2x512x128) ![0, 0, 0] ![1, 512, 128] inb_S2x512x128_S1x512x128_0_0_0))
    (View.ld (iblk m c 4 t) (Rect.unit (s := S2x512x128) ![1, 0, 0] ![1, 512, 128] inb_S2x512x128_S1x512x128_1_0_0)) _ _ _
    (fun a k => (q_read m c t hN a k).trans (congrFun (V_main_arg0 m c) _)) (fun a k => (ng_read m c t hN a k).trans (congrFun (V_main_arg2 m c) _))
    ?_ ?_ ?_ ?_ ?_ _ _ (fun i l => firstB (128 * (t.val % 64)) (by omega) (iblk m c 0 t) _ _ _ _ i l) (fun i l => secondB (128 * (t.val % 64)) (by omega) (iblk m c 0 t) _ _ _ _ i l) a b
  · intro k l
    refine Eq.trans ?_ ((kvc_read m c t hN ⟨k.val, by omega⟩ ⟨l.val, by omega⟩).trans (congrFun (V_main_arg1 m c) _))
    exact congrArg (iblk m c 1 t) (at3 _ _ _ _ 0 _ _ rfl (Nat.zero_add _).symm (Nat.zero_add _).symm)
  · intro k l
    refine Eq.trans ?_ ((kvc_read m c t hN ⟨k.val, by omega⟩ ⟨128 + l.val, by omega⟩).trans (congrFun (V_main_arg1 m c) _))
    exact congrArg (iblk m c 1 t) (at3 _ _ _ _ 0 _ _ rfl (Nat.zero_add _).symm rfl)
  · intro k l
    refine Eq.trans ?_ (ca_read m c t ⟨k.val, by omega⟩ l)
    exact congrArg (iblk m c 5 t) (at2 _ _ _ _ _ (Nat.zero_add _).symm (Nat.zero_add _).symm)
  · intro i k
    refine Eq.trans ?_ (qa_read m c t 0 i k)
    exact congrArg (iblk m c 4 t) (at3 _ _ _ _ _ _ _ rfl (Nat.zero_add _).symm (Nat.zero_add _).symm)
  · intro i k
    refine Eq.trans ?_ (qa_read m c t 1 i k)
    exact congrArg (iblk m c 4 t) (at3 _ _ _ _ _ _ _ rfl (Nat.zero_add _).symm (Nat.zero_add _).symm)

theorem pointC (c : Dev nD) (t : Fin cfg0.N) (hN : t.val < 256) (h0 : ¬t.val % 64 ≤ 15) (h1 : ¬(16 ≤ t.val % 64 ∧ t.val % 64 ≤ 31)) (h2 : 32 ≤ t.val % 64 ∧ t.val % 64 ≤ 47) (h3 : ¬48 ≤ t.val % 64)
    (a : Fin 128) (b : Fin 512) : (outsAt0 m c t.val t.isLt).1 (ix2 a b) = out m c (ix2 ⟨t.val * 128 + a.val, by omega⟩ b) := by
  rw [outsAt0_C m c t h0 h1 h2 h3]
  frame_out
  rw [word t]
  refine (tiles_at (iblk m c 2 t) _ _ _ _ _ _ _ _ _ _
    (fun i l => (loaded_at _ _ 0 0 (by omega) (by omega) _ i l).trans (if_pos rfl)) (fun i l => (loaded_at _ _ 0 128 (by omega) (by omega) _ i l).trans (if_pos rfl))
    (fun i l => (loaded_at _ _ 0 256 (by omega) (by omega) _ i l).trans (if_pos rfl)) (fun i l => (loaded_at _ _ 0 384 (by omega) (by omega) _ i l).trans (if_pos rfl))
    (fun i l => (loaded_at _ _ 1 0 (by omega) (by omega) _ i l).trans (if_neg (by omega))) (fun i l => (loaded_at _ _ 1 128 (by omega) (by omega) _ i l).trans (if_neg (by omega)))
    (fun i l => (loaded_at _ _ 1 256 (by omega) (by omega) _ i l).trans (if_neg (by omega))) (fun i l => (loaded_at _ _ 1 384 (by omega) (by omega) _ i l).trans (if_neg (by omega)))
    a b).trans ?_
  refine block_eq (n := 384) _ _ _ t.val hN (by omega) (by omega) (iblk m c 0 t) (iblk m c 2 t)
    (View.ld (iblk m c 4 t) (Rect.unit (s := S2x512x128) ![0, 0, 0] ![1, 512, 128] inb_S2x512x128_S1x512x128_0_0_0))
    (View.ld (iblk m c 4 t) (Rect.unit (s := S2x512x128) ![1, 0, 0] ![1, 512, 128] inb_S2x512x128_S1x512x128_1_0_0)) _ _ _
    (fun a k => (q_read m c t hN a k).trans (congrFun (V_main_arg0 m c) _)) (fun a k => (ng_read m c t hN a k).trans (congrFun (V_main_arg2 m c) _))
    ?_ ?_ ?_ ?_ ?_ _ _ (fun i l => firstC (128 * (t.val % 64)) (by omega) (iblk m c 0 t) _ _ _ _ i l) (fun i l => secondC (128 * (t.val % 64)) (by omega) (iblk m c 0 t) _ _ _ _ i l) a b
  · intro k l
    refine Eq.trans ?_ ((kvc_read m c t hN ⟨k.val, by omega⟩ ⟨l.val, by omega⟩).trans (congrFun (V_main_arg1 m c) _))
    exact congrArg (iblk m c 1 t) (at3 _ _ _ _ 0 _ _ rfl (Nat.zero_add _).symm (Nat.zero_add _).symm)
  · intro k l
    refine Eq.trans ?_ ((kvc_read m c t hN ⟨k.val, by omega⟩ ⟨128 + l.val, by omega⟩).trans (congrFun (V_main_arg1 m c) _))
    exact congrArg (iblk m c 1 t) (at3 _ _ _ _ 0 _ _ rfl (Nat.zero_add _).symm rfl)
  · intro k l
    refine Eq.trans ?_ (ca_read m c t ⟨k.val, by omega⟩ l)
    exact congrArg (iblk m c 5 t) (at2 _ _ _ _ _ (Nat.zero_add _).symm (Nat.zero_add _).symm)
  · intro i k
    refine Eq.trans ?_ (qa_read m c t 0 i k)
    exact congrArg (iblk m c 4 t) (at3 _ _ _ _ _ _ _ rfl (Nat.zero_add _).symm (Nat.zero_add _).symm)
  · intro i k
    refine Eq.trans ?_ (qa_read m c t 1 i k)
    exact congrArg (iblk m c 4 t) (at3 _ _ _ _ _ _ _ rfl (Nat.zero_add _).symm (Nat.zero_add _).symm)

theorem pointD (c : Dev nD) (t : Fin cfg0.N) (hN : t.val < 256) (h0 : ¬t.val % 64 ≤ 15) (h1 : ¬(16 ≤ t.val % 64 ∧ t.val % 64 ≤ 31)) (h2 : ¬(32 ≤ t.val % 64 ∧ t.val % 64 ≤ 47)) (h3 : 48 ≤ t.val % 64)
    (a : Fin 128) (b : Fin 512) : (outsAt0 m c t.val t.isLt).1 (ix2 a b) = out m c (ix2 ⟨t.val * 128 + a.val, by omega⟩ b) := by
  rw [outsAt0_D m c t h0 h1 h2 h3]
  frame_out
  rw [word t]
  refine (tiles_at (iblk m c 2 t) _ _ _ _ _ _ _ _ _ _
    (fun i l => (loaded_at _ _ 0 0 (by omega) (by omega) _ i l).trans (if_pos rfl)) (fun i l => (loaded_at _ _ 0 128 (by omega) (by omega) _ i l).trans (if_pos rfl))
    (fun i l => (loaded_at _ _ 0 256 (by omega) (by omega) _ i l).trans (if_pos rfl)) (fun i l => (loaded_at _ _ 0 384 (by omega) (by omega) _ i l).trans (if_pos rfl))
    (fun i l => (loaded_at _ _ 1 0 (by omega) (by omega) _ i l).trans (if_neg (by omega))) (fun i l => (loaded_at _ _ 1 128 (by omega) (by omega) _ i l).trans (if_neg (by omega)))
    (fun i l => (loaded_at _ _ 1 256 (by omega) (by omega) _ i l).trans (if_neg (by omega))) (fun i l => (loaded_at _ _ 1 384 (by omega) (by omega) _ i l).trans (if_neg (by omega)))
    a b).trans ?_
  refine block_eq (n := 512) _ _ _ t.val hN (by omega) (by omega) (iblk m c 0 t) (iblk m c 2 t)
    (View.ld (iblk m c 4 t) (Rect.unit (s := S2x512x128) ![0, 0, 0] ![1, 512, 128] inb_S2x512x128_S1x512x128_0_0_0))
    (View.ld (iblk m c 4 t) (Rect.unit (s := S2x512x128) ![1, 0, 0] ![1, 512, 128] inb_S2x512x128_S1x512x128_1_0_0)) _ _ _
    (fun a k => (q_read m c t hN a k).trans (congrFun (V_main_arg0 m c) _)) (fun a k => (ng_read m c t hN a k).trans (congrFun (V_main_arg2 m c) _))
    ?_ ?_ ?_ ?_ ?_ _ _ (fun i l => firstD (128 * (t.val % 64)) (by omega) (iblk m c 0 t) _ _ _ _ i l) (fun i l => secondD (128 * (t.val % 64)) (by omega) (iblk m c 0 t) _ _ _ _ i l) a b
  · intro k l
    refine Eq.trans ?_ ((kvc_read m c t hN ⟨k.val, by omega⟩ ⟨l.val, by omega⟩).trans (congrFun (V_main_arg1 m c) _))
    exact congrArg (iblk m c 1 t) (at3 _ _ _ _ 0 _ _ rfl (Nat.zero_add _).symm (Nat.zero_add _).symm)
  · intro k l
    refine Eq.trans ?_ ((kvc_read m c t hN ⟨k.val, by omega⟩ ⟨128 + l.val, by omega⟩).trans (congrFun (V_main_arg1 m c) _))
    exact congrArg (iblk m c 1 t) (at3 _ _ _ _ 0 _ _ rfl (Nat.zero_add _).symm rfl)
  · exact fun k l => ca_read m c t k l
  · intro i k
    refine Eq.trans ?_ (qa_read m c t 0 i k)
    exact congrArg (iblk m c 4 t) (at3 _ _ _ _ _ _ _ rfl (Nat.zero_add _).symm (Nat.zero_add _).symm)
  · intro i k
    refine Eq.trans ?_ (qa_read m c t 1 i k)
    exact congrArg (iblk m c 4 t) (at3 _ _ _ _ _ _ _ rfl (Nat.zero_add _).symm (Nat.zero_add _).symm)

/-- What grid point `t` stores. -/
theorem point (c : Dev nD) (t : Fin cfg0.N) (hN : t.val < 256) (a : Fin 128) (b : Fin 512) :
    (outsAt0 m c t.val t.isLt).1 (ix2 a b) = out m c (ix2 ⟨t.val * 128 + a.val, by omega⟩ b) := by
  by_cases h0 : t.val % 64 ≤ 15
  · exact pointA m c t hN h0 (by omega) (by omega) (by omega) a b
  by_cases h1 : t.val % 64 ≤ 31
  · exact pointB m c t hN h0 (by omega) (by omega) (by omega) a b
  by_cases h2 : t.val % 64 ≤ 47
  · exact pointC m c t hN h0 (by omega) (by omega) (by omega) a b
  · exact pointD m c t hN h0 (by omega) (by omega) (by omega) a b

/-- The array the call leaves is the reference's. -/
theorem final6 (c : Dev nD) : (dats m 0 c).arrAt 6 cfg0.N = out m c := by
  refine (dats m 0 c).arrAt_eq_of_covers 6 _ (by decide +kernel) fun t _ y => ?_
  blk_simp
  rw [after0_6]
  idx_vars y
  have hN : t.val < 256 := lt_of_lt_of_eq t.isLt N_0
  refine (point m c t hN y0 y1).trans ?_
  exact congrArg (out m c) (by blk_ext [idx t])

end Cert.Nsa
-- ==== Proof.Nsa.Rounds.lean ====
/-
  The rounds that pick the sixteen blocks of a query: each takes the largest score of a column, at its first row, and
  overwrites it. They pick what a stable sort by falling score places first.
-/
module

public import proofs.«01_k».proof.Proof.Nsa.Soft
public import Idealize.ShloMosaic.Lib.SortPrefix
public import Idealize.ShloMosaic.Lib.SortFacts

@[expose] public section

set_option maxRecDepth 16384

noncomputable section

namespace Cert.Nsa

open Idealize.ShloMosaic Idealize.ShloMosaic.TcCoe

/-- Row `r` is the first among the rows of the largest value. -/
def picks {n : ℕ} (w : Fin n → EReal) (r : Fin n) : Prop := w r = top w ∧ ∀ r' < r, w r' ≠ top w

/-- The column after one round. -/
def over {n : ℕ} (w : Fin n → EReal) (r : Fin n) : EReal := open Classical in if picks w r then -2 else w r

/-- The marks after one round. -/
def mark {n : ℕ} (w t : Fin n → EReal) (r : Fin n) : EReal := open Classical in if picks w r then 1 else t r

/-- The column and the marks after `k` rounds. -/
def rounds {n : ℕ} (x : Fin n → EReal) : ℕ → (Fin n → EReal) × (Fin n → EReal)
  | 0 => (x, fun _ => 0)
  | k + 1 => (over (rounds x k).1, mark (rounds x k).1 (rounds x k).2)

/-- Whether `a` sorts before `b`: by falling score, equal scores by row. -/
def ahead {n : ℕ} (x : Fin n → EReal) (a b : Fin n) : Prop := x b < x a ∨ (x a = x b ∧ a < b)

theorem top_eq {n : ℕ} (w : Fin n → EReal) (p : Fin n) (h : ∀ r, w r ≤ w p) : top w = w p :=
  le_antisymm (Finset.fold_max_le _ |>.mpr ⟨bot_le, fun c _ => h c⟩) (le_top w p)

theorem rounds_eq {n : ℕ} (x : Fin n → EReal) (hx : ∀ r, -2 < x r) (σ : Fin n → Fin n) (hinj : Function.Injective σ) (hsur : Function.Surjective σ)
    (hσ : ∀ i j, i < j → ahead x (σ i) (σ j)) (k : ℕ) (hk : k ≤ n) (r : Fin n) :
    (rounds x k).1 (σ r) = (if r.val < k then -2 else x (σ r)) ∧ (rounds x k).2 (σ r) = (if r.val < k then 1 else 0) := by
  induction k generalizing r with
  | zero => exact ⟨rfl, rfl⟩
  | succ k ih =>
    have ih := fun r => ih (by omega) r
    have hw : ∀ i : Fin n, (rounds x k).1 (σ i) ≤ (rounds x k).1 (σ ⟨k, by omega⟩) := fun i => by
      rw [(ih i).1, (ih ⟨k, by omega⟩).1, if_neg (lt_irrefl k)]
      split
      · exact (hx _).le
      · rename_i h
        rcases Nat.lt_or_ge k i.val with h' | h'
        · rcases hσ ⟨k, by omega⟩ i h' with h1 | h1
          · exact h1.le
          · exact h1.1.ge
        · have : i = ⟨k, by omega⟩ := Fin.ext (by dsimp only; omega)
          rw [this]
    have ht : top (rounds x k).1 = x (σ ⟨k, by omega⟩) := by
      rw [top_eq _ (σ ⟨k, by omega⟩) fun r => by obtain ⟨i, rfl⟩ := hsur r; exact hw i, (ih ⟨k, by omega⟩).1, if_neg (lt_irrefl k)]
    have hp : picks (rounds x k).1 (σ ⟨k, by omega⟩) := by
      refine ⟨by rw [ht, (ih ⟨k, by omega⟩).1, if_neg (lt_irrefl k)], fun r' hr' => ?_⟩
      obtain ⟨i, rfl⟩ := hsur r'
      rw [ht, (ih i).1]
      split
      · exact (hx _).ne
      · rename_i h
        have hne : i ≠ ⟨k, by omega⟩ := fun e => by rw [e] at hr'; exact lt_irrefl _ hr'
        have : (⟨k, by omega⟩ : Fin n) < i := lt_of_le_of_ne (by show k ≤ i.val; omega) hne.symm
        rcases hσ _ i this with h1 | h1
        · exact h1.ne
        · exact absurd h1.2 (not_lt.mpr hr'.le)
    have hu : ∀ i : Fin n, picks (rounds x k).1 (σ i) ↔ i.val = k := fun i => by
      constructor
      · intro hi
        rcases lt_trichotomy (σ i) (σ ⟨k, by omega⟩) with h | h | h
        · exact absurd hi.1 (hp.2 _ h)
        · exact congrArg Fin.val (hinj h)
        · exact absurd hp.1 (hi.2 _ h)
      · intro hi
        have : i = ⟨k, by omega⟩ := Fin.ext hi
        rw [this]; exact hp
    constructor
    · show over _ _ = _
      unfold over
      by_cases h : r.val = k
      · rw [if_pos ((hu r).mpr h), if_pos (by omega)]
      · rw [if_neg (fun c => h ((hu r).mp c)), (ih r).1]
        exact if_congr (by omega) rfl rfl
    · show mark _ _ _ = _
      unfold mark
      by_cases h : r.val = k
      · rw [if_pos ((hu r).mpr h), if_pos (by omega)]
      · rw [if_neg (fun c => h ((hu r).mp c)), (ih r).2]
        exact if_congr (by omega) rfl rfl

/-- Putting a row, which lies before every row of a list in that order, into its place. -/
theorem ahead_insert {n : ℕ} (x : Fin n → EReal) (B : Fin n → Fin n → Bool) (hB : ∀ a b, B a b = true ↔ x b < x a) (a : Fin n) (l : List (Fin n))
    (ha : ∀ b ∈ l, a < b) (hl : l.Pairwise (ahead x)) : (insertBefore B a l).Pairwise (ahead x) := by
  induction l with
  | nil => exact List.pairwise_singleton _ _
  | cons b l ih =>
    obtain ⟨hb, hl'⟩ := List.pairwise_cons.mp hl
    unfold insertBefore
    by_cases h : B b a = true
    · rw [if_pos h]
      refine List.pairwise_cons.mpr ⟨fun c hc => ?_, ih (fun c hc => ha c (List.mem_cons_of_mem _ hc)) hl'⟩
      rcases List.mem_cons.mp ((perm_insertBefore B a l).mem_iff.mp hc) with rfl | hc'
      · exact Or.inl ((hB _ _).mp h)
      · exact hb c hc'
    · rw [if_neg h]
      have hba : x b ≤ x a := not_lt.mp fun hlt => h ((hB _ _).mpr hlt)
      refine List.pairwise_cons.mpr ⟨fun c hc => ?_, hl⟩
      have hca : x c ≤ x a := by
        rcases List.mem_cons.mp hc with rfl | hc'
        · exact hba
        · rcases hb c hc' with h1 | h1
          · exact h1.le.trans hba
          · exact h1.1 ▸ hba
      rcases hca.lt_or_eq with h1 | h1
      · exact Or.inl h1
      · exact Or.inr ⟨h1.symm, ha c hc⟩

theorem ahead_sort {n : ℕ} (x : Fin n → EReal) (B : Fin n → Fin n → Bool) (hB : ∀ a b, B a b = true ↔ x b < x a) (l : List (Fin n))
    (hl : l.Pairwise (· < ·)) : (stableSort B l).Pairwise (ahead x) := by
  induction l with
  | nil => exact List.Pairwise.nil
  | cons a l ih =>
    obtain ⟨ha, hl'⟩ := List.pairwise_cons.mp hl
    unfold stableSort
    exact ahead_insert x B hB a _ (fun b hb => ha b ((perm_stableSort B l).mem_iff.mp hb)) (ih hl')

/-- The order of a stable sort by falling score. -/
theorem ahead_sorted {n : ℕ} (x : Fin n → EReal) (B : Fin n → Fin n → Bool) (hB : ∀ a b, B a b = true ↔ x b < x a) (i j : Fin n) (h : i < j) :
    ahead x (sortedFrom B i) (sortedFrom B j) := by
  have hp := List.pairwise_iff_get.mp (ahead_sort x B hB (List.finRange n) (List.pairwise_lt_finRange n))
  exact hp _ _ h

/-- The marks after `k` rounds: one on what a stable sort by falling score places first. -/
theorem rounds_sorted {n : ℕ} (x : Fin n → EReal) (hx : ∀ r, -2 < x r) (B : Fin n → Fin n → Bool) (hB : ∀ a b, B a b = true ↔ x b < x a)
    (k : ℕ) (hk : k ≤ n) (r : Fin n) :
    (rounds x k).2 r = if ∃ i : Fin n, i.val < k ∧ sortedFrom B i = r then 1 else 0 := by
  obtain ⟨i, rfl⟩ := sortedFrom_surjective B r
  rw [(rounds_eq x hx _ (sortedFrom_injective B) (sortedFrom_surjective B) (ahead_sorted x B hB) k hk i).2]
  refine if_congr ⟨fun h => ⟨i, h, rfl⟩, fun ⟨j, hj, e⟩ => ?_⟩ rfl rfl
  rw [← sortedFrom_injective B e]; exact hj

end Cert.Nsa
-- ==== Proof.Nsa.Hits.lean ====
/-
  The body's sixteen rounds, read at one column.
-/
module

public import proofs.«01_k».proof.Proof.Nsa.Rounds
public import proofs.«01_k».proof.Proof.Nsa.Pay

@[expose] public section

set_option maxRecDepth 16384

noncomputable section

namespace Cert.Nsa

open Cert.Kernel8Ideal Cert.Kernel8Ideal.Gen
open Idealize.ShloMosaic Idealize.ShloMosaic.TcCoe Idealize.ShloMosaic.Tactic

/-- Where a round hits. -/
def hits (w : FVec Ideal S128x256 .f32) : IVec S128x256 1 := k0_pay88 (k0_pay71 (F := Ideal)) w (k0_pay87 w)

/-- The scores after a round. -/
def vover (w : FVec Ideal S128x256 .f32) : FVec Ideal S128x256 .f32 := select (hits w) (broadcast S128x256 (Scalar.ofBits .f32 0xC0000000#32)) w

/-- The marks after a round. -/
def vmark (w t : FVec Ideal S128x256 .f32) : FVec Ideal S128x256 .f32 := select (hits w) (broadcast S128x256 (Scalar.ofBits .f32 0x3F800000#32)) t

/-- The scores and the marks after `k` rounds. -/
def vrounds (w : FVec Ideal S128x256 .f32) : ℕ → FVec Ideal S128x256 .f32 × FVec Ideal S128x256 .f32
  | 0 => (w, k0_pay86)
  | k + 1 => (vover (vrounds w k).1, vmark (vrounds w k).1 (vrounds w k).2)

theorem c128_val : Ideal.ofBits .f32 0x43000000#32 = ((128 : ℝ) : EReal) := by
  rw [show Ideal.ofBits .f32 0x43000000#32 = ((( (2 ^ 23 + 0 : ℕ) : ℝ) * (2 : ℝ) ^ ((134 : ℤ) - 127 - 23) : ℝ) : EReal) by
    simp [Ideal.ofBits, Ideal.ieee, -EReal.coe_mul]]
  norm_num

theorem top_word : Ideal.ofBits .f32 0x7F800000#32 = ⊤ := by simp [Ideal.ofBits, Ideal.ieee]

/-- The first row of the largest value is the smallest number among the rows that hold it. -/
theorem first_iff (w : Fin 128 → EReal) (r : Fin 128) :
    ((r.val : ℝ) : EReal) = Finset.fold min ⊤ (fun x : Fin 128 => if w x = top w then ((x.val : ℝ) : EReal) else ((128 : ℝ) : EReal)) Finset.univ ↔ picks w r := by
  have key : ∀ x : Fin 128, (((r.val : ℝ) : EReal) ≤ if w x = top w then ((x.val : ℝ) : EReal) else ((128 : ℝ) : EReal)) ↔ (w x = top w → r ≤ x) := fun x => by
    by_cases h : w x = top w
    · rw [if_pos h, EReal.coe_le_coe_iff, Nat.cast_le]; exact ⟨fun h' _ => h', fun h' => h' h⟩
    · rw [if_neg h, EReal.coe_le_coe_iff]
      exact ⟨fun _ h' => absurd h' h, fun _ => by exact_mod_cast (by omega : r.val ≤ 128)⟩
  constructor
  · intro h
    have hle := (Finset.le_fold_min (s := Finset.univ) _).mp h.le
    have hr : ∀ x, w x = top w → r ≤ x := fun x => (key x).mp (hle.2 x (Finset.mem_univ x))
    refine ⟨?_, fun r' hr' e => absurd (hr r' e) (not_le.mpr hr')⟩
    rcases (Finset.fold_min_le (s := Finset.univ) _).mp h.ge with h1 | ⟨x, -, hx⟩
    · exact absurd (top_le_iff.mp h1) (EReal.coe_ne_top _)
    · by_cases hw : w x = top w
      · rw [if_pos hw, EReal.coe_le_coe_iff, Nat.cast_le] at hx
        have : x = r := le_antisymm hx (hr x hw)
        rw [← this]; exact hw
      · rw [if_neg hw, EReal.coe_le_coe_iff] at hx
        have : 128 ≤ r.val := by exact_mod_cast hx
        omega
  · rintro ⟨h1, h2⟩
    refine le_antisymm ((Finset.le_fold_min (s := Finset.univ) _).mpr ⟨_root_.le_top, fun x _ => (key x).mpr fun hx => ?_⟩)
      ((Finset.fold_min_le (s := Finset.univ) _).mpr (Or.inr ⟨r, Finset.mem_univ r, by rw [if_pos h1]⟩))
    by_contra hlt
    exact h2 x (not_le.mp hlt) hx

theorem hits_at (w : FVec Ideal S128x256 .f32) (r : Fin 128) (c : Fin 256) : hits w (ix2 r c) = 1#1 ↔ picks (fun r => w (ix2 r c)) r := by
  unfold hits
  pointwise [k0_pay88, k0_pay87, k0_pay71]
  have hs : ∀ n : ℕ, n < 128 → (FloatOps.sitofp .f32 (BitVec.ofNat 32 n) : Ideal .f32) = ((n : ℝ) : EReal) := fun n hn => by
    rw [sitofp_eq, toInt_small (by omega)]; rfl
  simp only [hs _ (Fin.isLt _), c128_val, top_word, ofBits_bot]
  rw [← first_iff]
  unfold top
  by_cases h : ((r.val : ℝ) : EReal) = Finset.fold min ⊤ (fun x : Fin 128 => if w (ix2 x c) = Finset.fold max ⊥ (fun x => w (ix2 x c)) Finset.univ then ((x.val : ℝ) : EReal) else ((128 : ℝ) : EReal)) Finset.univ
  · exact ⟨fun _ => h, fun _ => by rw [decide_eq_true h]; rfl⟩
  · refine ⟨fun h' => ?_, fun h' => absurd h' h⟩
    rw [decide_eq_false h] at h'
    exact absurd h' (by decide)

theorem vover_at (v : FVec Ideal S128x256 .f32) (r : Fin 128) (c : Fin 256) :
    vover v (ix2 r c) = Scalar.select (hits v (ix2 r c)) (Ideal.ofBits .f32 0xC0000000#32) (v (ix2 r c)) := rfl

theorem vmark_at (v t : FVec Ideal S128x256 .f32) (r : Fin 128) (c : Fin 256) :
    vmark v t (ix2 r c) = Scalar.select (hits v (ix2 r c)) (Ideal.ofBits .f32 0x3F800000#32) (t (ix2 r c)) := rfl

theorem two_word : Ideal.ofBits .f32 0xC0000000#32 = -2 := by
  rw [show Ideal.ofBits .f32 0xC0000000#32 = ((-(( (2 ^ 23 + 0 : ℕ) : ℝ) * (2 : ℝ) ^ ((128 : ℤ) - 127 - 23)) : ℝ) : EReal) by
    simp [Ideal.ofBits, Ideal.ieee, -EReal.coe_mul]]
  rw [show (-(( (2 ^ 23 + 0 : ℕ) : ℝ) * (2 : ℝ) ^ ((128 : ℤ) - 127 - 23)) : ℝ) = -2 by norm_num]
  rfl

theorem select_iff {α : Type} {b : BitVec 1} {p : Prop} [Decidable p] (h : b = 1#1 ↔ p) (x y : α) : Scalar.select b x y = if p then x else y := by
  unfold Scalar.select
  exact if_congr h rfl rfl

theorem vrounds_succ (w : FVec Ideal S128x256 .f32) (k : ℕ) : vrounds w (k + 1) = (vover (vrounds w k).1, vmark (vrounds w k).1 (vrounds w k).2) := rfl

theorem vrounds_at (w : FVec Ideal S128x256 .f32) (k : ℕ) (c : Fin 256) (r : Fin 128) :
    (vrounds w k).1 (ix2 r c) = (rounds (fun r => w (ix2 r c)) k).1 r ∧ (vrounds w k).2 (ix2 r c) = (rounds (fun r => w (ix2 r c)) k).2 r := by
  induction k generalizing r with
  | zero => exact ⟨rfl, Ideal.ofBits_zero_f32⟩
  | succ k ih =>
    rw [vrounds_succ]
    generalize vrounds w k = v at ih
    have e : (fun r => v.1 (ix2 r c)) = (rounds (fun r => w (ix2 r c)) k).1 := funext fun r => (ih r).1
    have hh := hits_at v.1 r c
    rw [e] at hh
    classical
    constructor
    · dsimp only
      rw [vover_at, two_word, (ih r).1, select_iff hh]
      simp only [rounds, over]
    · dsimp only
      rw [vmark_at, Ideal.ofBits_one_f32, (ih r).2, select_iff hh]
      simp only [rounds, mark]

end Cert.Nsa
-- ==== Proof.Nsa.Stages.lean ====
/-
  The body's sixteen rounds as its text cuts them into pieces, and the tiles it stores of them.
-/
module

public import proofs.«01_k».proof.Proof.Nsa.Hits

@[expose] public section

set_option maxRecDepth 16384

noncomputable section

namespace Cert.Nsa

open Cert.Kernel8Ideal Cert.Kernel8Ideal.Gen
open Idealize.ShloMosaic Idealize.ShloMosaic.TcCoe Idealize.ShloMosaic.Tactic

/-- The number 128, which no row has. -/
abbrev noRow : Ideal .f32 := FloatOps.ofBits FTy.f32 0x43000000#32

/-- Where a column holds its largest value. -/
def eqs (w : FVec Ideal S128x256 .f32) : IVec S128x256 1 := cmpf .oeq w (broadcastTo S128x256 (k0_pay87 w) broadcasts_S1x256_S128x256)

/-- The rows that hold their column's largest value, 128 elsewhere. -/
def cands (w : FVec Ideal S128x256 .f32) : FVec Ideal S128x256 .f32 := select (eqs w) (k0_pay71 (F := Ideal)) (broadcast S128x256 noRow)

/-- The first of those rows. -/
def mins (w : FVec Ideal S128x256 .f32) : FVec Ideal S128x256 .f32 :=
  broadcastTo S128x256 (shapeCast S1x256 (multiReduction .minimumf [0] S256 (cands w) 0x7F800000#32 reduces_S128x256_S256 (.inl rfl) rfl) shapeCasts_S256_S1x256) broadcasts_S1x256_S128x256

theorem hits_mins (w : FVec Ideal S128x256 .f32) : hits w = cmpf .oeq (k0_pay71 (F := Ideal)) (mins w) := rfl

/-- One round on scores and marks. -/
abbrev vstep (p : FVec Ideal S128x256 .f32 × FVec Ideal S128x256 .f32) : FVec Ideal S128x256 .f32 × FVec Ideal S128x256 .f32 := (vover p.1, vmark p.1 p.2)

theorem first_scores (w : FVec Ideal S128x256 .f32) : k0_pay94 (k0_pay71 (F := Ideal)) w (k0_pay87 w) = vover (vover (vover w)) := rfl

theorem first_marks (w t : FVec Ideal S128x256 .f32) : k0_pay93 (k0_pay71 (F := Ideal)) w t (k0_pay87 w) = vmark (vover (vover w)) (vmark (vover w) (vmark w t)) := rfl

theorem first_eqs (w : FVec Ideal S128x256 .f32) : k0_pay95 (k0_pay71 (F := Ideal)) w (k0_pay87 w) = eqs (vover (vover (vover w))) := rfl

theorem second_scores (w : FVec Ideal S128x256 .f32) : k0_pay102 (k0_pay71 (F := Ideal)) w (eqs w) noRow = vover (vover (vover w)) := rfl

theorem second_marks (w t : FVec Ideal S128x256 .f32) : k0_pay101 (k0_pay71 (F := Ideal)) t w (eqs w) noRow = vmark (vover (vover w)) (vmark (vover w) (vmark w t)) := rfl

theorem second_cands (w : FVec Ideal S128x256 .f32) : k0_pay103 (k0_pay71 (F := Ideal)) w (eqs w) noRow = cands (vover (vover (vover w))) := rfl

theorem third_scores (w : FVec Ideal S128x256 .f32) : k0_pay110 (k0_pay71 (F := Ideal)) w (cands w) = vover (vover (vover w)) := rfl

theorem third_marks (w t : FVec Ideal S128x256 .f32) : k0_pay109 (k0_pay71 (F := Ideal)) t w (cands w) = vmark (vover (vover w)) (vmark (vover w) (vmark w t)) := rfl

theorem third_mins (w : FVec Ideal S128x256 .f32) : k0_pay111 (k0_pay71 (F := Ideal)) w (cands w) = mins (vover (vover (vover w))) := rfl

theorem fourth_scores (w : FVec Ideal S128x256 .f32) : k0_pay118 (k0_pay71 (F := Ideal)) w (mins w) = vover (vover (vover w)) := rfl

theorem fourth_marks (w t : FVec Ideal S128x256 .f32) : k0_pay117 (k0_pay71 (F := Ideal)) t w (mins w) = vmark (vover (vover w)) (vmark (vover w) (vmark w t)) := rfl

theorem fourth_hits (w : FVec Ideal S128x256 .f32) : k0_pay119 (k0_pay71 (F := Ideal)) w (mins w) = hits (vover (vover (vover w))) := rfl

theorem last_marks (w t : FVec Ideal S128x256 .f32) : k0_pay121 (k0_pay71 (F := Ideal)) t w (hits w) k0_pay120
    = vmark (vover (vover (vover w))) (vmark (vover (vover w)) (vmark (vover w) (vmark w t))) := rfl

theorem three (w : FVec Ideal S128x256 .f32) (k n : ℕ) (h : n = k + 3) :
    vrounds w n = (vover (vover (vover (vrounds w k).1)), vmark (vover (vover (vrounds w k).1)) (vmark (vover (vrounds w k).1) (vmark (vrounds w k).1 (vrounds w k).2))) := by
  subst h
  rw [show k + 3 = (k + 1) + 1 + 1 from rfl, vrounds_succ, vrounds_succ, vrounds_succ]

theorem last_four (w : FVec Ideal S128x256 .f32) (k n : ℕ) (h : n = k + 4) :
    (vrounds w n).2 = vmark (vover (vover (vover (vrounds w k).1))) (vmark (vover (vover (vrounds w k).1)) (vmark (vover (vrounds w k).1) (vmark (vrounds w k).1 (vrounds w k).2))) := by
  subst h
  rw [show k + 4 = (k + 3) + 1 from rfl, vrounds_succ, three w k _ rfl]

/-- The scores and the marks after six, nine and twelve rounds, as the text has them. -/
abbrev s3 (w : FVec Ideal S128x256 .f32) := k0_pay94 (k0_pay71 (F := Ideal)) w (k0_pay87 w)
abbrev m3 (w : FVec Ideal S128x256 .f32) := k0_pay93 (k0_pay71 (F := Ideal)) w k0_pay86 (k0_pay87 w)
abbrev e3 (w : FVec Ideal S128x256 .f32) := k0_pay95 (k0_pay71 (F := Ideal)) w (k0_pay87 w)
abbrev s6 (w : FVec Ideal S128x256 .f32) := k0_pay102 (k0_pay71 (F := Ideal)) (s3 w) (e3 w) noRow
abbrev m6 (w : FVec Ideal S128x256 .f32) := k0_pay101 (k0_pay71 (F := Ideal)) (m3 w) (s3 w) (e3 w) noRow
abbrev e6 (w : FVec Ideal S128x256 .f32) := k0_pay103 (k0_pay71 (F := Ideal)) (s3 w) (e3 w) noRow
abbrev s9 (w : FVec Ideal S128x256 .f32) := k0_pay110 (k0_pay71 (F := Ideal)) (s6 w) (e6 w)
abbrev m9 (w : FVec Ideal S128x256 .f32) := k0_pay109 (k0_pay71 (F := Ideal)) (m6 w) (s6 w) (e6 w)
abbrev e9 (w : FVec Ideal S128x256 .f32) := k0_pay111 (k0_pay71 (F := Ideal)) (s6 w) (e6 w)
abbrev s12 (w : FVec Ideal S128x256 .f32) := k0_pay118 (k0_pay71 (F := Ideal)) (s9 w) (e9 w)
abbrev m12 (w : FVec Ideal S128x256 .f32) := k0_pay117 (k0_pay71 (F := Ideal)) (m9 w) (s9 w) (e9 w)
abbrev e12 (w : FVec Ideal S128x256 .f32) := k0_pay119 (k0_pay71 (F := Ideal)) (s9 w) (e9 w)
abbrev m16 (w : FVec Ideal S128x256 .f32) := k0_pay121 (k0_pay71 (F := Ideal)) (m12 w) (s12 w) (e12 w) k0_pay120

theorem after3 (w : FVec Ideal S128x256 .f32) : vrounds w 3 = (s3 w, m3 w) := by
  rw [three w 0 3 rfl]
  exact congrArg₂ Prod.mk (first_scores w).symm (first_marks w _).symm

theorem after6 (w : FVec Ideal S128x256 .f32) : vrounds w 6 = (s6 w, m6 w) := by
  rw [three w 3 6 rfl, after3]
  have e : e3 w = eqs (s3 w) := (first_eqs w).trans (congrArg eqs (first_scores w).symm)
  unfold s6 m6
  rw [e]
  generalize s3 w = a
  generalize m3 w = b
  exact congrArg₂ Prod.mk (second_scores a).symm (second_marks a b).symm

theorem after9 (w : FVec Ideal S128x256 .f32) : vrounds w 9 = (s9 w, m9 w) := by
  rw [three w 6 9 rfl, after6]
  have e0 : e3 w = eqs (s3 w) := (first_eqs w).trans (congrArg eqs (first_scores w).symm)
  have e : e6 w = cands (s6 w) := by
    unfold e6 s6
    rw [e0]
    exact (second_cands _).trans (congrArg cands (second_scores _).symm)
  unfold s9 m9
  rw [e]
  generalize s6 w = a
  generalize m6 w = b
  exact congrArg₂ Prod.mk (third_scores a).symm (third_marks a b).symm

theorem e9_eq (w : FVec Ideal S128x256 .f32) : e9 w = mins (s9 w) := by
  have e0 : e3 w = eqs (s3 w) := (first_eqs w).trans (congrArg eqs (first_scores w).symm)
  have e : e6 w = cands (s6 w) := by
    unfold e6 s6
    rw [e0]
    exact (second_cands _).trans (congrArg cands (second_scores _).symm)
  unfold e9 s9
  rw [e]
  exact (third_mins _).trans (congrArg mins (third_scores _).symm)

theorem after12 (w : FVec Ideal S128x256 .f32) : vrounds w 12 = (s12 w, m12 w) := by
  rw [three w 9 12 rfl, after9]
  unfold s12 m12
  rw [e9_eq]
  generalize s9 w = a
  generalize m9 w = b
  exact congrArg₂ Prod.mk (fourth_scores a).symm (fourth_marks a b).symm

/-- What the text computes is the marks after sixteen rounds. -/
theorem m16_eq (w : FVec Ideal S128x256 .f32) : m16 w = (vrounds w 16).2 := by
  rw [last_four w 12 16 rfl, after12]
  have e : e12 w = hits (s12 w) := by
    unfold e12 s12
    rw [e9_eq]
    exact (fourth_hits _).trans (congrArg hits (fourth_scores _).symm)
  unfold m16
  rw [e]
  generalize s12 w = a
  generalize m12 w = b
  exact last_marks a b

/-- The lanes of a block of queries: the numbers of the blocks of keys. -/
abbrev lanes : IVec S128x128 32 := iota Kind.tc S128x128 32 [1] iota_S128x128_d1_w32

/-- The selection's two tiles. -/
abbrev selTiles (v6 : IVec S128x128 32) (w : FVec Ideal S128x256 .f32) : List (View.Piece (Elt Ideal) S128x256 .bf16) :=
  [⟨Rect.unit ![0, 128] ![128, 128] inb_S128x256_S128x128_0_128, k0_pay127 lanes v6 (m16 w)⟩,
   ⟨Rect.unit ![0, 0] ![128, 128] inb_S128x256_S128x128_0_0, k0_pay124 lanes v6 (k0_pay122 (k0_pay71 (F := Ideal)) (m12 w) (s12 w) (e12 w) k0_pay120)⟩]

/-- The union's two tiles. -/
abbrev unTiles (v6 : IVec S128x128 32) (w : FVec Ideal S128x256 .f32) : List (View.Piece (Elt Ideal) S8x256 .f32) :=
  [⟨Rect.unit ![0, 128] ![8, 128] inb_S8x256_S8x128_0_128, k0_pay128 lanes v6 (m16 w)⟩,
   ⟨Rect.unit ![0, 0] ![8, 128] inb_S8x256_S8x128_0_0, k0_pay125 lanes v6 (k0_pay122 (k0_pay71 (F := Ideal)) (m12 w) (s12 w) (e12 w) k0_pay120)⟩]

/-- Whether a query selects a block: it has a mark, and it is not past the query's own block. -/
def chosen (v6 : IVec S128x128 32) (M : FVec Ideal S128x256 .f32) (a : Fin 128) (b : Fin 256) : EReal :=
  Scalar.select (IntOp.cmpi .sle (BitVec.ofNat 32 (b.val % 128)) (v6 (ix2 a ⟨b.val % 128, by omega⟩))) (M (ix2 ⟨b.val % 128, by omega⟩ ⟨b.val / 128 * 128 + a.val, by omega⟩)) 0

/-- What the body selects, of the marks of one group. -/
theorem pay127_at (v6 : IVec S128x128 32) (M : FVec Ideal S128x256 .f32) (a l : Fin 128) :
    k0_pay126 lanes v6 M (ix2 a l) = Scalar.select (IntOp.cmpi .sle (BitVec.ofNat 32 l.val) (v6 (ix2 a l))) (M (ix2 l ⟨128 + a.val, by omega⟩)) 0 := by
  pointwise [k0_pay126]

theorem pay122_at (w : FVec Ideal S128x256 .f32) (a l : Fin 128) :
    k0_pay122 (k0_pay71 (F := Ideal)) (m12 w) (s12 w) (e12 w) k0_pay120 (ix2 a l) = (vrounds w 16).2 (ix2 l ⟨a.val, by omega⟩) := by
  have h : k0_pay121 (k0_pay71 (F := Ideal)) (m12 w) (s12 w) (e12 w) k0_pay120 = (vrounds w 16).2 := m16_eq w
  unfold k0_pay122
  rw [h]
  generalize (vrounds w 16).2 = M
  pointwise []

theorem pay123_at (v6 : IVec S128x128 32) (T : FVec Ideal S128x128 .f32) (a l : Fin 128) :
    k0_pay123 lanes v6 T (ix2 a l) = Scalar.select (IntOp.cmpi .sle (BitVec.ofNat 32 l.val) (v6 (ix2 a l))) (T (ix2 a l)) 0 := by
  pointwise [k0_pay123]

theorem chosen_eq (v6 : IVec S128x128 32) (M : FVec Ideal S128x256 .f32) (a l : Fin 128) (b : Fin 256) (k : Fin 256) (hl : l.val = b.val % 128) (hk : k.val = b.val / 128 * 128 + a.val) :
    (Scalar.select (IntOp.cmpi .sle (BitVec.ofNat 32 l.val) (v6 (ix2 a l))) (M (ix2 l k)) 0 : EReal) = chosen v6 M a b := by
  have e : l = ⟨b.val % 128, by omega⟩ := Fin.ext hl
  have e' : k = ⟨b.val / 128 * 128 + a.val, by omega⟩ := Fin.ext hk
  rw [e, e']; rfl

theorem selTiles_at (v6 : IVec S128x128 32) (w : FVec Ideal S128x256 .f32) (a : Fin 128) (b : Fin 256) :
    View.canon (selTiles v6 w) (ix2 a b) = chosen v6 (vrounds w 16).2 a b := by
  have h1 : ∀ a l, k0_pay127 lanes v6 (m16 w) (ix2 a l) = _ := fun a l =>
    (pay127_at v6 (m16 w) a l).trans (congrArg (fun M : FVec Ideal S128x256 .f32 => (Scalar.select _ (M _) 0 : EReal)) (m16_eq w))
  have h0 : ∀ a l, k0_pay124 lanes v6 (k0_pay122 (k0_pay71 (F := Ideal)) (m12 w) (s12 w) (e12 w) k0_pay120) (ix2 a l) = _ := fun a l =>
    (pay123_at v6 _ a l).trans (congrArg (fun z => (Scalar.select _ z 0 : EReal)) (pay122_at w a l))
  unfold selTiles
  generalize k0_pay127 lanes v6 (m16 w) = P1 at h1 ⊢
  generalize k0_pay124 lanes v6 (k0_pay122 (k0_pay71 (F := Ideal)) (m12 w) (s12 w) (e12 w) k0_pay120) = P0 at h0 ⊢
  generalize (vrounds w 16).2 = M at *
  canon_tiles x q
  all_goals idx_vars x
  · refine (h1 _ _).trans ?_
    obtain rfl : a = x0 := Fin.ext (by omega)
    exact chosen_eq v6 M _ _ b _ (by omega) (by dsimp only; omega)
  · refine (h0 _ _).trans ?_
    obtain rfl : a = x0 := Fin.ext (by omega)
    exact chosen_eq v6 M _ _ b _ (by omega) (by dsimp only; omega)

theorem unTiles_at (v6 : IVec S128x128 32) (w : FVec Ideal S128x256 .f32) (a : Fin 8) (b : Fin 256) :
    View.canon (unTiles v6 w) (ix2 a b) = top (fun i => chosen v6 (vrounds w 16).2 i b) := by
  have h1 : ∀ (a : Fin 8) (l : Fin 128), k0_pay128 lanes v6 (m16 w) (ix2 a l) = top (fun i => k0_pay126 lanes v6 (m16 w) (ix2 i l)) := fun a l => by
    unfold k0_pay128
    generalize k0_pay126 lanes v6 (m16 w) = P
    pointwise [top, ofBits_bot]
  have h0 : ∀ (a : Fin 8) (l : Fin 128), k0_pay125 lanes v6 (k0_pay122 (k0_pay71 (F := Ideal)) (m12 w) (s12 w) (e12 w) k0_pay120) (ix2 a l)
      = top (fun i => k0_pay123 lanes v6 (k0_pay122 (k0_pay71 (F := Ideal)) (m12 w) (s12 w) (e12 w) k0_pay120) (ix2 i l)) := fun a l => by
    unfold k0_pay125
    generalize k0_pay123 lanes v6 (k0_pay122 (k0_pay71 (F := Ideal)) (m12 w) (s12 w) (e12 w) k0_pay120) = P
    pointwise [top, ofBits_bot]
  replace h1 : ∀ (a : Fin 8) (l : Fin 128), k0_pay128 lanes v6 (m16 w) (ix2 a l) = _ := fun a l => (h1 a l).trans
    (congrArg top (funext fun i => (pay127_at v6 (m16 w) i l).trans (congrArg (fun M : FVec Ideal S128x256 .f32 => (Scalar.select _ (M _) 0 : EReal)) (m16_eq w))))
  replace h0 : ∀ (a : Fin 8) (l : Fin 128), k0_pay125 lanes v6 (k0_pay122 (k0_pay71 (F := Ideal)) (m12 w) (s12 w) (e12 w) k0_pay120) (ix2 a l) = _ := fun a l => (h0 a l).trans
    (congrArg top (funext fun i => (pay123_at v6 _ i l).trans (congrArg (fun z => (Scalar.select _ z 0 : EReal)) (pay122_at w i l))))
  unfold unTiles
  generalize k0_pay128 lanes v6 (m16 w) = P1 at h1 ⊢
  generalize k0_pay125 lanes v6 (k0_pay122 (k0_pay71 (F := Ideal)) (m12 w) (s12 w) (e12 w) k0_pay120) = P0 at h0 ⊢
  generalize (vrounds w 16).2 = M at *
  canon_tiles x q
  all_goals idx_vars x
  · refine (h1 _ _).trans (congrArg top (funext fun i => ?_))
    exact chosen_eq v6 M _ _ b _ (by omega) (by dsimp only; omega)
  · refine (h0 _ _).trans (congrArg top (funext fun i => ?_))
    exact chosen_eq v6 M _ _ b _ (by omega) (by dsimp only; omega)

end Cert.Nsa
-- ==== Proof.Nsa.Score.lean ====
/-
  What the body scores the blocks of keys with: for each query, block and group, the weights of the group's four heads,
  summed over the keys the block overlaps.
-/
module

public import proofs.«01_k».proof.Proof.Nsa.Pay
public import proofs.«01_k».proof.Proof.Nsa.Stages

@[expose] public section

set_option maxRecDepth 16384

noncomputable section

namespace Cert.Nsa

open Cert.Kernel8Ideal Cert.Kernel8Ideal.Gen
open Idealize.ShloMosaic Idealize.ShloMosaic.TcCoe Idealize.ShloMosaic.Tactic

/-- The kernel's weight of one key. -/
def kwt {n : ℕ} (s : Fin n → EReal) (c : Fin n) : EReal :=
  Ideal.exp (s c - top s) * (if ⊥ < top s then Ideal.div 1 (max (∑ c, Ideal.exp (s c - top s)) eps) else 0)

/-- The reference's weight of one key. -/
def rwt {n : ℕ} (k : Fin n → Prop) [DecidablePred k] (s : Fin n → EReal) (c : Fin n) : EReal :=
  Ideal.div (if k c then Ideal.exp ((if k c then s c else ⊥) - top (fun c => if k c then s c else ⊥)) else 0)
    (max (∑ c, if k c then Ideal.exp ((if k c then s c else ⊥) - top (fun c => if k c then s c else ⊥)) else 0) eps)

/-- An average of a key's mark is the key's weight. -/
theorem avg_mark {n : ℕ} (s : Fin n → EReal) (c : Fin n) : avg s (fun d => if d = c then 1 else 0) = kwt s c := by
  unfold avg kwt
  rw [Finset.sum_eq_single c (fun d _ hd => by dsimp only; rw [if_neg hd, mul_zero]) (fun h => absurd (Finset.mem_univ c) h)]
  dsimp only
  rw [if_pos rfl, mul_one]

theorem ravg_mark {n : ℕ} (k : Fin n → Prop) [DecidablePred k] (s : Fin n → EReal) (c : Fin n) : ravg k s (fun d => if d = c then 1 else 0) = rwt k s c := by
  unfold ravg rwt
  rw [Finset.sum_eq_single c (fun d _ hd => by dsimp only; rw [if_neg hd, zero_mul]) (fun h => absurd (Finset.mem_univ c) h)]
  dsimp only
  rw [if_pos rfl, one_mul]

theorem rwt_hidden {n : ℕ} (k : Fin n → Prop) [DecidablePred k] (s : Fin n → EReal) (c : Fin n) (h : ¬ k c) : rwt k s c = 0 := by
  unfold rwt
  rw [if_neg h, Ideal.zero_div (den_ne _)]

theorem exp_unit (x : EReal) (h : x ≤ 0) : ∃ r : ℝ, 0 ≤ r ∧ Ideal.exp x = r := by
  induction x with
  | bot => exact ⟨0, le_rfl, rfl⟩
  | coe x => exact ⟨Real.exp x, (Real.exp_pos x).le, rfl⟩
  | top => exact absurd h (by simp)

theorem sub_top_le {n : ℕ} (s : Fin n → EReal) (c : Fin n) : s c - top s ≤ 0 := by
  have h := le_top s c
  generalize s c = x at *
  generalize top s = y at *
  induction x <;> induction y <;> simp_all
  norm_cast
  linarith

theorem sum_real {n : ℕ} (f : Fin n → EReal) (hf : ∀ c, ∃ r : ℝ, 0 ≤ r ∧ f c = r) : ∃ r : ℝ, 0 ≤ r ∧ ∑ c, f c = r := by
  choose g hg using hf
  refine ⟨∑ c, g c, Finset.sum_nonneg fun c _ => (hg c).1, ?_⟩
  rw [Finset.sum_congr rfl fun c _ => (hg c).2]
  exact (map_sum (⟨⟨fun x : ℝ => (x : EReal), rfl⟩, fun x y => rfl⟩ : ℝ →+ EReal) g Finset.univ).symm

theorem eps_real : ∃ e : ℝ, 0 < e ∧ eps = e := by
  refine ⟨((2 ^ 23 + 2245216 : ℕ) : ℝ) * (2 : ℝ) ^ ((27 : ℤ) - 127 - 23), by positivity, ?_⟩
  simp [eps, Ideal.ofBits, Ideal.ieee, -EReal.coe_mul]

/-- A weight is a real number that is not negative. -/
theorem kwt_real {n : ℕ} (s : Fin n → EReal) (c : Fin n) : ∃ r : ℝ, 0 ≤ r ∧ kwt s c = r := by
  obtain ⟨a, ha, hae⟩ := exp_unit _ (sub_top_le s c)
  obtain ⟨d, hd, hde⟩ := sum_real (fun c => Ideal.exp (s c - top s)) fun c => exp_unit _ (sub_top_le s c)
  obtain ⟨e, he, hee⟩ := eps_real
  unfold kwt
  rw [hae, hde, hee]
  by_cases h : ⊥ < top s
  · rw [if_pos h, show (max (d : EReal) (e : EReal)) = ((max d e : ℝ) : EReal) from (EReal.coe_strictMono.monotone.map_max (a := d) (b := e)).symm]
    have hm : 0 < max d e := lt_of_lt_of_le he (le_max_right d e)
    refine ⟨a * (1 / max d e), by positivity, ?_⟩
    rw [Ideal.div_coe hm.ne']
    norm_cast
    rw [one_mul]
  · rw [if_neg h]
    exact ⟨0, le_rfl, by simp⟩

/-- The score of one block, from the words of the block and of the query's own block. -/
def bscore {n : ℕ} (x y : BitVec 32) (P O : Fin n → EReal) : EReal :=
  Scalar.select (IntOp.ori (IntOp.ori (IntOp.cmpi .eq x 0#32) (IntOp.cmpi .eq x y)) (IntOp.cmpi .eq x (IntOp.subi y 1#32))) (Ideal.ofBits .f32 0x461C4000#32)
    (Scalar.select (IntOp.cmpi .sle x y) (∑ c, P c * O c + ∑ c, (P c - P c) * O c + ∑ c, (P c - P c - (P c - P c)) * O c) (Ideal.ofBits .f32 0xBF800000#32))

/-- The sum of four rows of weights. -/
def four {n : ℕ} (W : Fin 512 → Fin n → EReal) (a : Fin 128) (c : Fin n) : EReal :=
  W ⟨a.val, by omega⟩ c + W ⟨128 + a.val, by omega⟩ c + W ⟨256 + a.val, by omega⟩ c + W ⟨384 + a.val, by omega⟩ c

section
variable (T : ℕ) (hT : T + 128 ≤ 8192) (q : Vec Ideal S128x1024 .bf16) (kc : Vec Ideal S1x128x128 .bf16) (cx : Vec Ideal S128x128 .bf16) (qa : Vec Ideal S1x512x128 .bf16)

include hT

theorem weight0A (i : Fin 512) (c : Fin 128) :
    k0_pay10 (F := Ideal) (k0_pay7 (BitVec.ofNat 32 T) q kc cx qa) (k0_pay8 (BitVec.ofNat 32 T) q kc cx qa) (k0_pay9 (BitVec.ofNat 32 T) q kc cx qa) (ix2 i c)
      = kwt (kscore 0 (by omega) T q (fun c k => kc (ix3 0 c k)) (fun c k => cx (ix2 c k)) qa i) c := by
  have hs : ∀ c, _ := scoreA T hT q kc cx qa i
  generalize hS : k0_pay5 (F := Ideal) (BitVec.ofNat 32 T) q kc cx qa = S at hs
  pointwise [k0_pay7, k0_pay8, k0_pay9, k0_pay10, k0_pay6]
  simp only [hS, hs, half_val, ofBits_bot]
  rfl

theorem weight1A (i : Fin 512) (c : Fin 128) :
    k0_pay16 (F := Ideal) q (k0_pay2 kc cx) (k0_pay4 (BitVec.ofNat 32 T)) qa (ix2 i c)
      = kwt (kscore 512 (by omega) T q (fun c k => kc (ix3 0 c k)) (fun c k => cx (ix2 c k)) qa i) c := by
  have hb := fun c => biasA T hT i c
  generalize k0_pay4 (F := Ideal) (BitVec.ofNat 32 T) = B at hb ⊢
  unfold k0_pay16
  dsimp only
  generalize hS : addf (F := Ideal) _ B = S
  have hs : ∀ c, S (ix2 i c) = kscore 512 (by omega) T q (fun c k => kc (ix3 0 c k)) (fun c k => cx (ix2 c k)) qa i c := fun c => by
    rw [← hS]
    pointwise [k0_pay2]
    rw [hb]
    exact congrArg₂ (· + ·) (congrArg₂ (· + ·) (Finset.sum_congr rfl fun x _ => congrArg (· * kc (ix3 0 c x)) (heads1 q i x)) rfl) rfl
  pointwise []
  simp only [hs, half_val, ofBits_bot]
  rfl

end

theorem blocks0A (v6 : IVec S128x128 32) (v407 : FVec Ideal S512x128 .f32) (v409 : IVec S512x1 1) (v410 : FVec Ideal S512 .f32) (ov : Vec Ideal S128x128 .bf16) (j a : Fin 128) :
    k0_pay15 (F := Ideal) (k0_pay12 v407 v409 v410 ov) (k0_pay13 lanes v6) (k0_pay14 lanes v6) (FloatOps.ofBits FTy.f32 0xBF800000#32) (ix2 j a)
      = bscore (BitVec.ofNat 32 j.val) (v6 (ix2 a j)) (four (fun i c => k0_pay10 (F := Ideal) v407 v409 v410 (ix2 i c)) a) (fun c => ov (ix2 c j)) := by
  unfold k0_pay12
  generalize k0_pay10 (F := Ideal) v407 v409 v410 = W
  pointwise [k0_pay15, k0_pay13, k0_pay14, bscore, four]

theorem blocks1A (v6 : IVec S128x128 32) (q : Vec Ideal S128x1024 .bf16) (kk : FVec Ideal S128x256 .bf16) (B : FVec Ideal S512x128 .f32) (qa : Vec Ideal S1x512x128 .bf16) (ov : Vec Ideal S128x128 .bf16) (j a : Fin 128) :
    k0_pay72 (F := Ideal) lanes v6 (k0_pay16 q kk B qa) (k0_pay18 q kk B qa) ov (ix2 j a)
      = bscore (BitVec.ofNat 32 j.val) (v6 (ix2 a j)) (four (fun i c => k0_pay16 (F := Ideal) q kk B qa (ix2 i c)) a) (fun c => ov (ix2 c j)) := by
  unfold k0_pay18
  generalize k0_pay16 (F := Ideal) q kk B qa = W
  pointwise [k0_pay72, bscore, four]

section
variable (T : ℕ) (hT : T + 128 ≤ 8192) (q : Vec Ideal S128x1024 .bf16) (kc : Vec Ideal S1x256x128 .bf16) (cx : Vec Ideal S256x128 .bf16) (qa : Vec Ideal S1x512x128 .bf16)

include hT

theorem weight0B (i : Fin 512) (c : Fin 256) :
    k0_pay27 (F := Ideal) (k0_pay24 (BitVec.ofNat 32 T) q kc cx qa) (k0_pay25 (BitVec.ofNat 32 T) q kc cx qa) (k0_pay26 (BitVec.ofNat 32 T) q kc cx qa) (ix2 i c)
      = kwt (kscore 0 (by omega) T q (fun c k => kc (ix3 0 c k)) (fun c k => cx (ix2 c k)) qa i) c := by
  have hs : ∀ c, _ := scoreB T hT q kc cx qa i
  generalize hS : k0_pay22 (F := Ideal) (BitVec.ofNat 32 T) q kc cx qa = S at hs
  pointwise [k0_pay24, k0_pay25, k0_pay26, k0_pay27, k0_pay23]
  simp only [hS, hs, half_val, ofBits_bot]
  rfl

theorem weight1B (i : Fin 512) (c : Fin 256) :
    k0_pay33 (F := Ideal) q (k0_pay19 kc cx) (k0_pay21 (BitVec.ofNat 32 T)) qa (ix2 i c)
      = kwt (kscore 512 (by omega) T q (fun c k => kc (ix3 0 c k)) (fun c k => cx (ix2 c k)) qa i) c := by
  have hb := fun c => biasB T hT i c
  generalize k0_pay21 (F := Ideal) (BitVec.ofNat 32 T) = B at hb ⊢
  unfold k0_pay33
  dsimp only
  generalize hS : addf (F := Ideal) _ B = S
  have hs : ∀ c, S (ix2 i c) = kscore 512 (by omega) T q (fun c k => kc (ix3 0 c k)) (fun c k => cx (ix2 c k)) qa i c := fun c => by
    rw [← hS]
    pointwise [k0_pay19]
    rw [hb]
    exact congrArg₂ (· + ·) (congrArg₂ (· + ·) (Finset.sum_congr rfl fun x _ => congrArg (· * kc (ix3 0 c x)) (heads1 q i x)) rfl) rfl
  pointwise []
  simp only [hs, half_val, ofBits_bot]
  rfl

end

theorem blocks0B (v6 : IVec S128x128 32) (v407 : FVec Ideal S512x256 .f32) (v409 : IVec S512x1 1) (v410 : FVec Ideal S512 .f32) (ov : Vec Ideal S256x128 .bf16) (j a : Fin 128) :
    k0_pay32 (F := Ideal) (k0_pay29 v407 v409 v410 ov) (k0_pay30 lanes v6) (k0_pay31 lanes v6) (FloatOps.ofBits FTy.f32 0xBF800000#32) (ix2 j a)
      = bscore (BitVec.ofNat 32 j.val) (v6 (ix2 a j)) (four (fun i c => k0_pay27 (F := Ideal) v407 v409 v410 (ix2 i c)) a) (fun c => ov (ix2 c j)) := by
  unfold k0_pay29
  generalize k0_pay27 (F := Ideal) v407 v409 v410 = W
  pointwise [k0_pay32, k0_pay30, k0_pay31, bscore, four]

theorem blocks1B (v6 : IVec S128x128 32) (q : Vec Ideal S128x1024 .bf16) (kk : FVec Ideal S256x256 .bf16) (B : FVec Ideal S512x256 .f32) (qa : Vec Ideal S1x512x128 .bf16) (ov : Vec Ideal S256x128 .bf16) (j a : Fin 128) :
    k0_pay73 (F := Ideal) lanes v6 (k0_pay33 q kk B qa) (k0_pay35 q kk B qa) ov (ix2 j a)
      = bscore (BitVec.ofNat 32 j.val) (v6 (ix2 a j)) (four (fun i c => k0_pay33 (F := Ideal) q kk B qa (ix2 i c)) a) (fun c => ov (ix2 c j)) := by
  unfold k0_pay35
  generalize k0_pay33 (F := Ideal) q kk B qa = W
  pointwise [k0_pay73, bscore, four]

section
variable (T : ℕ) (hT : T + 128 ≤ 8192) (q : Vec Ideal S128x1024 .bf16) (kc : Vec Ideal S1x384x128 .bf16) (cx : Vec Ideal S384x128 .bf16) (qa : Vec Ideal S1x512x128 .bf16)

include hT

theorem weight0C (i : Fin 512) (c : Fin 384) :
    k0_pay44 (F := Ideal) (k0_pay41 (BitVec.ofNat 32 T) q kc cx qa) (k0_pay42 (BitVec.ofNat 32 T) q kc cx qa) (k0_pay43 (BitVec.ofNat 32 T) q kc cx qa) (ix2 i c)
      = kwt (kscore 0 (by omega) T q (fun c k => kc (ix3 0 c k)) (fun c k => cx (ix2 c k)) qa i) c := by
  have hs : ∀ c, _ := scoreC T hT q kc cx qa i
  generalize hS : k0_pay39 (F := Ideal) (BitVec.ofNat 32 T) q kc cx qa = S at hs
  pointwise [k0_pay41, k0_pay42, k0_pay43, k0_pay44, k0_pay40]
  simp only [hS, hs, half_val, ofBits_bot]
  rfl

theorem weight1C (i : Fin 512) (c : Fin 384) :
    k0_pay50 (F := Ideal) q (k0_pay36 kc cx) (k0_pay38 (BitVec.ofNat 32 T)) qa (ix2 i c)
      = kwt (kscore 512 (by omega) T q (fun c k => kc (ix3 0 c k)) (fun c k => cx (ix2 c k)) qa i) c := by
  have hb := fun c => biasC T hT i c
  generalize k0_pay38 (F := Ideal) (BitVec.ofNat 32 T) = B at hb ⊢
  unfold k0_pay50
  dsimp only
  generalize hS : addf (F := Ideal) _ B = S
  have hs : ∀ c, S (ix2 i c) = kscore 512 (by omega) T q (fun c k => kc (ix3 0 c k)) (fun c k => cx (ix2 c k)) qa i c := fun c => by
    rw [← hS]
    pointwise [k0_pay36]
    rw [hb]
    exact congrArg₂ (· + ·) (congrArg₂ (· + ·) (Finset.sum_congr rfl fun x _ => congrArg (· * kc (ix3 0 c x)) (heads1 q i x)) rfl) rfl
  pointwise []
  simp only [hs, half_val, ofBits_bot]
  rfl

end

theorem blocks0C (v6 : IVec S128x128 32) (v407 : FVec Ideal S512x384 .f32) (v409 : IVec S512x1 1) (v410 : FVec Ideal S512 .f32) (ov : Vec Ideal S384x128 .bf16) (j a : Fin 128) :
    k0_pay49 (F := Ideal) (k0_pay46 v407 v409 v410 ov) (k0_pay47 lanes v6) (k0_pay48 lanes v6) (FloatOps.ofBits FTy.f32 0xBF800000#32) (ix2 j a)
      = bscore (BitVec.ofNat 32 j.val) (v6 (ix2 a j)) (four (fun i c => k0_pay44 (F := Ideal) v407 v409 v410 (ix2 i c)) a) (fun c => ov (ix2 c j)) := by
  unfold k0_pay46
  generalize k0_pay44 (F := Ideal) v407 v409 v410 = W
  pointwise [k0_pay49, k0_pay47, k0_pay48, bscore, four]

theorem blocks1C (v6 : IVec S128x128 32) (q : Vec Ideal S128x1024 .bf16) (kk : FVec Ideal S384x256 .bf16) (B : FVec Ideal S512x384 .f32) (qa : Vec Ideal S1x512x128 .bf16) (ov : Vec Ideal S384x128 .bf16) (j a : Fin 128) :
    k0_pay74 (F := Ideal) lanes v6 (k0_pay50 q kk B qa) (k0_pay52 q kk B qa) ov (ix2 j a)
      = bscore (BitVec.ofNat 32 j.val) (v6 (ix2 a j)) (four (fun i c => k0_pay50 (F := Ideal) q kk B qa (ix2 i c)) a) (fun c => ov (ix2 c j)) := by
  unfold k0_pay52
  generalize k0_pay50 (F := Ideal) q kk B qa = W
  pointwise [k0_pay74, bscore, four]

section
variable (T : ℕ) (hT : T + 128 ≤ 8192) (q : Vec Ideal S128x1024 .bf16) (kc : Vec Ideal S1x512x128 .bf16) (cx : Vec Ideal S512x128 .bf16) (qa : Vec Ideal S1x512x128 .bf16)

include hT

theorem weight0D (i : Fin 512) (c : Fin 512) :
    k0_pay61 (F := Ideal) (k0_pay58 (BitVec.ofNat 32 T) q kc cx qa) (k0_pay59 (BitVec.ofNat 32 T) q kc cx qa) (k0_pay60 (BitVec.ofNat 32 T) q kc cx qa) (ix2 i c)
      = kwt (kscore 0 (by omega) T q (fun c k => kc (ix3 0 c k)) (fun c k => cx (ix2 c k)) qa i) c := by
  have hs : ∀ c, _ := scoreD T hT q kc cx qa i
  generalize hS : k0_pay56 (F := Ideal) (BitVec.ofNat 32 T) q kc cx qa = S at hs
  pointwise [k0_pay58, k0_pay59, k0_pay60, k0_pay61, k0_pay57]
  simp only [hS, hs, half_val, ofBits_bot]
  rfl

theorem weight1D (i : Fin 512) (c : Fin 512) :
    k0_pay67 (F := Ideal) q (k0_pay53 kc cx) (k0_pay55 (BitVec.ofNat 32 T)) qa (ix2 i c)
      = kwt (kscore 512 (by omega) T q (fun c k => kc (ix3 0 c k)) (fun c k => cx (ix2 c k)) qa i) c := by
  have hb := fun c => biasD T hT i c
  generalize k0_pay55 (F := Ideal) (BitVec.ofNat 32 T) = B at hb ⊢
  unfold k0_pay67
  dsimp only
  generalize hS : addf (F := Ideal) _ B = S
  have hs : ∀ c, S (ix2 i c) = kscore 512 (by omega) T q (fun c k => kc (ix3 0 c k)) (fun c k => cx (ix2 c k)) qa i c := fun c => by
    rw [← hS]
    pointwise [k0_pay53]
    rw [hb]
    exact congrArg₂ (· + ·) (congrArg₂ (· + ·) (Finset.sum_congr rfl fun x _ => congrArg (· * kc (ix3 0 c x)) (heads1 q i x)) rfl) rfl
  pointwise []
  simp only [hs, half_val, ofBits_bot]
  rfl

end

theorem blocks0D (v6 : IVec S128x128 32) (v407 : FVec Ideal S512x512 .f32) (v409 : IVec S512x1 1) (v410 : FVec Ideal S512 .f32) (ov : Vec Ideal S512x128 .bf16) (j a : Fin 128) :
    k0_pay66 (F := Ideal) (k0_pay63 v407 v409 v410 ov) (k0_pay64 lanes v6) (k0_pay65 lanes v6) (FloatOps.ofBits FTy.f32 0xBF800000#32) (ix2 j a)
      = bscore (BitVec.ofNat 32 j.val) (v6 (ix2 a j)) (four (fun i c => k0_pay61 (F := Ideal) v407 v409 v410 (ix2 i c)) a) (fun c => ov (ix2 c j)) := by
  unfold k0_pay63
  generalize k0_pay61 (F := Ideal) v407 v409 v410 = W
  pointwise [k0_pay66, k0_pay64, k0_pay65, bscore, four]

theorem blocks1D (v6 : IVec S128x128 32) (q : Vec Ideal S128x1024 .bf16) (kk : FVec Ideal S512x256 .bf16) (B : FVec Ideal S512x512 .f32) (qa : Vec Ideal S1x512x128 .bf16) (ov : Vec Ideal S512x128 .bf16) (j a : Fin 128) :
    k0_pay75 (F := Ideal) lanes v6 (k0_pay67 q kk B qa) (k0_pay69 q kk B qa) ov (ix2 j a)
      = bscore (BitVec.ofNat 32 j.val) (v6 (ix2 a j)) (four (fun i c => k0_pay67 (F := Ideal) q kk B qa (ix2 i c)) a) (fun c => ov (ix2 c j)) := by
  unfold k0_pay69
  generalize k0_pay67 (F := Ideal) q kk B qa = W
  pointwise [k0_pay75, bscore, four]

end Cert.Nsa
-- ==== Proof.Nsa.Pick.lean ====
/-
  The reference's selection: the sixteen blocks of the largest score, read at one query, one group and one block.
-/
module

public import proofs.«01_k».proof.Proof.Nsa.Score
public import Idealize.ShloMosaic.Lib.SortFacts

@[expose] public section

set_option maxRecDepth 16384

noncomputable section

open Idealize.ShloMosaic Idealize.ShloMosaic.TcCoe Idealize.SL.Sem

namespace Cert.Nsa

open Cert.Reference8Ideal Cert.Reference8Ideal.Gen Cert.Reference8Ideal.Read

variable (x0 : FVec Ideal S32768x1024 .bf16) (x1 : FVec Ideal S4x512x256 .bf16)

/-- Whether a key reaches into a block, as a number. -/
def ovl (c : Fin 512) (j : Fin 128) : EReal := val_main_v90 (F := Ideal) (ix2 c j)

theorem ovl_bit (c : Fin 512) (j : Fin 128) : ovl c j = 0 ∨ ovl c j = 1 := by
  have h : ovl c j = (((val_main_v89 (F := Ideal) (ix2 c j)).toNat : ℝ) : EReal) := rfl
  rw [h]
  generalize val_main_v89 (F := Ideal) (ix2 c j) = w
  have : w.toNat < 2 := w.isLt
  rcases (by omega : w.toNat = 0 ∨ w.toNat = 1) with e | e <;> rw [e]
  · exact Or.inl (by norm_num)
  · exact Or.inr (by norm_num)

/-- The importance of one block. -/
def rimp (b : Fin 4) (g : Fin 2) (t : Fin 8192) (j : Fin 128) : EReal :=
  ∑ c : Fin 512, (∑ r : Fin 4, rwt (sees t) (rscore x0 x1 b g r t) c) * ovl c j

theorem ref_imp (b : Fin 4) (g : Fin 2) (t : Fin 8192) (j : Fin 128) : val_main_v92 (F := Ideal) x0 x1 (ix4 b g t j) = rimp x0 x1 b g t j := by
  pointwise [val_main_v92, val_main_v91, val_main_cst_17]
  simp only [ref_weight]
  rfl

/-- The score of a block of importance `I`, from the words of the block and of the query's own block. -/
def iscore (x y : BitVec 32) (I : EReal) : EReal :=
  Scalar.select (IntOp.ori (IntOp.ori (IntOp.cmpi .eq x 0#32) (IntOp.cmpi .eq x y)) (IntOp.cmpi .eq x (IntOp.subi y 1#32))) (Ideal.ofBits .f32 0x461C4000#32)
    (Scalar.select (IntOp.cmpi .sle x y) I (Ideal.ofBits .f32 0xBF800000#32))

/-- The query's own block. -/
theorem own_block (t : Fin 8192) : IntOp.divsi .host (BitVec.ofNat 32 t.val) 64#32 = BitVec.ofNat 32 (t.val / 64) := by
  revert t; decide +kernel

theorem ref_pscore (b : Fin 4) (g : Fin 2) (t : Fin 8192) (j : Fin 128) :
    val_main_v118 (F := Ideal) x0 x1 (ix4 b g t j) = iscore (BitVec.ofNat 32 j.val) (BitVec.ofNat 32 (t.val / 64)) (rimp x0 x1 b g t j) := by
  rw [← ref_imp, ← own_block]
  unfold iscore
  pointwise [val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v72, val_main_call2_v0, val_main_call2_v1, val_main_call2_v2, val_main_call3_v0, val_main_call3_v1, val_main_call3_v2, val_main_cst_21, val_main_cst_22, val_main_c_18, val_main_c_19, val_main_c_20]
  rfl

/-- The order of the blocks: by falling score. -/
def before (b : Fin 4) (g : Fin 2) (t : Fin 8192) (i j : Fin 128) : Bool :=
  FloatOps.cmpfTotal (F := Ideal) (φ := .f32) .gt (val_main_v118 (F := Ideal) x0 x1 (ix4 b g t i)) (val_main_v118 (F := Ideal) x0 x1 (ix4 b g t j)) == 1#1

theorem sort2_at (X : FVec Ideal S4x2x8192x128 .f32) (v : IVec S4x2x8192x128 32) (cmp : EReal × BitVec 32 → EReal × BitVec 32 → BitVec 1) (j : S4x2x8192x128.Idx) :
    (Host.sort2 S4x2x8192x128 3 cmp X v).2 j
      = v (j.along 3 (sortedFrom (fun k k' : Fin 128 => cmp (X (j.along 3 k), v (j.along 3 k)) (X (j.along 3 k'), v (j.along 3 k')) == 1#1) (j 3))) := by
  unfold Host.sort2
  rw [dif_pos (by decide : 3 < S4x2x8192x128.rank)]
  rfl

theorem iota_along (j : S4x2x8192x128.Idx) (k : Fin 128) :
    (if hd : 3 < S4x2x8192x128.rank then iotaInDim S4x2x8192x128 32 ⟨3, hd⟩ (j.along 3 k) else 0#32) = BitVec.ofNat 32 k.val := by
  rw [dif_pos (by decide : 3 < S4x2x8192x128.rank)]
  exact congrArg (fun x : Fin 128 => BitVec.ofNat 32 x.val) (by unfold Shape.Idx.along; exact Function.update_self _ _ _)

theorem ref_index (b : Fin 4) (g : Fin 2) (t : Fin 8192) (i : Fin 16) :
    val_main_indices (F := Ideal) x0 x1 (ix4 b g t i) = BitVec.ofNat 32 (sortedFrom (before x0 x1 b g t) ⟨i.val, by omega⟩).val := by
  unfold val_main_indices before
  generalize val_main_v118 (F := Ideal) x0 x1 = X
  have hs : ∀ (v : IVec S4x2x8192x128 32) (h : S4x2x8192x128.Slices (fun _ => 0) S4x2x8192x16),
      extractStridedSlice S4x2x8192x16 (fun _ => 0) v h (ix4 b g t i) = v (ix4 b g t ⟨i.val, by omega⟩) := fun v h => by
    refine congrArg v (funext fun a => Fin.ext ?_)
    match a with
    | 0 => exact Nat.zero_add _
    | 1 => exact Nat.zero_add _
    | 2 => exact Nat.zero_add _
    | 3 => exact Nat.zero_add _
  have hal : ∀ k : Fin 128, (ix4 b g t (⟨i.val, by omega⟩ : Fin 128) : S4x2x8192x128.Idx).along 3 k = ix4 b g t k := fun k => by
    funext a
    match a with
    | 0 => rfl
    | 1 => rfl
    | 2 => rfl
    | 3 => rfl
  unfold Host.topK
  dsimp only
  rw [hs, sort2_at]
  refine (iota_along _ _).trans ?_
  simp only [hal]
  rfl

/-- Whether query `t` of group `g` takes block `j`. -/
def taken (b : Fin 4) (g : Fin 2) (t : Fin 8192) (j : Fin 128) : EReal :=
  Scalar.select (IntOp.cmpi .sle (BitVec.ofNat 32 j.val) (BitVec.ofNat 32 (t.val / 64))) ((rounds (fun r => val_main_v118 (F := Ideal) x0 x1 (ix4 b g t r)) 16).2 j) 0

theorem before_iff (b : Fin 4) (g : Fin 2) (t : Fin 8192) (i j : Fin 128) :
    before x0 x1 b g t i j = true ↔ val_main_v118 (F := Ideal) x0 x1 (ix4 b g t j) < val_main_v118 (F := Ideal) x0 x1 (ix4 b g t i) := by
  unfold before
  generalize val_main_v118 (F := Ideal) x0 x1 (ix4 b g t j) = y
  generalize val_main_v118 (F := Ideal) x0 x1 (ix4 b g t i) = x
  show (BitVec.ofBool (decide (y < x)) == 1#1) = true ↔ y < x
  by_cases h : y < x
  · simp [h]
  · simp [h]

/-- A weight of the reference is a real number that is not negative. -/
theorem rwt_real {n : ℕ} (k : Fin n → Prop) [DecidablePred k] (s : Fin n → EReal) (c : Fin n) : ∃ r : ℝ, 0 ≤ r ∧ rwt k s c = r := by
  have hz : ∀ c, ∃ r : ℝ, 0 ≤ r ∧ (if k c then Ideal.exp ((if k c then s c else ⊥) - top (fun c => if k c then s c else ⊥)) else 0) = (r : EReal) := fun c => by
    by_cases h : k c
    · obtain ⟨r, h0, h1⟩ := exp_unit _ (sub_top_le (fun c => if k c then s c else ⊥) c)
      exact ⟨r, h0, by rw [if_pos h]; exact h1⟩
    · exact ⟨0, le_rfl, by rw [if_neg h]; rfl⟩
  obtain ⟨a, ha, hae⟩ := hz c
  obtain ⟨d, hd, hde⟩ := sum_real _ hz
  obtain ⟨e, he, hee⟩ := eps_real
  unfold rwt
  rw [hae, hde, hee, show (max (d : EReal) (e : EReal)) = ((max d e : ℝ) : EReal) from (EReal.coe_strictMono.monotone.map_max (a := d) (b := e)).symm]
  have hm : 0 < max d e := lt_of_lt_of_le he (le_max_right d e)
  refine ⟨a * (1 / max d e), by positivity, ?_⟩
  rw [Ideal.div_coe hm.ne']
  exact (EReal.coe_mul _ _).symm

theorem rimp_real (b : Fin 4) (g : Fin 2) (t : Fin 8192) (j : Fin 128) : ∃ r : ℝ, 0 ≤ r ∧ rimp x0 x1 b g t j = r := by
  refine sum_real _ fun c => ?_
  obtain ⟨r, h0, h1⟩ := sum_real _ fun r : Fin 4 => rwt_real (sees t) (rscore x0 x1 b g r t) c
  rw [h1]
  rcases ovl_bit c j with h | h <;> rw [h]
  · exact ⟨0, le_rfl, by simp⟩
  · exact ⟨r, h0, by simp⟩

theorem big_word : (-2 : EReal) < Ideal.ofBits .f32 0x461C4000#32 := by
  have h : Ideal.ofBits .f32 0x461C4000#32 = (((2 ^ 23 + 1851392 : ℕ) : ℝ) * (2 : ℝ) ^ ((140 : ℤ) - 127 - 23) : ℝ) := by
    simp [Ideal.ofBits, Ideal.ieee, -EReal.coe_mul]
  rw [h]
  refine lt_of_lt_of_le (b := (0 : EReal)) (by norm_num) ?_
  exact_mod_cast (by positivity : (0 : ℝ) ≤ ((2 ^ 23 + 1851392 : ℕ) : ℝ) * (2 : ℝ) ^ ((140 : ℤ) - 127 - 23))

theorem minus_word : Ideal.ofBits .f32 0xBF800000#32 = -1 := by
  simp [Ideal.ofBits, Ideal.ieee, -EReal.coe_mul]
  norm_num

/-- No block's score is as low as the mark of a block already taken. -/
theorem score_bound (b : Fin 4) (g : Fin 2) (t : Fin 8192) (j : Fin 128) : (-2 : EReal) < val_main_v118 (F := Ideal) x0 x1 (ix4 b g t j) := by
  rw [ref_pscore]
  unfold iscore Scalar.select
  split
  · exact big_word
  · split
    · obtain ⟨r, h0, h1⟩ := rimp_real x0 x1 b g t j
      rw [h1]
      refine lt_of_lt_of_le (b := (0 : EReal)) (by norm_num) ?_
      exact_mod_cast h0
    · rw [minus_word]
      refine EReal.neg_lt_neg_iff.mpr ?_
      exact_mod_cast (by norm_num : (1 : ℝ) < 2)

theorem ref_hits (b : Fin 4) (g : Fin 2) (t : Fin 8192) (j : Fin 128) :
    val_main_v129 (F := Ideal) x0 x1 (ix4 b g t j) = (rounds (fun r => val_main_v118 (F := Ideal) x0 x1 (ix4 b g t r)) 16).2 j := by
  rw [rounds_sorted _ (fun r => score_bound x0 x1 b g t r) (before x0 x1 b g t) (before_iff x0 x1 b g t) 16 (by omega) j]
  pointwise [val_main_v129, val_main_v128, val_main_v127, val_main_v126, val_main_v125, val_main_v124, val_main_v123, val_main_v72, val_main_cst_23]
  simp only [ref_index, ofBits_bot]
  have hv : ∀ x : Fin 16, (FloatOps.uitofp (F := Ideal) FTy.f32 (IntOp.cmpi CmpIPredicate.eq (BitVec.ofNat 32 (sortedFrom (before x0 x1 b g t) ⟨x.val, by omega⟩).val) (BitVec.ofNat 32 j.val)) : EReal)
      = if sortedFrom (before x0 x1 b g t) ⟨x.val, by omega⟩ = j then 1 else 0 := fun x => by
    generalize sortedFrom (before x0 x1 b g t) ⟨x.val, by omega⟩ = p
    have hw : (BitVec.ofNat 32 p.val == BitVec.ofNat 32 j.val) = decide (p = j) := by
      rw [Bool.eq_iff_iff, beq_iff_eq, decide_eq_true_eq]
      refine ⟨fun h => Fin.ext ?_, fun h => h ▸ rfl⟩
      have h' := congrArg BitVec.toNat h
      rw [BitVec.toNat_ofNat, BitVec.toNat_ofNat, Nat.mod_eq_of_lt (by omega), Nat.mod_eq_of_lt (by omega)] at h'
      exact h'
    show (((BitVec.ofBool (BitVec.ofNat 32 p.val == BitVec.ofNat 32 j.val)).toNat : ℝ) : EReal) = _
    rw [hw]
    by_cases h : p = j <;> simp [h]
  refine (Finset.fold_congr fun x _ => hv x).trans ?_
  refine _root_.le_antisymm ?_ ?_
  · rw [Finset.fold_max_le]
    refine ⟨bot_le, fun x _ => ?_⟩
    by_cases h : sortedFrom (before x0 x1 b g t) ⟨x.val, by omega⟩ = j
    · rw [if_pos h, if_pos ⟨_, x.isLt, h⟩]
    · rw [if_neg h]
      split
      · exact zero_le_one
      · exact le_refl _
  · rw [Finset.le_fold_max]
    refine .inr ?_
    by_cases h : ∃ i : Fin 128, i.val < 16 ∧ sortedFrom (before x0 x1 b g t) i = j
    · rw [if_pos h]
      obtain ⟨i, hi, he⟩ := h
      refine ⟨⟨i.val, hi⟩, Finset.mem_univ _, ?_⟩
      rw [if_pos he]
    · rw [if_neg h]
      refine ⟨⟨0, by omega⟩, Finset.mem_univ _, ?_⟩
      rw [if_neg (fun he => h ⟨_, by decide, he⟩)]

theorem ref_taken (b : Fin 4) (g : Fin 2) (t : Fin 8192) (j : Fin 128) :
    val_main_v130 (F := Ideal) x0 x1 (ix4 b g t j) = taken x0 x1 b g t j := by
  unfold taken
  rw [← ref_hits x0 x1, ← own_block]
  pointwise [val_main_v130, val_main_call4_v0, val_main_call4_v1, val_main_call4_v2, val_main_cst_24, val_main_v122, val_main_v121, val_main_v120, val_main_v119, val_main_v72, val_main_v96, val_main_v95, val_main_v94, val_main_v93, val_main_c_18]
  exact congrArg (Scalar.select _ _) (by show Ideal.ofBits FTy.f32 0#32 = 0; simp)

/-- The selection, at one row and one column. -/
theorem ref_sel (r : Fin 32768) (k : Fin 256) :
    val_main_v132 (F := Ideal) x0 x1 (ix2 r k) = taken x0 x1 ⟨r.val / 8192, by omega⟩ ⟨k.val / 128, by omega⟩ ⟨r.val % 8192, by omega⟩ ⟨k.val % 128, by omega⟩ := by
  rw [← ref_taken x0 x1]
  pointwise [val_main_v132, val_main_v131]

theorem ref_sel' (r : Fin 32768) (k : Fin 256) : val_main_v140 (F := Ideal) x0 x1 (ix2 r k) = val_main_v132 (F := Ideal) x0 x1 (ix2 r k) := rfl

/-- The blocks some query of a tile selects. -/
theorem ref_un (r : Fin 2048) (k : Fin 256) :
    val_main_v137 (F := Ideal) x0 x1 (ix2 r k) = top (fun i : Fin 128 => val_main_v132 (F := Ideal) x0 x1 (ix2 ⟨r.val / 8 * 128 + i.val, by omega⟩ k)) := by
  unfold top
  generalize hX : val_main_v132 (F := Ideal) x0 x1 = X
  pointwise [val_main_v137, val_main_v136, val_main_v135, val_main_v134, val_main_v133, val_main_cst_25, hX, ofBits_bot]

end Cert.Nsa
-- ==== Proof.Nsa.Overlap.lean ====
/-
  The table the host prepares for the block scores: which compressed keys each block of keys overlaps.
-/
module

public import proofs.«01_k».proof.Proof.Nsa.Pick
public import proofs.«01_k».proof.Proof.Nsa.Host

@[expose] public section

set_option maxRecDepth 16384

noncomputable section

namespace Cert.Nsa

open Cert.Kernel8Ideal Cert.Kernel8Ideal.Gen
open Idealize.ShloMosaic Idealize.ShloMosaic.TcCoe Idealize.ShloMosaic.Tactic

variable (m : (ℓ : Loc nD τ sig) → Buf (Elt Ideal) ℓ)

/-- The first position of each compressed key. -/
def startW : IVec S512x1 32 :=
  muli (broadcastInDim S512x1 ![0] bcast_S512_S512x1_0 (iotaInDim S512 32 0)) (broadcastInDim S512x1 ![] bcast_S_S512x1 (constantI S_ 32 16#32))

/-- The first position of each block. -/
def blockW : IVec S1x128 32 :=
  muli (broadcastInDim S1x128 ![1] bcast_S128_S1x128_1 (iotaInDim S128 32 0)) (broadcastInDim S1x128 ![] bcast_S_S1x128 (constantI S_ 32 64#32))

/-- The table of overlaps. -/
def ovTab : FVec Ideal S512x128 .bf16 :=
  uitofp .bf16 (andi
    (cmpi .slt (broadcastInDim S512x128 ![0, 1] bcast_S512x1_S512x128_0_1 startW)
      (broadcastInDim S512x128 ![0, 1] bcast_S1x128_S512x128_0_1 (addi blockW (broadcastInDim S1x128 ![] bcast_S_S1x128 (constantI S_ 32 64#32)))))
    (cmpi .sgt (broadcastInDim S512x128 ![0, 1] bcast_S512x1_S512x128_0_1 (addi startW (broadcastInDim S512x1 ![] bcast_S_S512x1 (constantI S_ 32 32#32))))
      (broadcastInDim S512x128 ![0, 1] bcast_S1x128_S512x128_0_1 blockW)))

theorem V_overlap (c : Dev nD) : (V m c main_v87 : FVec Ideal S512x128 .bf16) = ovTab := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]; after_results_simp
  sl_kernel_rfl

theorem ovTab_at (c : Fin 512) (j : Fin 128) : ovTab (ix2 c j) = ovl c j := by
  pointwise [ovTab, startW, blockW, ovl, Cert.Reference8Ideal.Read.val_main_v90, Cert.Reference8Ideal.Read.val_main_v89, Cert.Reference8Ideal.Read.val_main_v88, Cert.Reference8Ideal.Read.val_main_v87, Cert.Reference8Ideal.Read.val_main_v86, Cert.Reference8Ideal.Read.val_main_v85, Cert.Reference8Ideal.Read.val_main_v84, Cert.Reference8Ideal.Read.val_main_v83, Cert.Reference8Ideal.Read.val_main_v82, Cert.Reference8Ideal.Read.val_main_v81, Cert.Reference8Ideal.Read.val_main_v80, Cert.Reference8Ideal.Read.val_main_v79, Cert.Reference8Ideal.Read.val_main_v78, Cert.Reference8Ideal.Read.val_main_v77, Cert.Reference8Ideal.Read.val_main_v76, Cert.Reference8Ideal.Read.val_main_v75, Cert.Reference8Ideal.Read.val_main_v74, Cert.Reference8Ideal.Read.val_main_v73, Cert.Reference8Ideal.Read.val_main_v72, Cert.Reference8Ideal.Read.val_main_v71, Cert.Reference8Ideal.Read.val_main_v70, Cert.Reference8Ideal.Read.val_main_v69, Cert.Reference8Ideal.Read.val_main_v68, Cert.Reference8Ideal.Read.val_main_c_12, Cert.Reference8Ideal.Read.val_main_c_13, Cert.Reference8Ideal.Read.val_main_c_14, Cert.Reference8Ideal.Read.val_main_c_15, Cert.Reference8Ideal.Read.val_main_c_16]
  rfl

end Cert.Nsa
-- ==== Proof.Nsa.Bridge.lean ====
/-
  The kernel's block scores are the reference's.
-/
module

public import proofs.«01_k».proof.Proof.Nsa.Value
public import proofs.«01_k».proof.Proof.Nsa.Overlap

@[expose] public section

set_option maxRecDepth 16384

noncomputable section

namespace Cert.Nsa

open Cert.Kernel8Ideal Cert.Kernel8Ideal.Gen
open Idealize.ShloMosaic Idealize.ShloMosaic.TcCoe Idealize.ShloMosaic.Tactic

/-- One key's weight, in one head of one query. -/
theorem weight_eq (x0 : FVec Ideal S32768x1024 .bf16) (x1 : FVec Ideal S4x512x256 .bf16) (t : ℕ) (ht : t < 256) {n : ℕ} (hn : n ≤ 512)
    (hk : 128 * (t % 64) + 128 ≤ 16 * n + 31)
    (q : Vec Ideal S128x1024 .bf16) (kc cx : Fin n → Fin 128 → EReal)
    (hq : ∀ (a : Fin 128) (k : Fin 1024), q (ix2 a k) = x0 (ix2 ⟨t * 128 + a.val, by omega⟩ k))
    (hkc : ∀ (c : Fin n) (k : Fin 128), kc c k = x1 (ix3 ⟨t / 64, by omega⟩ ⟨c.val, by omega⟩ ⟨k.val, by omega⟩))
    (hcx : ∀ (c : Fin n) (k : Fin 128), cx c k = posTab (ix2 ⟨c.val, by omega⟩ k))
    (g : Fin 2) (o : ℕ) (ho : o ≤ 512) (hog : o = g.val * 512) (qa : Vec Ideal S1x512x128 .bf16) (hqa : ∀ (i : Fin 512) (k : Fin 128), qa (ix3 0 i k) = slopeTab (ix3 g i k))
    (a : Fin 128) (r : Fin 4) (i : Fin 512) (hi : i.val = r.val * 128 + a.val) (c : Fin n) :
    kwt (kscore o ho (128 * (t % 64)) q kc cx qa i) c
      = rwt (sees ⟨128 * (t % 64) + a.val, by omega⟩) (rscore x0 x1 ⟨t / 64, by omega⟩ g r ⟨128 * (t % 64) + a.val, by omega⟩) (c.castLE hn) := by
  have ei : i.val % 128 = a.val := by omega
  have er : i.val / 128 = r.val := by omega
  have et : t / 64 * 8192 + (128 * (t % 64) + a.val) = t * 128 + a.val := by omega
  rw [← avg_mark, ← ravg_mark]
  refine head_eq x0 x1 _ g _ _ hn (by dsimp only; omega) _ _ _ (fun c => ?_) (fun d => ?_)
  · unfold kscore
    simp only [ei, er]
    refine congrArg₂ (· + ·) (congrArg₂ (· + ·) (Finset.sum_congr rfl fun k _ => ?_) ?_) rfl
    · rw [hq, hkc]
      refine congrArg₂ (· * ·) (congrArg x0 ?_) rfl
      exact congrArg₂ ix2 (Fin.ext et.symm) (Fin.ext (by dsimp only; omega))
    · refine (Finset.sum_congr rfl fun k _ => congrArg₂ (· * ·) (hqa _ k) (hcx c k)).trans ((tab_sum g _ _).trans ?_)
      exact congrArg₂ (· * ·) (congrArg slope (Fin.ext (by dsimp only; omega))) rfl
  · have h : (d = c) = (d.castLE hn = c.castLE hn) := propext ⟨fun h => h ▸ rfl, fun h => Fin.ext (congrArg (fun x : Fin 512 => x.val) h : d.val = c.val)⟩
    simp only [h]

/-- One block's score. -/
theorem bscore_eq (x0 : FVec Ideal S32768x1024 .bf16) (x1 : FVec Ideal S4x512x256 .bf16) {n : ℕ} (hn : n ≤ 512) (b : Fin 4) (g : Fin 2) (t : Fin 8192) (hk : t.val < 16 * n + 31)
    (W : Fin 512 → Fin n → EReal) (O : Fin n → EReal) (a j : Fin 128)
    (hW : ∀ (r : Fin 4) (i : Fin 512), i.val = r.val * 128 + a.val → ∀ c, W i c = rwt (sees t) (rscore x0 x1 b g r t) (c.castLE hn))
    (hO : ∀ c, O c = ovl (c.castLE hn) j) :
    bscore (BitVec.ofNat 32 j.val) (BitVec.ofNat 32 (t.val / 64)) (four W a) O = Cert.Reference8Ideal.Read.val_main_v118 (F := Ideal) x0 x1 (ix4 b g t j) := by
  have hP : ∀ c : Fin n, four W a c = ∑ r : Fin 4, rwt (sees t) (rscore x0 x1 b g r t) (c.castLE hn) := fun c => by
    unfold four
    rw [Fin.sum_univ_four, hW 0 _ (by simp), hW 1 _ (by simp), hW 2 _ (by simp), hW 3 _ (by simp)]
  have hr : ∀ c : Fin n, four W a c - four W a c = 0 := fun c => by
    obtain ⟨r, _, h⟩ := sum_real _ fun r : Fin 4 => rwt_real (sees t) (rscore x0 x1 b g r t) (c.castLE hn)
    rw [hP, h, ← EReal.coe_sub, sub_self]; rfl
  rw [ref_pscore]
  unfold bscore iscore
  refine congrArg (fun z => Scalar.select _ _ (Scalar.select _ z _)) ?_
  have h0 : ∀ c : Fin n, (four W a c - four W a c) * O c = 0 := fun c => by rw [hr, zero_mul]
  have h1 : ∀ c : Fin n, (four W a c - four W a c - (four W a c - four W a c)) * O c = 0 := fun c => by rw [hr, sub_zero, zero_mul]
  rw [Finset.sum_congr rfl fun c _ => h0 c, Finset.sum_congr rfl fun c _ => h1 c, Finset.sum_const_zero, add_zero, add_zero]
  unfold rimp
  rw [sum_ext hn]
  · exact Finset.sum_congr rfl fun c _ => congrArg₂ (· * ·) (hP c) (hO c)
  · intro c hc
    rw [Finset.sum_eq_zero fun r _ => rwt_hidden _ _ _ (fun h => by have : 16 * c.val + 31 ≤ t.val := h; omega), zero_mul]

/-! ## The scores in their scratch -/

/-- The query's own block, as the body has it. -/
theorem own_word (t : Fin cfg0.N) (a j : Fin 128) : k0_pay70 (grid0.coords t) (ix2 a j) = BitVec.ofNat 32 ((128 * (t.val % 64) + a.val) / 64) := by
  have h : ∀ t : Fin 64, ∀ a : Fin 128, IntOp.shrsi .vector (IntOp.addi (BitVec.ofNat 32 (128 * t.val)) (BitVec.ofNat 32 a.val)) 6#32 = BitVec.ofNat 32 ((128 * t.val + a.val) / 64) := by
    decide +kernel
  refine Eq.trans ?_ (h ⟨t.val % 64, by omega⟩ a)
  dsimp only
  rw [← word t]
  pointwise [k0_pay70]

/-- The two groups' scores, as the body stores them. -/
abbrev scores (s0 s1 : FVec Ideal S128x128 .f32) : List (View.Piece (Elt Ideal) S128x256 .f32) :=
  [⟨Rect.unit ![0, 128] ![128, 128] inb_S128x256_S128x128_0_128, s1⟩, ⟨Rect.unit ![0, 0] ![128, 128] inb_S128x256_S128x128_0_0, s0⟩]

theorem scores_canon (s0 s1 : FVec Ideal S128x128 .f32) (y : S128x256.Idx) :
    View.canon (scores s0 s1) y = if (y 1).val < 128 then s0 (ix2 (y 0) ⟨(y 1).val % 128, by omega⟩) else s1 (ix2 (y 0) ⟨(y 1).val % 128, by omega⟩) := by
  unfold scores
  canon_tiles x q
  · rw [if_neg (by omega)]
    exact congrArg s1 (by blk_ext)
  · rw [if_pos (by omega)]
    exact congrArg s0 (by blk_ext)

theorem scores_at (s0 s1 : FVec Ideal S128x128 .f32) (j : Fin 128) (e : Fin 256) :
    (View.whole cc0_scratch0).readCov (scores s0 s1) (Rect.unit (s := S128x256) ![0, 0] ![128, 256] inb_S128x256_S128x256_0_0).toLoadRect (ix2 j e)
      = if e.val < 128 then s0 (ix2 j ⟨e.val % 128, by omega⟩) else s1 (ix2 j ⟨e.val % 128, by omega⟩) := by
  rw [View.readCov_eq_canon']
  refine (scores_canon s0 s1 _).trans ?_
  rw [at2 inb_S128x256_S128x256_0_0 j e j e (by omega) (by omega)]
  rfl

/-- The scores of one grid point, from 128 keys. -/
theorem scoresA (x0 : FVec Ideal S32768x1024 .bf16) (x1 : FVec Ideal S4x512x256 .bf16) (t : ℕ) (ht : t < 256) (q : Vec Ideal S128x1024 .bf16) (v6 : IVec S128x128 32)
    (qa0 qa1 : Vec Ideal S1x512x128 .bf16)
    (hq : ∀ (a : Fin 128) (k : Fin 1024), q (ix2 a k) = x0 (ix2 ⟨t * 128 + a.val, by omega⟩ k))
    (hv : ∀ a j : Fin 128, v6 (ix2 a j) = BitVec.ofNat 32 ((128 * (t % 64) + a.val) / 64))
    (h0 : ∀ (i : Fin 512) (k : Fin 128), qa0 (ix3 0 i k) = slopeTab (ix3 0 i k)) (h1 : ∀ (i : Fin 512) (k : Fin 128), qa1 (ix3 0 i k) = slopeTab (ix3 1 i k)) (hk : 128 * (t % 64) + 128 ≤ 16 * 128 + 31) (kc : Vec Ideal S1x128x128 .bf16) (cx ov : Vec Ideal S128x128 .bf16)
    (hkc : ∀ (c : Fin 128) (k : Fin 128), kc (ix3 0 c k) = x1 (ix3 ⟨t / 64, by omega⟩ ⟨c.val, by omega⟩ ⟨k.val, by omega⟩))
    (hcx : ∀ (c : Fin 128) (k : Fin 128), cx (ix2 c k) = posTab (ix2 ⟨c.val, by omega⟩ k))
    (hov : ∀ (c : Fin 128) (j : Fin 128), ov (ix2 c j) = ovl ⟨c.val, by omega⟩ j)
    (j : Fin 128) (e : Fin 256) :
    (View.whole cc0_scratch0).readCov (scores
        (k0_pay15 (F := Ideal) (k0_pay12 (k0_pay7 (BitVec.ofNat 32 (128 * (t % 64))) q kc cx qa0) (k0_pay8 (BitVec.ofNat 32 (128 * (t % 64))) q kc cx qa0)
          (k0_pay9 (BitVec.ofNat 32 (128 * (t % 64))) q kc cx qa0) ov) (k0_pay13 lanes v6) (k0_pay14 lanes v6) (FloatOps.ofBits FTy.f32 0xBF800000#32))
        (k0_pay72 (F := Ideal) lanes v6 (k0_pay16 q (k0_pay2 kc cx) (k0_pay4 (BitVec.ofNat 32 (128 * (t % 64)))) qa1)
          (k0_pay18 q (k0_pay2 kc cx) (k0_pay4 (BitVec.ofNat 32 (128 * (t % 64)))) qa1) ov))
        (Rect.unit (s := S128x256) ![0, 0] ![128, 256] inb_S128x256_S128x256_0_0).toLoadRect (ix2 j e)
      = Cert.Reference8Ideal.Read.val_main_v118 (F := Ideal) x0 x1 (ix4 ⟨t / 64, by omega⟩ ⟨e.val / 128, by omega⟩ ⟨128 * (t % 64) + e.val % 128, by omega⟩ j) := by
  refine (scores_at _ _ j e).trans ?_
  by_cases h : e.val < 128
  · rw [if_pos h, blocks0A, hv]
    have eg : (⟨e.val / 128, by omega⟩ : Fin 2) = 0 := Fin.ext (by show e.val / 128 = 0; omega)
    rw [eg]
    refine bscore_eq x0 x1 (n := 128) (by omega) _ 0 ⟨128 * (t % 64) + e.val % 128, by omega⟩ (by dsimp only; omega) _ _ _ j (fun r i hi c => ?_) (fun c => hov c j)
    exact (weight0A (128 * (t % 64)) (by omega) q kc cx qa0 i c).trans
      (weight_eq x0 x1 t ht (by omega) hk q _ _ hq hkc hcx 0 0 (by omega) rfl qa0 h0 ⟨e.val % 128, by omega⟩ r i hi c)
  · rw [if_neg h, blocks1A, hv]
    have eg : (⟨e.val / 128, by omega⟩ : Fin 2) = 1 := Fin.ext (by show e.val / 128 = 1; omega)
    rw [eg]
    refine bscore_eq x0 x1 (n := 128) (by omega) _ 1 ⟨128 * (t % 64) + e.val % 128, by omega⟩ (by dsimp only; omega) _ _ _ j (fun r i hi c => ?_) (fun c => hov c j)
    exact (weight1A (128 * (t % 64)) (by omega) q kc cx qa1 i c).trans
      (weight_eq x0 x1 t ht (by omega) hk q _ _ hq hkc hcx 1 512 (by omega) rfl qa1 h1 ⟨e.val % 128, by omega⟩ r i hi c)

/-- The scores of one grid point, from 256 keys. -/
theorem scoresB (x0 : FVec Ideal S32768x1024 .bf16) (x1 : FVec Ideal S4x512x256 .bf16) (t : ℕ) (ht : t < 256) (q : Vec Ideal S128x1024 .bf16) (v6 : IVec S128x128 32)
    (qa0 qa1 : Vec Ideal S1x512x128 .bf16)
    (hq : ∀ (a : Fin 128) (k : Fin 1024), q (ix2 a k) = x0 (ix2 ⟨t * 128 + a.val, by omega⟩ k))
    (hv : ∀ a j : Fin 128, v6 (ix2 a j) = BitVec.ofNat 32 ((128 * (t % 64) + a.val) / 64))
    (h0 : ∀ (i : Fin 512) (k : Fin 128), qa0 (ix3 0 i k) = slopeTab (ix3 0 i k)) (h1 : ∀ (i : Fin 512) (k : Fin 128), qa1 (ix3 0 i k) = slopeTab (ix3 1 i k)) (hk : 128 * (t % 64) + 128 ≤ 16 * 256 + 31) (kc : Vec Ideal S1x256x128 .bf16) (cx ov : Vec Ideal S256x128 .bf16)
    (hkc : ∀ (c : Fin 256) (k : Fin 128), kc (ix3 0 c k) = x1 (ix3 ⟨t / 64, by omega⟩ ⟨c.val, by omega⟩ ⟨k.val, by omega⟩))
    (hcx : ∀ (c : Fin 256) (k : Fin 128), cx (ix2 c k) = posTab (ix2 ⟨c.val, by omega⟩ k))
    (hov : ∀ (c : Fin 256) (j : Fin 128), ov (ix2 c j) = ovl ⟨c.val, by omega⟩ j)
    (j : Fin 128) (e : Fin 256) :
    (View.whole cc0_scratch0).readCov (scores
        (k0_pay32 (F := Ideal) (k0_pay29 (k0_pay24 (BitVec.ofNat 32 (128 * (t % 64))) q kc cx qa0) (k0_pay25 (BitVec.ofNat 32 (128 * (t % 64))) q kc cx qa0)
          (k0_pay26 (BitVec.ofNat 32 (128 * (t % 64))) q kc cx qa0) ov) (k0_pay30 lanes v6) (k0_pay31 lanes v6) (FloatOps.ofBits FTy.f32 0xBF800000#32))
        (k0_pay73 (F := Ideal) lanes v6 (k0_pay33 q (k0_pay19 kc cx) (k0_pay21 (BitVec.ofNat 32 (128 * (t % 64)))) qa1)
          (k0_pay35 q (k0_pay19 kc cx) (k0_pay21 (BitVec.ofNat 32 (128 * (t % 64)))) qa1) ov))
        (Rect.unit (s := S128x256) ![0, 0] ![128, 256] inb_S128x256_S128x256_0_0).toLoadRect (ix2 j e)
      = Cert.Reference8Ideal.Read.val_main_v118 (F := Ideal) x0 x1 (ix4 ⟨t / 64, by omega⟩ ⟨e.val / 128, by omega⟩ ⟨128 * (t % 64) + e.val % 128, by omega⟩ j) := by
  refine (scores_at _ _ j e).trans ?_
  by_cases h : e.val < 128
  · rw [if_pos h, blocks0B, hv]
    have eg : (⟨e.val / 128, by omega⟩ : Fin 2) = 0 := Fin.ext (by show e.val / 128 = 0; omega)
    rw [eg]
    refine bscore_eq x0 x1 (n := 256) (by omega) _ 0 ⟨128 * (t % 64) + e.val % 128, by omega⟩ (by dsimp only; omega) _ _ _ j (fun r i hi c => ?_) (fun c => hov c j)
    exact (weight0B (128 * (t % 64)) (by omega) q kc cx qa0 i c).trans
      (weight_eq x0 x1 t ht (by omega) hk q _ _ hq hkc hcx 0 0 (by omega) rfl qa0 h0 ⟨e.val % 128, by omega⟩ r i hi c)
  · rw [if_neg h, blocks1B, hv]
    have eg : (⟨e.val / 128, by omega⟩ : Fin 2) = 1 := Fin.ext (by show e.val / 128 = 1; omega)
    rw [eg]
    refine bscore_eq x0 x1 (n := 256) (by omega) _ 1 ⟨128 * (t % 64) + e.val % 128, by omega⟩ (by dsimp only; omega) _ _ _ j (fun r i hi c => ?_) (fun c => hov c j)
    exact (weight1B (128 * (t % 64)) (by omega) q kc cx qa1 i c).trans
      (weight_eq x0 x1 t ht (by omega) hk q _ _ hq hkc hcx 1 512 (by omega) rfl qa1 h1 ⟨e.val % 128, by omega⟩ r i hi c)

/-- The scores of one grid point, from 384 keys. -/
theorem scoresC (x0 : FVec Ideal S32768x1024 .bf16) (x1 : FVec Ideal S4x512x256 .bf16) (t : ℕ) (ht : t < 256) (q : Vec Ideal S128x1024 .bf16) (v6 : IVec S128x128 32)
    (qa0 qa1 : Vec Ideal S1x512x128 .bf16)
    (hq : ∀ (a : Fin 128) (k : Fin 1024), q (ix2 a k) = x0 (ix2 ⟨t * 128 + a.val, by omega⟩ k))
    (hv : ∀ a j : Fin 128, v6 (ix2 a j) = BitVec.ofNat 32 ((128 * (t % 64) + a.val) / 64))
    (h0 : ∀ (i : Fin 512) (k : Fin 128), qa0 (ix3 0 i k) = slopeTab (ix3 0 i k)) (h1 : ∀ (i : Fin 512) (k : Fin 128), qa1 (ix3 0 i k) = slopeTab (ix3 1 i k)) (hk : 128 * (t % 64) + 128 ≤ 16 * 384 + 31) (kc : Vec Ideal S1x384x128 .bf16) (cx ov : Vec Ideal S384x128 .bf16)
    (hkc : ∀ (c : Fin 384) (k : Fin 128), kc (ix3 0 c k) = x1 (ix3 ⟨t / 64, by omega⟩ ⟨c.val, by omega⟩ ⟨k.val, by omega⟩))
    (hcx : ∀ (c : Fin 384) (k : Fin 128), cx (ix2 c k) = posTab (ix2 ⟨c.val, by omega⟩ k))
    (hov : ∀ (c : Fin 384) (j : Fin 128), ov (ix2 c j) = ovl ⟨c.val, by omega⟩ j)
    (j : Fin 128) (e : Fin 256) :
    (View.whole cc0_scratch0).readCov (scores
        (k0_pay49 (F := Ideal) (k0_pay46 (k0_pay41 (BitVec.ofNat 32 (128 * (t % 64))) q kc cx qa0) (k0_pay42 (BitVec.ofNat 32 (128 * (t % 64))) q kc cx qa0)
          (k0_pay43 (BitVec.ofNat 32 (128 * (t % 64))) q kc cx qa0) ov) (k0_pay47 lanes v6) (k0_pay48 lanes v6) (FloatOps.ofBits FTy.f32 0xBF800000#32))
        (k0_pay74 (F := Ideal) lanes v6 (k0_pay50 q (k0_pay36 kc cx) (k0_pay38 (BitVec.ofNat 32 (128 * (t % 64)))) qa1)
          (k0_pay52 q (k0_pay36 kc cx) (k0_pay38 (BitVec.ofNat 32 (128 * (t % 64)))) qa1) ov))
        (Rect.unit (s := S128x256) ![0, 0] ![128, 256] inb_S128x256_S128x256_0_0).toLoadRect (ix2 j e)
      = Cert.Reference8Ideal.Read.val_main_v118 (F := Ideal) x0 x1 (ix4 ⟨t / 64, by omega⟩ ⟨e.val / 128, by omega⟩ ⟨128 * (t % 64) + e.val % 128, by omega⟩ j) := by
  refine (scores_at _ _ j e).trans ?_
  by_cases h : e.val < 128
  · rw [if_pos h, blocks0C, hv]
    have eg : (⟨e.val / 128, by omega⟩ : Fin 2) = 0 := Fin.ext (by show e.val / 128 = 0; omega)
    rw [eg]
    refine bscore_eq x0 x1 (n := 384) (by omega) _ 0 ⟨128 * (t % 64) + e.val % 128, by omega⟩ (by dsimp only; omega) _ _ _ j (fun r i hi c => ?_) (fun c => hov c j)
    exact (weight0C (128 * (t % 64)) (by omega) q kc cx qa0 i c).trans
      (weight_eq x0 x1 t ht (by omega) hk q _ _ hq hkc hcx 0 0 (by omega) rfl qa0 h0 ⟨e.val % 128, by omega⟩ r i hi c)
  · rw [if_neg h, blocks1C, hv]
    have eg : (⟨e.val / 128, by omega⟩ : Fin 2) = 1 := Fin.ext (by show e.val / 128 = 1; omega)
    rw [eg]
    refine bscore_eq x0 x1 (n := 384) (by omega) _ 1 ⟨128 * (t % 64) + e.val % 128, by omega⟩ (by dsimp only; omega) _ _ _ j (fun r i hi c => ?_) (fun c => hov c j)
    exact (weight1C (128 * (t % 64)) (by omega) q kc cx qa1 i c).trans
      (weight_eq x0 x1 t ht (by omega) hk q _ _ hq hkc hcx 1 512 (by omega) rfl qa1 h1 ⟨e.val % 128, by omega⟩ r i hi c)

/-- The scores of one grid point, from 512 keys. -/
theorem scoresD (x0 : FVec Ideal S32768x1024 .bf16) (x1 : FVec Ideal S4x512x256 .bf16) (t : ℕ) (ht : t < 256) (q : Vec Ideal S128x1024 .bf16) (v6 : IVec S128x128 32)
    (qa0 qa1 : Vec Ideal S1x512x128 .bf16)
    (hq : ∀ (a : Fin 128) (k : Fin 1024), q (ix2 a k) = x0 (ix2 ⟨t * 128 + a.val, by omega⟩ k))
    (hv : ∀ a j : Fin 128, v6 (ix2 a j) = BitVec.ofNat 32 ((128 * (t % 64) + a.val) / 64))
    (h0 : ∀ (i : Fin 512) (k : Fin 128), qa0 (ix3 0 i k) = slopeTab (ix3 0 i k)) (h1 : ∀ (i : Fin 512) (k : Fin 128), qa1 (ix3 0 i k) = slopeTab (ix3 1 i k)) (hk : 128 * (t % 64) + 128 ≤ 16 * 512 + 31) (kc : Vec Ideal S1x512x128 .bf16) (cx ov : Vec Ideal S512x128 .bf16)
    (hkc : ∀ (c : Fin 512) (k : Fin 128), kc (ix3 0 c k) = x1 (ix3 ⟨t / 64, by omega⟩ ⟨c.val, by omega⟩ ⟨k.val, by omega⟩))
    (hcx : ∀ (c : Fin 512) (k : Fin 128), cx (ix2 c k) = posTab (ix2 ⟨c.val, by omega⟩ k))
    (hov : ∀ (c : Fin 512) (j : Fin 128), ov (ix2 c j) = ovl ⟨c.val, by omega⟩ j)
    (j : Fin 128) (e : Fin 256) :
    (View.whole cc0_scratch0).readCov (scores
        (k0_pay66 (F := Ideal) (k0_pay63 (k0_pay58 (BitVec.ofNat 32 (128 * (t % 64))) q kc cx qa0) (k0_pay59 (BitVec.ofNat 32 (128 * (t % 64))) q kc cx qa0)
          (k0_pay60 (BitVec.ofNat 32 (128 * (t % 64))) q kc cx qa0) ov) (k0_pay64 lanes v6) (k0_pay65 lanes v6) (FloatOps.ofBits FTy.f32 0xBF800000#32))
        (k0_pay75 (F := Ideal) lanes v6 (k0_pay67 q (k0_pay53 kc cx) (k0_pay55 (BitVec.ofNat 32 (128 * (t % 64)))) qa1)
          (k0_pay69 q (k0_pay53 kc cx) (k0_pay55 (BitVec.ofNat 32 (128 * (t % 64)))) qa1) ov))
        (Rect.unit (s := S128x256) ![0, 0] ![128, 256] inb_S128x256_S128x256_0_0).toLoadRect (ix2 j e)
      = Cert.Reference8Ideal.Read.val_main_v118 (F := Ideal) x0 x1 (ix4 ⟨t / 64, by omega⟩ ⟨e.val / 128, by omega⟩ ⟨128 * (t % 64) + e.val % 128, by omega⟩ j) := by
  refine (scores_at _ _ j e).trans ?_
  by_cases h : e.val < 128
  · rw [if_pos h, blocks0D, hv]
    have eg : (⟨e.val / 128, by omega⟩ : Fin 2) = 0 := Fin.ext (by show e.val / 128 = 0; omega)
    rw [eg]
    refine bscore_eq x0 x1 (n := 512) (by omega) _ 0 ⟨128 * (t % 64) + e.val % 128, by omega⟩ (by dsimp only; omega) _ _ _ j (fun r i hi c => ?_) (fun c => hov c j)
    exact (weight0D (128 * (t % 64)) (by omega) q kc cx qa0 i c).trans
      (weight_eq x0 x1 t ht (by omega) hk q _ _ hq hkc hcx 0 0 (by omega) rfl qa0 h0 ⟨e.val % 128, by omega⟩ r i hi c)
  · rw [if_neg h, blocks1D, hv]
    have eg : (⟨e.val / 128, by omega⟩ : Fin 2) = 1 := Fin.ext (by show e.val / 128 = 1; omega)
    rw [eg]
    refine bscore_eq x0 x1 (n := 512) (by omega) _ 1 ⟨128 * (t % 64) + e.val % 128, by omega⟩ (by dsimp only; omega) _ _ _ j (fun r i hi c => ?_) (fun c => hov c j)
    exact (weight1D (128 * (t % 64)) (by omega) q kc cx qa1 i c).trans
      (weight_eq x0 x1 t ht (by omega) hk q _ _ hq hkc hcx 1 512 (by omega) rfl qa1 h1 ⟨e.val % 128, by omega⟩ r i hi c)

end Cert.Nsa
-- ==== Proof.Nsa.Select.lean ====
/-
  The other two results: what each grid point stores of the selection and of its union is the reference's.
-/
module

public import proofs.«01_k».proof.Proof.Nsa.Bridge

@[expose] public section

set_option maxRecDepth 16384

noncomputable section

namespace Cert.Nsa

open Cert.Kernel8Ideal Cert.Kernel8Ideal.Gen
open Idealize.ShloMosaic Idealize.ShloMosaic.TcCoe Idealize.ShloMosaic.Tactic

variable (m : (ℓ : Loc nD τ sig) → Buf (Elt Ideal) ℓ)

theorem idx' : ∀ t : Fin cfg0.N, win0_3.index t = ![0, 0] ∧ win0_7.index t = ![t.val, 0] ∧ win0_8.index t = ![t.val, 0] :=
  (by decide +kernel : ∀ t : Fin grid0.N, _)

theorem ov_read (c : Dev nD) (t : Fin cfg0.N) (i : Fin 512) (j : Fin 128) : (iblk m c 3 t : FVec Ideal S512x128 .bf16) (ix2 i j) = ovl i j := by
  rw [← ovTab_at, ← V_overlap m c]
  blk_simp [iblk]
  refine congrArg (V m c main_v87) ?_
  blk_ext [idx' t]

/-- The selection, as the reference has it. -/
def selOut (c : Dev nD) : FVec Ideal S32768x256 .bf16 :=
  Cert.Reference8Ideal.Read.val_main_v140 (F := Ideal) (m ((c : Thread nD τ).loc main_arg0)) (m ((c : Thread nD τ).loc main_arg1))

/-- The union, as the reference has it. -/
def unOut (c : Dev nD) : FVec Ideal S2048x256 .f32 :=
  Cert.Reference8Ideal.Read.val_main_v137 (F := Ideal) (m ((c : Thread nD τ).loc main_arg0)) (m ((c : Thread nD τ).loc main_arg1))

/-- What is chosen from the right scores is the reference's selection. -/
theorem picked_eq (x0 : FVec Ideal S32768x1024 .bf16) (x1 : FVec Ideal S4x512x256 .bf16) (t : ℕ) (ht : t < 256) (v6 : IVec S128x128 32) (w : FVec Ideal S128x256 .f32)
    (hv : ∀ a j : Fin 128, v6 (ix2 a j) = BitVec.ofNat 32 ((128 * (t % 64) + a.val) / 64))
    (hw : ∀ (j : Fin 128) (e : Fin 256), w (ix2 j e)
      = Cert.Reference8Ideal.Read.val_main_v118 (F := Ideal) x0 x1 (ix4 ⟨t / 64, by omega⟩ ⟨e.val / 128, by omega⟩ ⟨128 * (t % 64) + e.val % 128, by omega⟩ j))
    (a : Fin 128) (b : Fin 256) :
    chosen v6 (vrounds w 16).2 a b = Cert.Reference8Ideal.Read.val_main_v132 (F := Ideal) x0 x1 (ix2 ⟨t * 128 + a.val, by omega⟩ b) := by
  rw [ref_sel]
  unfold chosen taken
  rw [hv, (vrounds_at w 16 _ _).2]
  have hB : (⟨(t * 128 + a.val) / 8192, by omega⟩ : Fin 4) = ⟨t / 64, by omega⟩ := Fin.ext (by dsimp only; omega)
  have hT : (⟨(t * 128 + a.val) % 8192, by omega⟩ : Fin 8192) = ⟨128 * (t % 64) + a.val, by omega⟩ := Fin.ext (by dsimp only; omega)
  have hd : (t * 128 + a.val) % 8192 = 128 * (t % 64) + a.val := by omega
  have hf : (fun j => w (ix2 j ⟨b.val / 128 * 128 + a.val, by omega⟩))
      = fun j => Cert.Reference8Ideal.Read.val_main_v118 (F := Ideal) x0 x1 (ix4 ⟨t / 64, by omega⟩ ⟨b.val / 128, by omega⟩ ⟨128 * (t % 64) + a.val, by omega⟩ j) := funext fun j => by
    refine (hw j _).trans (congrArg (Cert.Reference8Ideal.Read.val_main_v118 (F := Ideal) x0 x1) (congrArg₂ (fun g T => ix4 _ g T j) (Fin.ext ?_) (Fin.ext ?_)))
    · dsimp only; omega
    · dsimp only; omega
  dsimp only
  rw [hB, hT, hd, hf]

/-- What a grid point that reads 128 keys stores of the selection and of its union. -/
theorem bothA (c : Dev nD) (t : Fin cfg0.N) (hN : t.val < 256) (h0 : t.val % 64 ≤ 15) (h1 : ¬(16 ≤ t.val % 64 ∧ t.val % 64 ≤ 31)) (h2 : ¬(32 ≤ t.val % 64 ∧ t.val % 64 ≤ 47)) (h3 : ¬48 ≤ t.val % 64) :
    (∀ (a : Fin 128) (b : Fin 256), (outsAt0 m c t.val t.isLt).2.1 (ix2 a b) = selOut m c (ix2 ⟨t.val * 128 + a.val, by omega⟩ b))
      ∧ ∀ (a : Fin 8) (b : Fin 256), (outsAt0 m c t.val t.isLt).2.2 (ix2 a b) = unOut m c (ix2 ⟨t.val * 8 + a.val, by omega⟩ b) := by
  have hw := fun (j : Fin 128) (e : Fin 256) =>
    scoresA (m ((c : Thread nD τ).loc main_arg0)) (m ((c : Thread nD τ).loc main_arg1)) t.val hN (iblk m c 0 t) (k0_pay70 (grid0.coords t))
      (View.ld (iblk m c 4 t) (Rect.unit (s := S2x512x128) ![0, 0, 0] ![1, 512, 128] inb_S2x512x128_S1x512x128_0_0_0))
      (View.ld (iblk m c 4 t) (Rect.unit (s := S2x512x128) ![1, 0, 0] ![1, 512, 128] inb_S2x512x128_S1x512x128_1_0_0))
      (fun a k => (q_read m c t hN a k).trans (congrFun (V_main_arg0 m c) _)) (own_word t)
      (fun i k => Eq.trans (congrArg (iblk m c 4 t) (at3 _ _ _ _ _ _ _ rfl (Nat.zero_add _).symm (Nat.zero_add _).symm)) (qa_read m c t 0 i k))
      (fun i k => Eq.trans (congrArg (iblk m c 4 t) (at3 _ _ _ _ _ _ _ rfl (Nat.zero_add _).symm (Nat.zero_add _).symm)) (qa_read m c t 1 i k)) (by omega)
      (View.ld (iblk m c 1 t) (Rect.unit (s := S1x512x256) ![0, 0, 0] ![1, 128, 128] inb_S1x512x256_S1x128x128_0_0_0))
      (View.ld (iblk m c 5 t) (Rect.unit (s := S512x128) ![0, 0] ![128, 128] inb_S512x128_S128x128_0_0))
      (View.ld (iblk m c 3 t) (Rect.unit (s := S512x128) ![0, 0] ![128, 128] inb_S512x128_S128x128_0_0))
      (fun k l => Eq.trans (congrArg (iblk m c 1 t) (at3 _ _ _ _ 0 _ _ rfl (Nat.zero_add _).symm (Nat.zero_add _).symm))
        ((kvc_read m c t hN ⟨k.val, by omega⟩ ⟨l.val, by omega⟩).trans (congrFun (V_main_arg1 m c) _)))
      (fun k l => Eq.trans (congrArg (iblk m c 5 t) (at2 _ _ _ _ _ (Nat.zero_add _).symm (Nat.zero_add _).symm)) (ca_read m c t ⟨k.val, by omega⟩ l))
      (fun k l => Eq.trans (congrArg (iblk m c 3 t) (at2 _ _ _ _ _ (Nat.zero_add _).symm (Nat.zero_add _).symm)) (ov_read m c t ⟨k.val, by omega⟩ l)) j e
  rw [outsAt0_A m c t h0 h1 h2 h3]
  refine ⟨fun a b => ?_, fun a b => ?_⟩
  · frame_out
    rw [word t]
    refine (selTiles_at (k0_pay70 (grid0.coords t)) _ a b).trans ?_
    exact picked_eq _ _ t.val hN _ _ (own_word t) hw a b
  · frame_out
    rw [word t]
    refine (unTiles_at (k0_pay70 (grid0.coords t)) _ a b).trans ((congrArg top (funext fun i => ?_)).trans (ref_un _ _ ⟨t.val * 8 + a.val, by omega⟩ b).symm)
    refine (picked_eq _ _ t.val hN _ _ (own_word t) hw i b).trans ?_
    exact congrArg (Cert.Reference8Ideal.Read.val_main_v132 (F := Ideal) _ _) (congrArg (ix2 · b) (Fin.ext (by dsimp only; omega)))

/-- What a grid point that reads 256 keys stores of the selection and of its union. -/
theorem bothB (c : Dev nD) (t : Fin cfg0.N) (hN : t.val < 256) (h0 : ¬t.val % 64 ≤ 15) (h1 : 16 ≤ t.val % 64 ∧ t.val % 64 ≤ 31) (h2 : ¬(32 ≤ t.val % 64 ∧ t.val % 64 ≤ 47)) (h3 : ¬48 ≤ t.val % 64) :
    (∀ (a : Fin 128) (b : Fin 256), (outsAt0 m c t.val t.isLt).2.1 (ix2 a b) = selOut m c (ix2 ⟨t.val * 128 + a.val, by omega⟩ b))
      ∧ ∀ (a : Fin 8) (b : Fin 256), (outsAt0 m c t.val t.isLt).2.2 (ix2 a b) = unOut m c (ix2 ⟨t.val * 8 + a.val, by omega⟩ b) := by
  have hw := fun (j : Fin 128) (e : Fin 256) =>
    scoresB (m ((c : Thread nD τ).loc main_arg0)) (m ((c : Thread nD τ).loc main_arg1)) t.val hN (iblk m c 0 t) (k0_pay70 (grid0.coords t))
      (View.ld (iblk m c 4 t) (Rect.unit (s := S2x512x128) ![0, 0, 0] ![1, 512, 128] inb_S2x512x128_S1x512x128_0_0_0))
      (View.ld (iblk m c 4 t) (Rect.unit (s := S2x512x128) ![1, 0, 0] ![1, 512, 128] inb_S2x512x128_S1x512x128_1_0_0))
      (fun a k => (q_read m c t hN a k).trans (congrFun (V_main_arg0 m c) _)) (own_word t)
      (fun i k => Eq.trans (congrArg (iblk m c 4 t) (at3 _ _ _ _ _ _ _ rfl (Nat.zero_add _).symm (Nat.zero_add _).symm)) (qa_read m c t 0 i k))
      (fun i k => Eq.trans (congrArg (iblk m c 4 t) (at3 _ _ _ _ _ _ _ rfl (Nat.zero_add _).symm (Nat.zero_add _).symm)) (qa_read m c t 1 i k)) (by omega)
      (View.ld (iblk m c 1 t) (Rect.unit (s := S1x512x256) ![0, 0, 0] ![1, 256, 128] inb_S1x512x256_S1x256x128_0_0_0))
      (View.ld (iblk m c 5 t) (Rect.unit (s := S512x128) ![0, 0] ![256, 128] inb_S512x128_S256x128_0_0))
      (View.ld (iblk m c 3 t) (Rect.unit (s := S512x128) ![0, 0] ![256, 128] inb_S512x128_S256x128_0_0))
      (fun k l => Eq.trans (congrArg (iblk m c 1 t) (at3 _ _ _ _ 0 _ _ rfl (Nat.zero_add _).symm (Nat.zero_add _).symm))
        ((kvc_read m c t hN ⟨k.val, by omega⟩ ⟨l.val, by omega⟩).trans (congrFun (V_main_arg1 m c) _)))
      (fun k l => Eq.trans (congrArg (iblk m c 5 t) (at2 _ _ _ _ _ (Nat.zero_add _).symm (Nat.zero_add _).symm)) (ca_read m c t ⟨k.val, by omega⟩ l))
      (fun k l => Eq.trans (congrArg (iblk m c 3 t) (at2 _ _ _ _ _ (Nat.zero_add _).symm (Nat.zero_add _).symm)) (ov_read m c t ⟨k.val, by omega⟩ l)) j e
  rw [outsAt0_B m c t h0 h1 h2 h3]
  refine ⟨fun a b => ?_, fun a b => ?_⟩
  · frame_out
    rw [word t]
    refine (selTiles_at (k0_pay70 (grid0.coords t)) _ a b).trans ?_
    exact picked_eq _ _ t.val hN _ _ (own_word t) hw a b
  · frame_out
    rw [word t]
    refine (unTiles_at (k0_pay70 (grid0.coords t)) _ a b).trans ((congrArg top (funext fun i => ?_)).trans (ref_un _ _ ⟨t.val * 8 + a.val, by omega⟩ b).symm)
    refine (picked_eq _ _ t.val hN _ _ (own_word t) hw i b).trans ?_
    exact congrArg (Cert.Reference8Ideal.Read.val_main_v132 (F := Ideal) _ _) (congrArg (ix2 · b) (Fin.ext (by dsimp only; omega)))

/-- What a grid point that reads 384 keys stores of the selection and of its union. -/
theorem bothC (c : Dev nD) (t : Fin cfg0.N) (hN : t.val < 256) (h0 : ¬t.val % 64 ≤ 15) (h1 : ¬(16 ≤ t.val % 64 ∧ t.val % 64 ≤ 31)) (h2 : 32 ≤ t.val % 64 ∧ t.val % 64 ≤ 47) (h3 : ¬48 ≤ t.val % 64) :
    (∀ (a : Fin 128) (b : Fin 256), (outsAt0 m c t.val t.isLt).2.1 (ix2 a b) = selOut m c (ix2 ⟨t.val * 128 + a.val, by omega⟩ b))
      ∧ ∀ (a : Fin 8) (b : Fin 256), (outsAt0 m c t.val t.isLt).2.2 (ix2 a b) = unOut m c (ix2 ⟨t.val * 8 + a.val, by omega⟩ b) := by
  have hw := fun (j : Fin 128) (e : Fin 256) =>
    scoresC (m ((c : Thread nD τ).loc main_arg0)) (m ((c : Thread nD τ).loc main_arg1)) t.val hN (iblk m c 0 t) (k0_pay70 (grid0.coords t))
      (View.ld (iblk m c 4 t) (Rect.unit (s := S2x512x128) ![0, 0, 0] ![1, 512, 128] inb_S2x512x128_S1x512x128_0_0_0))
      (View.ld (iblk m c 4 t) (Rect.unit (s := S2x512x128) ![1, 0, 0] ![1, 512, 128] inb_S2x512x128_S1x512x128_1_0_0))
      (fun a k => (q_read m c t hN a k).trans (congrFun (V_main_arg0 m c) _)) (own_word t)
      (fun i k => Eq.trans (congrArg (iblk m c 4 t) (at3 _ _ _ _ _ _ _ rfl (Nat.zero_add _).symm (Nat.zero_add _).symm)) (qa_read m c t 0 i k))
      (fun i k => Eq.trans (congrArg (iblk m c 4 t) (at3 _ _ _ _ _ _ _ rfl (Nat.zero_add _).symm (Nat.zero_add _).symm)) (qa_read m c t 1 i k)) (by omega)
      (View.ld (iblk m c 1 t) (Rect.unit (s := S1x512x256) ![0, 0, 0] ![1, 384, 128] inb_S1x512x256_S1x384x128_0_0_0))
      (View.ld (iblk m c 5 t) (Rect.unit (s := S512x128) ![0, 0] ![384, 128] inb_S512x128_S384x128_0_0))
      (View.ld (iblk m c 3 t) (Rect.unit (s := S512x128) ![0, 0] ![384, 128] inb_S512x128_S384x128_0_0))
      (fun k l => Eq.trans (congrArg (iblk m c 1 t) (at3 _ _ _ _ 0 _ _ rfl (Nat.zero_add _).symm (Nat.zero_add _).symm))
        ((kvc_read m c t hN ⟨k.val, by omega⟩ ⟨l.val, by omega⟩).trans (congrFun (V_main_arg1 m c) _)))
      (fun k l => Eq.trans (congrArg (iblk m c 5 t) (at2 _ _ _ _ _ (Nat.zero_add _).symm (Nat.zero_add _).symm)) (ca_read m c t ⟨k.val, by omega⟩ l))
      (fun k l => Eq.trans (congrArg (iblk m c 3 t) (at2 _ _ _ _ _ (Nat.zero_add _).symm (Nat.zero_add _).symm)) (ov_read m c t ⟨k.val, by omega⟩ l)) j e
  rw [outsAt0_C m c t h0 h1 h2 h3]
  refine ⟨fun a b => ?_, fun a b => ?_⟩
  · frame_out
    rw [word t]
    refine (selTiles_at (k0_pay70 (grid0.coords t)) _ a b).trans ?_
    exact picked_eq _ _ t.val hN _ _ (own_word t) hw a b
  · frame_out
    rw [word t]
    refine (unTiles_at (k0_pay70 (grid0.coords t)) _ a b).trans ((congrArg top (funext fun i => ?_)).trans (ref_un _ _ ⟨t.val * 8 + a.val, by omega⟩ b).symm)
    refine (picked_eq _ _ t.val hN _ _ (own_word t) hw i b).trans ?_
    exact congrArg (Cert.Reference8Ideal.Read.val_main_v132 (F := Ideal) _ _) (congrArg (ix2 · b) (Fin.ext (by dsimp only; omega)))

/-- What a grid point that reads 512 keys stores of the selection and of its union. -/
theorem bothD (c : Dev nD) (t : Fin cfg0.N) (hN : t.val < 256) (h0 : ¬t.val % 64 ≤ 15) (h1 : ¬(16 ≤ t.val % 64 ∧ t.val % 64 ≤ 31)) (h2 : ¬(32 ≤ t.val % 64 ∧ t.val % 64 ≤ 47)) (h3 : 48 ≤ t.val % 64) :
    (∀ (a : Fin 128) (b : Fin 256), (outsAt0 m c t.val t.isLt).2.1 (ix2 a b) = selOut m c (ix2 ⟨t.val * 128 + a.val, by omega⟩ b))
      ∧ ∀ (a : Fin 8) (b : Fin 256), (outsAt0 m c t.val t.isLt).2.2 (ix2 a b) = unOut m c (ix2 ⟨t.val * 8 + a.val, by omega⟩ b) := by
  have hw := fun (j : Fin 128) (e : Fin 256) =>
    scoresD (m ((c : Thread nD τ).loc main_arg0)) (m ((c : Thread nD τ).loc main_arg1)) t.val hN (iblk m c 0 t) (k0_pay70 (grid0.coords t))
      (View.ld (iblk m c 4 t) (Rect.unit (s := S2x512x128) ![0, 0, 0] ![1, 512, 128] inb_S2x512x128_S1x512x128_0_0_0))
      (View.ld (iblk m c 4 t) (Rect.unit (s := S2x512x128) ![1, 0, 0] ![1, 512, 128] inb_S2x512x128_S1x512x128_1_0_0))
      (fun a k => (q_read m c t hN a k).trans (congrFun (V_main_arg0 m c) _)) (own_word t)
      (fun i k => Eq.trans (congrArg (iblk m c 4 t) (at3 _ _ _ _ _ _ _ rfl (Nat.zero_add _).symm (Nat.zero_add _).symm)) (qa_read m c t 0 i k))
      (fun i k => Eq.trans (congrArg (iblk m c 4 t) (at3 _ _ _ _ _ _ _ rfl (Nat.zero_add _).symm (Nat.zero_add _).symm)) (qa_read m c t 1 i k)) (by omega)
      (View.ld (iblk m c 1 t) (Rect.unit (s := S1x512x256) ![0, 0, 0] ![1, 512, 128] inb_S1x512x256_S1x512x128_0_0_0))
      (iblk m c 5 t)
      (iblk m c 3 t)
      (fun k l => Eq.trans (congrArg (iblk m c 1 t) (at3 _ _ _ _ 0 _ _ rfl (Nat.zero_add _).symm (Nat.zero_add _).symm))
        ((kvc_read m c t hN ⟨k.val, by omega⟩ ⟨l.val, by omega⟩).trans (congrFun (V_main_arg1 m c) _)))
      (fun k l => ca_read m c t k l) (fun k l => ov_read m c t k l) j e
  rw [outsAt0_D m c t h0 h1 h2 h3]
  refine ⟨fun a b => ?_, fun a b => ?_⟩
  · frame_out
    rw [word t]
    refine (selTiles_at (k0_pay70 (grid0.coords t)) _ a b).trans ?_
    exact picked_eq _ _ t.val hN _ _ (own_word t) hw a b
  · frame_out
    rw [word t]
    refine (unTiles_at (k0_pay70 (grid0.coords t)) _ a b).trans ((congrArg top (funext fun i => ?_)).trans (ref_un _ _ ⟨t.val * 8 + a.val, by omega⟩ b).symm)
    refine (picked_eq _ _ t.val hN _ _ (own_word t) hw i b).trans ?_
    exact congrArg (Cert.Reference8Ideal.Read.val_main_v132 (F := Ideal) _ _) (congrArg (ix2 · b) (Fin.ext (by dsimp only; omega)))

/-- What grid point `t` stores of the selection. -/
theorem sel_point (c : Dev nD) (t : Fin cfg0.N) (hN : t.val < 256) (a : Fin 128) (b : Fin 256) :
    (outsAt0 m c t.val t.isLt).2.1 (ix2 a b) = selOut m c (ix2 ⟨t.val * 128 + a.val, by omega⟩ b) := by
  by_cases h0 : t.val % 64 ≤ 15
  · exact (bothA m c t hN h0 (by omega) (by omega) (by omega)).1 a b
  by_cases h1 : t.val % 64 ≤ 31
  · exact (bothB m c t hN h0 (by omega) (by omega) (by omega)).1 a b
  by_cases h2 : t.val % 64 ≤ 47
  · exact (bothC m c t hN h0 (by omega) (by omega) (by omega)).1 a b
  · exact (bothD m c t hN h0 (by omega) (by omega) (by omega)).1 a b

/-- What grid point `t` stores of the union. -/
theorem un_point (c : Dev nD) (t : Fin cfg0.N) (hN : t.val < 256) (a : Fin 8) (b : Fin 256) :
    (outsAt0 m c t.val t.isLt).2.2 (ix2 a b) = unOut m c (ix2 ⟨t.val * 8 + a.val, by omega⟩ b) := by
  by_cases h0 : t.val % 64 ≤ 15
  · exact (bothA m c t hN h0 (by omega) (by omega) (by omega)).2 a b
  by_cases h1 : t.val % 64 ≤ 31
  · exact (bothB m c t hN h0 (by omega) (by omega) (by omega)).2 a b
  by_cases h2 : t.val % 64 ≤ 47
  · exact (bothC m c t hN h0 (by omega) (by omega) (by omega)).2 a b
  · exact (bothD m c t hN h0 (by omega) (by omega) (by omega)).2 a b

/-- The selection the call leaves is the reference's. -/
theorem final7 (c : Dev nD) : (dats m 0 c).arrAt 7 cfg0.N = selOut m c := by
  refine (dats m 0 c).arrAt_eq_of_covers 7 _ (by decide +kernel) fun t _ y => ?_
  blk_simp
  rw [after0_7]
  idx_vars y
  have hN : t.val < 256 := lt_of_lt_of_eq t.isLt N_0
  refine (sel_point m c t hN y0 y1).trans ?_
  exact congrArg (selOut m c) (by blk_ext [idx' t])

/-- The union the call leaves is the reference's. -/
theorem final8 (c : Dev nD) : (dats m 0 c).arrAt 8 cfg0.N = unOut m c := by
  refine (dats m 0 c).arrAt_eq_of_covers 8 _ (by decide +kernel) fun t _ y => ?_
  blk_simp
  rw [after0_8]
  idx_vars y
  have hN : t.val < 256 := lt_of_lt_of_eq t.isLt N_0
  refine (un_point m c t hN y0 y1).trans ?_
  exact congrArg (unOut m c) (by blk_ext [idx' t])

end Cert.Nsa
-- ==== Proof.Nsa.Claims.lean ====
/-
  The claims about the compressed attention: the frames, the mask's named constants, and its equality with the attention and the block selection written plainly.
-/
module

public import proofs.«01_k».proof.Defs
public import proofs.«01_k».proof.Proof.Nsa.Select
public import proofs.«01_k».proof.Proof.Gen.Kernel8.Frame
public import proofs.«01_k».proof.Proof.Gen.Reference8Ideal.Run
public import proofs.«01_k».proof.Proof.Gen.Reference8Ideal
public import Idealize.ShloMosaic.Lib.Quiescent

@[expose] public section

set_option maxRecDepth 16384

noncomputable section

open Idealize.ShloMosaic Idealize.ShloMosaic.TcCoe Idealize.SL.Sem

namespace Cert.Nsa

theorem frame : Cert.quiescent_Kernel8 (hKernel8 := Cert.Kernel8.Gen.facts) := fun m ρ _ => Cert.Kernel8.Gen.frame m ρ

theorem frameIdeal : Cert.quiescent_Kernel8Ideal (hKernel8Ideal := Cert.Kernel8Ideal.Gen.facts) := fun m ρ _ => Cert.Kernel8Ideal.Gen.frame m ρ

theorem frameRef : Cert.quiescent_Reference8Ideal (hReference8Ideal := Cert.Reference8Ideal.Gen.facts) := fun m ρ _ =>
  (θ_run Cert.Reference8Ideal.defs _ _).mono (fun r h => ⟨fun c => (h c).2.2.2, Idealize.ShloMosaic.sem_eq_zero_of_no_sems (by decide) r.2⟩) (Cert.Reference8Ideal.Value.run m ρ)

/-- The mask and its half are negative infinity at the ideal values. -/
theorem preserves : Cert.preserves_Kernel8_Kernel8Ideal := ⟨IdealRules.named_const.statement _ _ _ _ _ rfl, IdealRules.named_const.statement _ _ _ _ _ rfl⟩

theorem algebraic : Cert.algebraic_Kernel8Ideal_Reference8Ideal (hKernel8Ideal := Cert.Kernel8Ideal.Gen.facts)
    (hReference8Ideal := Cert.Reference8Ideal.Gen.facts) := by
  intro m ρ m' ρ' _ hag
  refine ⟨fun c => out m c, fun c => selOut m c, fun c => unOut m c, ?_, ?_⟩
  · exact (θ_run _ _ _).mono (fun _ h c => ⟨(h c).1.trans (final6 m c), (h c).2.1.trans (final7 m c), (h c).2.2.1.trans (final8 m c), (h c).2.2.2⟩)
      (Cert.Kernel8Ideal.Value.run_blocks m ρ)
  · refine (θ_run _ _ _).mono (fun _ h c => ?_) (Cert.Reference8Ideal.Value.run (F := Ideal) m' ρ')
    obtain ⟨h0, h1, h2⟩ := hag c
    refine ⟨(h c).1.trans ?_, (h c).2.1.trans ?_, (h c).2.2.1.trans ?_, (h c).2.2.2⟩
    · rw [Cert.Reference8Ideal.Read.val_main_v139_eq]
      refine (congrArg₂ (fun x y => Cert.Reference8Ideal.Read.val_main_v139 (F := Ideal) x y _) h0 h1).trans ?_
      exact congrArg (fun z => Cert.Reference8Ideal.Read.val_main_v139 (F := Ideal) _ _ z) h2
    · rw [Cert.Reference8Ideal.Read.val_main_v140_eq]
      exact congrArg₂ (fun x y => Cert.Reference8Ideal.Read.val_main_v140 (F := Ideal) x y) h0 h1
    · rw [Cert.Reference8Ideal.Read.val_main_v137_eq]
      exact congrArg₂ (fun x y => Cert.Reference8Ideal.Read.val_main_v137 (F := Ideal) x y) h0 h1

end Cert.Nsa
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.Merge.Claims
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Moe.Claims
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Proj.Claims
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8Ideal.Value
public import proofs.«01_k».proof.Proof.Nsa.Claims
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel8.Gen.facts, Cert.Kernel8Ideal.Gen.facts, Cert.Reference8Ideal.Gen.facts,
  Cert.Merge.frame, Cert.Merge.frameIdeal, Cert.Merge.frameRef, Cert.Moe.frame, Cert.Moe.frameIdeal, Cert.Moe.frameRef, Cert.Proj.frame4, Cert.Proj.frameIdeal4, Cert.Proj.frameRef4, Cert.Proj.frame5, Cert.Proj.frameIdeal5, Cert.Proj.frameRef5, Cert.Nsa.frame, Cert.Nsa.frameIdeal, Cert.Nsa.frameRef,
  trivial, Cert.Merge.algebraic, trivial, Cert.Moe.algebraic, trivial, Cert.Proj.algebraic4, trivial, Cert.Proj.algebraic5, Cert.Nsa.preserves, Cert.Nsa.algebraic⟩

end Cert.Proof

end
